-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![1024, 512]⟩ ⟨2, ![16384, 512]⟩ 0 16 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = Layout.block ⟨2, ![1024, 1]⟩ ⟨2, ![16384, 1]⟩ 0 16 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨3, ![4, 512, 1024]⟩ ⟨3, ![64, 512, 1024]⟩ 0 16 c (m' (((0 : Dev Cert.ReferenceIdeal.nD).tc : Thread Cert.ReferenceIdeal.nD Cert.ReferenceIdeal.τ).loc Cert.ReferenceIdeal.main_arg3))) →
    ∃ (v0 : Buf (Elt Ideal) (((0 : Dev Cert.ReferenceIdeal.nD).tc : Thread Cert.ReferenceIdeal.nD Cert.ReferenceIdeal.τ).loc Cert.ReferenceIdeal.main_v29)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![1024, 1024]⟩ ⟨2, ![16384, 1024]⟩ 0 16 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v29) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1024x512 : Shape := ⟨2, ![1024, 512]⟩
abbrev S512x64 : Shape := ⟨2, ![512, 64]⟩
abbrev S1024x1 : Shape := ⟨2, ![1024, 1]⟩
abbrev S4x512x1024 : Shape := ⟨3, ![4, 512, 1024]⟩
abbrev S1024x1024 : Shape := ⟨2, ![1024, 1024]⟩
abbrev S2x4x512x1024 : Shape := ⟨4, ![2, 4, 512, 1024]⟩
abbrev S8x128 : Shape := ⟨2, ![8, 128]⟩
abbrev S16x8x128 : Shape := ⟨3, ![16, 8, 128]⟩
abbrev S8 : Shape := ⟨1, ![8]⟩
abbrev S16 : Shape := ⟨1, ![16]⟩
abbrev S_ : Shape := ⟨0, ![]⟩
abbrev S1024x128 : Shape := ⟨2, ![1024, 128]⟩
abbrev S128 : Shape := ⟨1, ![128]⟩
abbrev S1x128 : Shape := ⟨2, ![1, 128]⟩
abbrev S1 : Shape := ⟨1, ![1]⟩
abbrev S1x8x128 : Shape := ⟨3, ![1, 8, 128]⟩
abbrev S1024 : Shape := ⟨1, ![1024]⟩
abbrev S1x4x512x1024 : Shape := ⟨4, ![1, 4, 512, 1024]⟩
abbrev S1x1x512x1024 : Shape := ⟨4, ![1, 1, 512, 1024]⟩
abbrev S512x1024 : Shape := ⟨2, ![512, 1024]⟩
abbrev S1x2x512x1024 : Shape := ⟨4, ![1, 2, 512, 1024]⟩
abbrev S2x512x1024 : Shape := ⟨3, ![2, 512, 1024]⟩
abbrev S1x1x128 : Shape := ⟨3, ![1, 1, 128]⟩

abbrev nBuf : Space → Nat
  | .hbm => 5
  | .vmem => 8
  | .smem => 0
  | _ => 0

abbrev bufTy : (tb : Table) → Fin (tcTables nBuf tb) → BufTy
  | .hbm, ⟨0, _⟩ => ⟨S1024x512, .bf16⟩
  | .hbm, ⟨1, _⟩ => ⟨S512x64, .bf16⟩
  | .hbm, ⟨2, _⟩ => ⟨S1024x1, .i32⟩
  | .hbm, ⟨3, _⟩ => ⟨S4x512x1024, .bf16⟩
  | .hbm, ⟨4, _⟩ => ⟨S1024x1024, .f32⟩
  | .local _ .vmem, ⟨0, _⟩ => ⟨S1024x512, .bf16⟩
  | .local _ .vmem, ⟨1, _⟩ => ⟨S1024x1, .i32⟩
  | .local _ .vmem, ⟨2, _⟩ => ⟨S4x512x1024, .bf16⟩
  | .local _ .vmem, ⟨3, _⟩ => ⟨S1024x1024, .f32⟩
  | .local _ .vmem, ⟨4, _⟩ => ⟨S2x4x512x1024, .bf16⟩
  | .local _ .vmem, ⟨5, _⟩ => ⟨S2x4x512x1024, .bf16⟩
  | .local _ .vmem, ⟨6, _⟩ => ⟨S8x128, .i32⟩
  | .local _ .vmem, ⟨7, _⟩ => ⟨S16x8x128, .i32⟩
  | _, _ => ⟨S1024x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 3 → Bool
  | ⟨0, _⟩ => true
  | ⟨1, _⟩ => true
  | ⟨2, _⟩ => false
  | _ => false

abbrev dmaSemScoped : Fin 68 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | _ => false

abbrev sig : RefSig :=
  (ofTc nBuf bufTy 3 68 bufScoped semScoped dmaSemScoped tileCredit tileCredit_eq_zero tileCredit_pos).withBarriers [(0, 2)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_scratch3 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 2

abbrev nD : Nat := 16
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_5 : BitVec 32 := 1#32
  let v9 : BitVec 32 := Scalar.addi v2 c1_i32_5
  let c16_i32_6 : BitVec 32 := 16#32
  let v10 : BitVec 32 := Scalar.remsi v9 c16_i32_6
  let c1_i32_8 : BitVec 32 := 1#32
  let v11 : BitVec 32 := Scalar.muli v10 c1_i32_8
  let v12 : BitVec 32 := Scalar.addi c0_i32 v11
  v12.toNat
def k0_dev2 (d0 : Dev nD) : Nat :=
  let c0_i32_12 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32 : BitVec 32 := 2#32
  let v13 : BitVec 32 := Scalar.addi v2 c2_i32
  let c16_i32_9 : BitVec 32 := 16#32
  let v14 : BitVec 32 := Scalar.remsi v13 c16_i32_9
  let c1_i32_11 : BitVec 32 := 1#32
  let v15 : BitVec 32 := Scalar.muli v14 c1_i32_11
  let v16 : BitVec 32 := Scalar.addi c0_i32_12 v15
  v16.toNat
def k0_dev3 (d0 : Dev nD) : Nat :=
  let c0_i32_16 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32 : BitVec 32 := 3#32
  let v17 : BitVec 32 := Scalar.addi v2 c3_i32
  let c16_i32_13 : BitVec 32 := 16#32
  let v18 : BitVec 32 := Scalar.remsi v17 c16_i32_13
  let c1_i32_15 : BitVec 32 := 1#32
  let v19 : BitVec 32 := Scalar.muli v18 c1_i32_15
  let v20 : BitVec 32 := Scalar.addi c0_i32_16 v19
  v20.toNat
def k0_dev4 (d0 : Dev nD) : Nat :=
  let c0_i32_20 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v21 : BitVec 32 := Scalar.addi v2 c4_i32
  let c16_i32_17 : BitVec 32 := 16#32
  let v22 : BitVec 32 := Scalar.remsi v21 c16_i32_17
  let c1_i32_19 : BitVec 32 := 1#32
  let v23 : BitVec 32 := Scalar.muli v22 c1_i32_19
  let v24 : BitVec 32 := Scalar.addi c0_i32_20 v23
  v24.toNat
def k0_dev5 (d0 : Dev nD) : Nat :=
  let c0_i32_24 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32 : BitVec 32 := 5#32
  let v25 : BitVec 32 := Scalar.addi v2 c5_i32
  let c16_i32_21 : BitVec 32 := 16#32
  let v26 : BitVec 32 := Scalar.remsi v25 c16_i32_21
  let c1_i32_23 : BitVec 32 := 1#32
  let v27 : BitVec 32 := Scalar.muli v26 c1_i32_23
  let v28 : BitVec 32 := Scalar.addi c0_i32_24 v27
  v28.toNat
def k0_dev6 (d0 : Dev nD) : Nat :=
  let c0_i32_28 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32 : BitVec 32 := 6#32
  let v29 : BitVec 32 := Scalar.addi v2 c6_i32
  let c16_i32_25 : BitVec 32 := 16#32
  let v30 : BitVec 32 := Scalar.remsi v29 c16_i32_25
  let c1_i32_27 : BitVec 32 := 1#32
  let v31 : BitVec 32 := Scalar.muli v30 c1_i32_27
  let v32 : BitVec 32 := Scalar.addi c0_i32_28 v31
  v32.toNat
def k0_dev7 (d0 : Dev nD) : Nat :=
  let c0_i32_32 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32 : BitVec 32 := 7#32
  let v33 : BitVec 32 := Scalar.addi v2 c7_i32
  let c16_i32_29 : BitVec 32 := 16#32
  let v34 : BitVec 32 := Scalar.remsi v33 c16_i32_29
  let c1_i32_31 : BitVec 32 := 1#32
  let v35 : BitVec 32 := Scalar.muli v34 c1_i32_31
  let v36 : BitVec 32 := Scalar.addi c0_i32_32 v35
  v36.toNat
def k0_dev8 (d0 : Dev nD) : Nat :=
  let c0_i32_36 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v37 : BitVec 32 := Scalar.addi v2 c8_i32
  let c16_i32_33 : BitVec 32 := 16#32
  let v38 : BitVec 32 := Scalar.remsi v37 c16_i32_33
  let c1_i32_35 : BitVec 32 := 1#32
  let v39 : BitVec 32 := Scalar.muli v38 c1_i32_35
  let v40 : BitVec 32 := Scalar.addi c0_i32_36 v39
  v40.toNat
def k0_dev9 (d0 : Dev nD) : Nat :=
  let c0_i32_40 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32 : BitVec 32 := 9#32
  let v41 : BitVec 32 := Scalar.addi v2 c9_i32
  let c16_i32_37 : BitVec 32 := 16#32
  let v42 : BitVec 32 := Scalar.remsi v41 c16_i32_37
  let c1_i32_39 : BitVec 32 := 1#32
  let v43 : BitVec 32 := Scalar.muli v42 c1_i32_39
  let v44 : BitVec 32 := Scalar.addi c0_i32_40 v43
  v44.toNat
def k0_dev10 (d0 : Dev nD) : Nat :=
  let c0_i32_44 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32 : BitVec 32 := 10#32
  let v45 : BitVec 32 := Scalar.addi v2 c10_i32
  let c16_i32_41 : BitVec 32 := 16#32
  let v46 : BitVec 32 := Scalar.remsi v45 c16_i32_41
  let c1_i32_43 : BitVec 32 := 1#32
  let v47 : BitVec 32 := Scalar.muli v46 c1_i32_43
  let v48 : BitVec 32 := Scalar.addi c0_i32_44 v47
  v48.toNat
def k0_dev11 (d0 : Dev nD) : Nat :=
  let c0_i32_48 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32 : BitVec 32 := 11#32
  let v49 : BitVec 32 := Scalar.addi v2 c11_i32
  let c16_i32_45 : BitVec 32 := 16#32
  let v50 : BitVec 32 := Scalar.remsi v49 c16_i32_45
  let c1_i32_47 : BitVec 32 := 1#32
  let v51 : BitVec 32 := Scalar.muli v50 c1_i32_47
  let v52 : BitVec 32 := Scalar.addi c0_i32_48 v51
  v52.toNat
def k0_dev12 (d0 : Dev nD) : Nat :=
  let c0_i32_52 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32 : BitVec 32 := 12#32
  let v53 : BitVec 32 := Scalar.addi v2 c12_i32
  let c16_i32_49 : BitVec 32 := 16#32
  let v54 : BitVec 32 := Scalar.remsi v53 c16_i32_49
  let c1_i32_51 : BitVec 32 := 1#32
  let v55 : BitVec 32 := Scalar.muli v54 c1_i32_51
  let v56 : BitVec 32 := Scalar.addi c0_i32_52 v55
  v56.toNat
def k0_dev13 (d0 : Dev nD) : Nat :=
  let c0_i32_56 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32 : BitVec 32 := 13#32
  let v57 : BitVec 32 := Scalar.addi v2 c13_i32
  let c16_i32_53 : BitVec 32 := 16#32
  let v58 : BitVec 32 := Scalar.remsi v57 c16_i32_53
  let c1_i32_55 : BitVec 32 := 1#32
  let v59 : BitVec 32 := Scalar.muli v58 c1_i32_55
  let v60 : BitVec 32 := Scalar.addi c0_i32_56 v59
  v60.toNat
def k0_dev14 (d0 : Dev nD) : Nat :=
  let c0_i32_60 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32 : BitVec 32 := 14#32
  let v61 : BitVec 32 := Scalar.addi v2 c14_i32
  let c16_i32_57 : BitVec 32 := 16#32
  let v62 : BitVec 32 := Scalar.remsi v61 c16_i32_57
  let c1_i32_59 : BitVec 32 := 1#32
  let v63 : BitVec 32 := Scalar.muli v62 c1_i32_59
  let v64 : BitVec 32 := Scalar.addi c0_i32_60 v63
  v64.toNat
def k0_dev15 (d0 : Dev nD) : Nat :=
  let c0_i32_64 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32 : BitVec 32 := 15#32
  let v65 : BitVec 32 := Scalar.addi v2 c15_i32
  let c16_i32_61 : BitVec 32 := 16#32
  let v66 : BitVec 32 := Scalar.remsi v65 c16_i32_61
  let c1_i32_63 : BitVec 32 := 1#32
  let v67 : BitVec 32 := Scalar.muli v66 c1_i32_63
  let v68 : BitVec 32 := Scalar.addi c0_i32_64 v67
  v68.toNat
def k0_dev16 (d0 : Dev nD) : Nat :=
  let c0_i32_77 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_71 : BitVec 32 := 1#32
  let v84 : BitVec 32 := Scalar.addi v2 c1_i32_71
  let c16_i32_72 : BitVec 32 := 16#32
  let v85 : BitVec 32 := Scalar.remsi v84 c16_i32_72
  let c1_i32_76 : BitVec 32 := 1#32
  let v86 : BitVec 32 := Scalar.muli v85 c1_i32_76
  let v87 : BitVec 32 := Scalar.addi c0_i32_77 v86
  v87.toNat
def k0_dev17 (d0 : Dev nD) : Nat :=
  let c0_i32_86 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_80 : BitVec 32 := 2#32
  let v94 : BitVec 32 := Scalar.addi v2 c2_i32_80
  let c16_i32_81 : BitVec 32 := 16#32
  let v95 : BitVec 32 := Scalar.remsi v94 c16_i32_81
  let c1_i32_85 : BitVec 32 := 1#32
  let v96 : BitVec 32 := Scalar.muli v95 c1_i32_85
  let v97 : BitVec 32 := Scalar.addi c0_i32_86 v96
  v97.toNat
def k0_dev18 (d0 : Dev nD) : Nat :=
  let c0_i32_95 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_89 : BitVec 32 := 3#32
  let v104 : BitVec 32 := Scalar.addi v2 c3_i32_89
  let c16_i32_90 : BitVec 32 := 16#32
  let v105 : BitVec 32 := Scalar.remsi v104 c16_i32_90
  let c1_i32_94 : BitVec 32 := 1#32
  let v106 : BitVec 32 := Scalar.muli v105 c1_i32_94
  let v107 : BitVec 32 := Scalar.addi c0_i32_95 v106
  v107.toNat
def k0_dev19 (d0 : Dev nD) : Nat :=
  let c0_i32_104 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_98 : BitVec 32 := 4#32
  let v114 : BitVec 32 := Scalar.addi v2 c4_i32_98
  let c16_i32_99 : BitVec 32 := 16#32
  let v115 : BitVec 32 := Scalar.remsi v114 c16_i32_99
  let c1_i32_103 : BitVec 32 := 1#32
  let v116 : BitVec 32 := Scalar.muli v115 c1_i32_103
  let v117 : BitVec 32 := Scalar.addi c0_i32_104 v116
  v117.toNat
def k0_dev20 (d0 : Dev nD) : Nat :=
  let c0_i32_113 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_107 : BitVec 32 := 5#32
  let v124 : BitVec 32 := Scalar.addi v2 c5_i32_107
  let c16_i32_108 : BitVec 32 := 16#32
  let v125 : BitVec 32 := Scalar.remsi v124 c16_i32_108
  let c1_i32_112 : BitVec 32 := 1#32
  let v126 : BitVec 32 := Scalar.muli v125 c1_i32_112
  let v127 : BitVec 32 := Scalar.addi c0_i32_113 v126
  v127.toNat
def k0_dev21 (d0 : Dev nD) : Nat :=
  let c0_i32_122 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_116 : BitVec 32 := 6#32
  let v134 : BitVec 32 := Scalar.addi v2 c6_i32_116
  let c16_i32_117 : BitVec 32 := 16#32
  let v135 : BitVec 32 := Scalar.remsi v134 c16_i32_117
  let c1_i32_121 : BitVec 32 := 1#32
  let v136 : BitVec 32 := Scalar.muli v135 c1_i32_121
  let v137 : BitVec 32 := Scalar.addi c0_i32_122 v136
  v137.toNat
def k0_dev22 (d0 : Dev nD) : Nat :=
  let c0_i32_131 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_125 : BitVec 32 := 7#32
  let v144 : BitVec 32 := Scalar.addi v2 c7_i32_125
  let c16_i32_126 : BitVec 32 := 16#32
  let v145 : BitVec 32 := Scalar.remsi v144 c16_i32_126
  let c1_i32_130 : BitVec 32 := 1#32
  let v146 : BitVec 32 := Scalar.muli v145 c1_i32_130
  let v147 : BitVec 32 := Scalar.addi c0_i32_131 v146
  v147.toNat
def k0_dev23 (d0 : Dev nD) : Nat :=
  let c0_i32_140 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_134 : BitVec 32 := 8#32
  let v154 : BitVec 32 := Scalar.addi v2 c8_i32_134
  let c16_i32_135 : BitVec 32 := 16#32
  let v155 : BitVec 32 := Scalar.remsi v154 c16_i32_135
  let c1_i32_139 : BitVec 32 := 1#32
  let v156 : BitVec 32 := Scalar.muli v155 c1_i32_139
  let v157 : BitVec 32 := Scalar.addi c0_i32_140 v156
  v157.toNat
def k0_dev24 (d0 : Dev nD) : Nat :=
  let c0_i32_149 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_143 : BitVec 32 := 9#32
  let v164 : BitVec 32 := Scalar.addi v2 c9_i32_143
  let c16_i32_144 : BitVec 32 := 16#32
  let v165 : BitVec 32 := Scalar.remsi v164 c16_i32_144
  let c1_i32_148 : BitVec 32 := 1#32
  let v166 : BitVec 32 := Scalar.muli v165 c1_i32_148
  let v167 : BitVec 32 := Scalar.addi c0_i32_149 v166
  v167.toNat
def k0_dev25 (d0 : Dev nD) : Nat :=
  let c0_i32_158 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_152 : BitVec 32 := 10#32
  let v174 : BitVec 32 := Scalar.addi v2 c10_i32_152
  let c16_i32_153 : BitVec 32 := 16#32
  let v175 : BitVec 32 := Scalar.remsi v174 c16_i32_153
  let c1_i32_157 : BitVec 32 := 1#32
  let v176 : BitVec 32 := Scalar.muli v175 c1_i32_157
  let v177 : BitVec 32 := Scalar.addi c0_i32_158 v176
  v177.toNat
def k0_dev26 (d0 : Dev nD) : Nat :=
  let c0_i32_167 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_161 : BitVec 32 := 11#32
  let v184 : BitVec 32 := Scalar.addi v2 c11_i32_161
  let c16_i32_162 : BitVec 32 := 16#32
  let v185 : BitVec 32 := Scalar.remsi v184 c16_i32_162
  let c1_i32_166 : BitVec 32 := 1#32
  let v186 : BitVec 32 := Scalar.muli v185 c1_i32_166
  let v187 : BitVec 32 := Scalar.addi c0_i32_167 v186
  v187.toNat
def k0_dev27 (d0 : Dev nD) : Nat :=
  let c0_i32_176 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_170 : BitVec 32 := 12#32
  let v194 : BitVec 32 := Scalar.addi v2 c12_i32_170
  let c16_i32_171 : BitVec 32 := 16#32
  let v195 : BitVec 32 := Scalar.remsi v194 c16_i32_171
  let c1_i32_175 : BitVec 32 := 1#32
  let v196 : BitVec 32 := Scalar.muli v195 c1_i32_175
  let v197 : BitVec 32 := Scalar.addi c0_i32_176 v196
  v197.toNat
def k0_dev28 (d0 : Dev nD) : Nat :=
  let c0_i32_185 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_179 : BitVec 32 := 13#32
  let v204 : BitVec 32 := Scalar.addi v2 c13_i32_179
  let c16_i32_180 : BitVec 32 := 16#32
  let v205 : BitVec 32 := Scalar.remsi v204 c16_i32_180
  let c1_i32_184 : BitVec 32 := 1#32
  let v206 : BitVec 32 := Scalar.muli v205 c1_i32_184
  let v207 : BitVec 32 := Scalar.addi c0_i32_185 v206
  v207.toNat
def k0_dev29 (d0 : Dev nD) : Nat :=
  let c0_i32_194 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_188 : BitVec 32 := 14#32
  let v214 : BitVec 32 := Scalar.addi v2 c14_i32_188
  let c16_i32_189 : BitVec 32 := 16#32
  let v215 : BitVec 32 := Scalar.remsi v214 c16_i32_189
  let c1_i32_193 : BitVec 32 := 1#32
  let v216 : BitVec 32 := Scalar.muli v215 c1_i32_193
  let v217 : BitVec 32 := Scalar.addi c0_i32_194 v216
  v217.toNat
def k0_dev30 (d0 : Dev nD) : Nat :=
  let c0_i32_203 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_197 : BitVec 32 := 15#32
  let v224 : BitVec 32 := Scalar.addi v2 c15_i32_197
  let c16_i32_198 : BitVec 32 := 16#32
  let v225 : BitVec 32 := Scalar.remsi v224 c16_i32_198
  let c1_i32_202 : BitVec 32 := 1#32
  let v226 : BitVec 32 := Scalar.muli v225 c1_i32_202
  let v227 : BitVec 32 := Scalar.addi c0_i32_203 v226
  v227.toNat
def k0_dev31 (d0 : Dev nD) : Nat :=
  let c0_i32_228 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_227 : BitVec 32 := 1#32
  let v257 : BitVec 32 := Scalar.muli v7 c1_i32_227
  let v258 : BitVec 32 := Scalar.addi c0_i32_228 v257
  v258.toNat
def k0_dev32 (d0 : Dev nD) : Nat :=
  let c0_i32_240 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_239 : BitVec 32 := 1#32
  let v267 : BitVec 32 := Scalar.muli v5 c1_i32_239
  let v268 : BitVec 32 := Scalar.addi c0_i32_240 v267
  v268.toNat
def k0_dev33 (d0 : Dev nD) : Nat :=
  let c0_i32_305 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_304 : BitVec 32 := 1#32
  let v343 : BitVec 32 := Scalar.muli v5 c1_i32_304
  let v344 : BitVec 32 := Scalar.addi c0_i32_305 v343
  v344.toNat
def k0_dev34 (d0 : Dev nD) : Nat :=
  let c0_i32_331 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_330 : BitVec 32 := 1#32
  let v359 : BitVec 32 := Scalar.muli v7 c1_i32_330
  let v360 : BitVec 32 := Scalar.addi c0_i32_331 v359
  v360.toNat
def k0_dev35 (d0 : Dev nD) : Nat :=
  let c0_i32_351 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_350 : BitVec 32 := 1#32
  let v369 : BitVec 32 := Scalar.muli v7 c1_i32_350
  let v370 : BitVec 32 := Scalar.addi c0_i32_351 v369
  v370.toNat
def k0_dev36 (d0 : Dev nD) : Nat :=
  let c0_i32_365 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_364 : BitVec 32 := 1#32
  let v379 : BitVec 32 := Scalar.muli v5 c1_i32_364
  let v380 : BitVec 32 := Scalar.addi c0_i32_365 v379
  v380.toNat
def k0_dev37 (d0 : Dev nD) : Nat :=
  let c0_i32_488 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_487 : BitVec 32 := 1#32
  let v522 : BitVec 32 := Scalar.muli v5 c1_i32_487
  let v523 : BitVec 32 := Scalar.addi c0_i32_488 v522
  v523.toNat
def k0_dev38 (d0 : Dev nD) : Nat :=
  let c0_i32_514 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_513 : BitVec 32 := 1#32
  let v538 : BitVec 32 := Scalar.muli v7 c1_i32_513
  let v539 : BitVec 32 := Scalar.addi c0_i32_514 v538
  v539.toNat
def k0_dev39 (d0 : Dev nD) : Nat :=
  let c0_i32_534 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_533 : BitVec 32 := 1#32
  let v548 : BitVec 32 := Scalar.muli v7 c1_i32_533
  let v549 : BitVec 32 := Scalar.addi c0_i32_534 v548
  v549.toNat
def k0_dev40 (d0 : Dev nD) : Nat :=
  let c0_i32_548 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_547 : BitVec 32 := 1#32
  let v558 : BitVec 32 := Scalar.muli v5 c1_i32_547
  let v559 : BitVec 32 := Scalar.addi c0_i32_548 v558
  v559.toNat
def k0_dev41 (d0 : Dev nD) : Nat :=
  let c0_i32_671 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_670 : BitVec 32 := 1#32
  let v701 : BitVec 32 := Scalar.muli v5 c1_i32_670
  let v702 : BitVec 32 := Scalar.addi c0_i32_671 v701
  v702.toNat
def k0_dev42 (d0 : Dev nD) : Nat :=
  let c0_i32_697 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_696 : BitVec 32 := 1#32
  let v717 : BitVec 32 := Scalar.muli v7 c1_i32_696
  let v718 : BitVec 32 := Scalar.addi c0_i32_697 v717
  v718.toNat
def k0_dev43 (d0 : Dev nD) : Nat :=
  let c0_i32_717 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_716 : BitVec 32 := 1#32
  let v727 : BitVec 32 := Scalar.muli v7 c1_i32_716
  let v728 : BitVec 32 := Scalar.addi c0_i32_717 v727
  v728.toNat
def k0_dev44 (d0 : Dev nD) : Nat :=
  let c0_i32_731 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_730 : BitVec 32 := 1#32
  let v737 : BitVec 32 := Scalar.muli v5 c1_i32_730
  let v738 : BitVec 32 := Scalar.addi c0_i32_731 v737
  v738.toNat
def k0_dev45 (d0 : Dev nD) : Nat :=
  let c0_i32_854 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_853 : BitVec 32 := 1#32
  let v880 : BitVec 32 := Scalar.muli v5 c1_i32_853
  let v881 : BitVec 32 := Scalar.addi c0_i32_854 v880
  v881.toNat
def k0_dev46 (d0 : Dev nD) : Nat :=
  let c0_i32_880 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_879 : BitVec 32 := 1#32
  let v896 : BitVec 32 := Scalar.muli v7 c1_i32_879
  let v897 : BitVec 32 := Scalar.addi c0_i32_880 v896
  v897.toNat
def k0_dev47 (d0 : Dev nD) : Nat :=
  let c0_i32_900 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_899 : BitVec 32 := 1#32
  let v906 : BitVec 32 := Scalar.muli v7 c1_i32_899
  let v907 : BitVec 32 := Scalar.addi c0_i32_900 v906
  v907.toNat
def k0_dev48 (d0 : Dev nD) : Nat :=
  let c0_i32_914 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_913 : BitVec 32 := 1#32
  let v916 : BitVec 32 := Scalar.muli v5 c1_i32_913
  let v917 : BitVec 32 := Scalar.addi c0_i32_914 v916
  v917.toNat
def k0_dev49 (d0 : Dev nD) : Nat :=
  let c0_i32_1037 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1036 : BitVec 32 := 1#32
  let v1059 : BitVec 32 := Scalar.muli v5 c1_i32_1036
  let v1060 : BitVec 32 := Scalar.addi c0_i32_1037 v1059
  v1060.toNat
def k0_dev50 (d0 : Dev nD) : Nat :=
  let c0_i32_1063 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1062 : BitVec 32 := 1#32
  let v1075 : BitVec 32 := Scalar.muli v7 c1_i32_1062
  let v1076 : BitVec 32 := Scalar.addi c0_i32_1063 v1075
  v1076.toNat
def k0_dev51 (d0 : Dev nD) : Nat :=
  let c0_i32_1083 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1082 : BitVec 32 := 1#32
  let v1085 : BitVec 32 := Scalar.muli v7 c1_i32_1082
  let v1086 : BitVec 32 := Scalar.addi c0_i32_1083 v1085
  v1086.toNat
def k0_dev52 (d0 : Dev nD) : Nat :=
  let c0_i32_1097 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1096 : BitVec 32 := 1#32
  let v1095 : BitVec 32 := Scalar.muli v5 c1_i32_1096
  let v1096 : BitVec 32 := Scalar.addi c0_i32_1097 v1095
  v1096.toNat
def k0_dev53 (d0 : Dev nD) : Nat :=
  let c0_i32_1220 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1219 : BitVec 32 := 1#32
  let v1238 : BitVec 32 := Scalar.muli v5 c1_i32_1219
  let v1239 : BitVec 32 := Scalar.addi c0_i32_1220 v1238
  v1239.toNat
def k0_dev54 (d0 : Dev nD) : Nat :=
  let c0_i32_1246 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1245 : BitVec 32 := 1#32
  let v1254 : BitVec 32 := Scalar.muli v7 c1_i32_1245
  let v1255 : BitVec 32 := Scalar.addi c0_i32_1246 v1254
  v1255.toNat
def k0_dev55 (d0 : Dev nD) : Nat :=
  let c0_i32_1266 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1265 : BitVec 32 := 1#32
  let v1264 : BitVec 32 := Scalar.muli v7 c1_i32_1265
  let v1265 : BitVec 32 := Scalar.addi c0_i32_1266 v1264
  v1265.toNat
def k0_dev56 (d0 : Dev nD) : Nat :=
  let c0_i32_1280 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1279 : BitVec 32 := 1#32
  let v1274 : BitVec 32 := Scalar.muli v5 c1_i32_1279
  let v1275 : BitVec 32 := Scalar.addi c0_i32_1280 v1274
  v1275.toNat
def k0_dev57 (d0 : Dev nD) : Nat :=
  let c0_i32_1403 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1402 : BitVec 32 := 1#32
  let v1417 : BitVec 32 := Scalar.muli v5 c1_i32_1402
  let v1418 : BitVec 32 := Scalar.addi c0_i32_1403 v1417
  v1418.toNat
def k0_dev58 (d0 : Dev nD) : Nat :=
  let c0_i32_1429 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1428 : BitVec 32 := 1#32
  let v1433 : BitVec 32 := Scalar.muli v7 c1_i32_1428
  let v1434 : BitVec 32 := Scalar.addi c0_i32_1429 v1433
  v1434.toNat
def k0_dev59 (d0 : Dev nD) : Nat :=
  let c0_i32_1449 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1448 : BitVec 32 := 1#32
  let v1443 : BitVec 32 := Scalar.muli v7 c1_i32_1448
  let v1444 : BitVec 32 := Scalar.addi c0_i32_1449 v1443
  v1444.toNat
def k0_dev60 (d0 : Dev nD) : Nat :=
  let c0_i32_1463 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1462 : BitVec 32 := 1#32
  let v1453 : BitVec 32 := Scalar.muli v5 c1_i32_1462
  let v1454 : BitVec 32 := Scalar.addi c0_i32_1463 v1453
  v1454.toNat
abbrev stage0_0 : Fin 1 → Memref sig .tc .vmem S1024x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x1 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4x512x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1024x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S16384x512 : Shape := ⟨2, ![16384, 512]⟩
abbrev S512x64 : Shape := ⟨2, ![512, 64]⟩
abbrev S16384x1 : Shape := ⟨2, ![16384, 1]⟩
abbrev S64x512x1024 : Shape := ⟨3, ![64, 512, 1024]⟩
abbrev S16384 : Shape := ⟨1, ![16384]⟩
abbrev S1x16384 : Shape := ⟨2, ![1, 16384]⟩
abbrev S16384x16384 : Shape := ⟨2, ![16384, 16384]⟩
abbrev S_ : Shape := ⟨0, ![]⟩
abbrev S64 : Shape := ⟨1, ![64]⟩
abbrev S1x64 : Shape := ⟨2, ![1, 64]⟩
abbrev S16384x64 : Shape := ⟨2, ![16384, 64]⟩
abbrev S16384x64x1024 : Shape := ⟨3, ![16384, 64, 1024]⟩
abbrev S16384x64x1 : Shape := ⟨3, ![16384, 64, 1]⟩
abbrev S16384x1024 : Shape := ⟨2, ![16384, 1024]⟩

abbrev nBuf : Space → Nat
  | .hbm => 41
  | .vmem => 0
  | .smem => 0
  | _ => 0

abbrev bufTy : (tb : Table) → Fin (tcTables nBuf tb) → BufTy
  | .hbm, ⟨0, _⟩ => ⟨S16384x512, .bf16⟩
  | .hbm, ⟨1, _⟩ => ⟨S512x64, .bf16⟩
  | .hbm, ⟨2, _⟩ => ⟨S16384x1, .i32⟩
  | .hbm, ⟨3, _⟩ => ⟨S64x512x1024, .bf16⟩
  | .hbm, ⟨4, _⟩ => ⟨S16384, .i32⟩
  | .hbm, ⟨5, _⟩ => ⟨S1x16384, .i32⟩
  | .hbm, ⟨6, _⟩ => ⟨S16384x1, .i32⟩
  | .hbm, ⟨7, _⟩ => ⟨S16384x16384, .i32⟩
  | .hbm, ⟨8, _⟩ => ⟨S16384x16384, .i32⟩
  | .hbm, ⟨9, _⟩ => ⟨S16384x16384, .i1⟩
  | .hbm, ⟨10, _⟩ => ⟨S16384, .i32⟩
  | .hbm, ⟨11, _⟩ => ⟨S1x16384, .i32⟩
  | .hbm, ⟨12, _⟩ => ⟨S16384x16384, .i32⟩
  | .hbm, ⟨13, _⟩ => ⟨S16384x16384, .i32⟩
  | .hbm, ⟨14, _⟩ => ⟨S16384x16384, .i1⟩
  | .hbm, ⟨15, _⟩ => ⟨S16384x16384, .i1⟩
  | .hbm, ⟨16, _⟩ => ⟨S16384x16384, .i32⟩
  | .hbm, ⟨17, _⟩ => ⟨S_, .i32⟩
  | .hbm, ⟨18, _⟩ => ⟨S16384, .i32⟩
  | .hbm, ⟨19, _⟩ => ⟨S64, .i32⟩
  | .hbm, ⟨20, _⟩ => ⟨S1x64, .i32⟩
  | .hbm, ⟨21, _⟩ => ⟨S16384x64, .i32⟩
  | .hbm, ⟨22, _⟩ => ⟨S16384x64, .i32⟩
  | .hbm, ⟨23, _⟩ => ⟨S16384x64, .i1⟩
  | .hbm, ⟨24, _⟩ => ⟨S_, .i32⟩
  | .hbm, ⟨25, _⟩ => ⟨S16384, .i32⟩
  | .hbm, ⟨26, _⟩ => ⟨S16384, .i1⟩
  | .hbm, ⟨27, _⟩ => ⟨S16384x1, .i1⟩
  | .hbm, ⟨28, _⟩ => ⟨S16384x64, .i1⟩
  | .hbm, ⟨29, _⟩ => ⟨S16384x64, .i1⟩
  | .hbm, ⟨30, _⟩ => ⟨S16384x512, .f32⟩
  | .hbm, ⟨31, _⟩ => ⟨S64x512x1024, .f32⟩
  | .hbm, ⟨32, _⟩ => ⟨S16384x64x1024, .f32⟩
  | .hbm, ⟨33, _⟩ => ⟨S16384x64x1, .i1⟩
  | .hbm, ⟨34, _⟩ => ⟨S_, .f32⟩
  | .hbm, ⟨35, _⟩ => ⟨S_, .f32⟩
  | .hbm, ⟨36, _⟩ => ⟨S16384x64x1024, .i1⟩
  | .hbm, ⟨37, _⟩ => ⟨S16384x64x1024, .f32⟩
  | .hbm, ⟨38, _⟩ => ⟨S16384x64x1024, .f32⟩
  | .hbm, ⟨39, _⟩ => ⟨S_, .f32⟩
  | .hbm, ⟨40, _⟩ => ⟨S16384x1024, .f32⟩
  | _, _ => ⟨S16384x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_c : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_c_0 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_cst : Ref sig .tc := ⟨.hbm, 34, rfl⟩
abbrev main_call0_v0 : Ref sig .tc := ⟨.hbm, 35, rfl⟩
abbrev main_call0_v1 : Ref sig .tc := ⟨.hbm, 36, rfl⟩
abbrev main_call0_v2 : Ref sig .tc := ⟨.hbm, 37, rfl⟩
abbrev main_v28 : Ref sig .tc := ⟨.hbm, 38, rfl⟩
abbrev main_cst_1 : Ref sig .tc := ⟨.hbm, 39, rfl⟩
abbrev main_v29 : Ref sig .tc := ⟨.hbm, 40, rfl⟩

abbrev nD : Nat := 1
abbrev τ : Topo := Topo.v7x

variable {F : FTy → Type} [FloatOps F]
-- ==== Proof.Prog.lean ====
/-
  The kernel body written as the loops it unrolls. The printed body is one straight line of some four
  hundred memory operations; here it is a program of loops over the ring distances, the two ring directions,
  the hops and the experts of a block, with the buffers, slots and semaphores of each step computed from its
  index. `body_eq` is the statement that the two are the same program, by definitional unfolding, and the
  rest of the proof reasons about the loops.
-/
module

public import proofs.«01_k».proof.Proof.Gen.KernelIdeal
public import proofs.«01_k».proof.Proof.Gen.KernelIdeal.Skeleton

@[expose] public section

noncomputable section

namespace Cert.KernelIdeal.Ring

open Idealize.ShloMosaic Idealize.ShloMosaic.TcCoe Idealize.SL.Sem
open Cert.KernelIdeal Cert.KernelIdeal.Gen

variable {F : FTy → Type} [FloatOps F]

/-! ## Devices -/

/-- The device `k` places to the right of `c` on the ring of sixteen. -/
def sh (k : ℕ) (c : Dev nD) : Dev nD := ⟨(c.val + k) % 16, Nat.mod_lt _ (by decide)⟩

/-- The devices the kernel addresses, in the order in which its operations name them. -/
def kdevs (c : Dev nD) : List (Dev nD) :=
  [⟨k0_dev1 c, k0_dev1_lt c⟩, ⟨k0_dev2 c, k0_dev2_lt c⟩, ⟨k0_dev3 c, k0_dev3_lt c⟩, ⟨k0_dev4 c, k0_dev4_lt c⟩, ⟨k0_dev5 c, k0_dev5_lt c⟩, ⟨k0_dev6 c, k0_dev6_lt c⟩, ⟨k0_dev7 c, k0_dev7_lt c⟩, ⟨k0_dev8 c, k0_dev8_lt c⟩, ⟨k0_dev9 c, k0_dev9_lt c⟩, ⟨k0_dev10 c, k0_dev10_lt c⟩, ⟨k0_dev11 c, k0_dev11_lt c⟩, ⟨k0_dev12 c, k0_dev12_lt c⟩, ⟨k0_dev13 c, k0_dev13_lt c⟩, ⟨k0_dev14 c, k0_dev14_lt c⟩, ⟨k0_dev15 c, k0_dev15_lt c⟩, ⟨k0_dev16 c, k0_dev16_lt c⟩, ⟨k0_dev17 c, k0_dev17_lt c⟩, ⟨k0_dev18 c, k0_dev18_lt c⟩, ⟨k0_dev19 c, k0_dev19_lt c⟩, ⟨k0_dev20 c, k0_dev20_lt c⟩, ⟨k0_dev21 c, k0_dev21_lt c⟩, ⟨k0_dev22 c, k0_dev22_lt c⟩, ⟨k0_dev23 c, k0_dev23_lt c⟩, ⟨k0_dev24 c, k0_dev24_lt c⟩, ⟨k0_dev25 c, k0_dev25_lt c⟩, ⟨k0_dev26 c, k0_dev26_lt c⟩, ⟨k0_dev27 c, k0_dev27_lt c⟩, ⟨k0_dev28 c, k0_dev28_lt c⟩, ⟨k0_dev29 c, k0_dev29_lt c⟩, ⟨k0_dev30 c, k0_dev30_lt c⟩, ⟨k0_dev31 c, k0_dev31_lt c⟩, ⟨k0_dev32 c, k0_dev32_lt c⟩, ⟨k0_dev33 c, k0_dev33_lt c⟩, ⟨k0_dev34 c, k0_dev34_lt c⟩, ⟨k0_dev35 c, k0_dev35_lt c⟩, ⟨k0_dev36 c, k0_dev36_lt c⟩, ⟨k0_dev37 c, k0_dev37_lt c⟩, ⟨k0_dev38 c, k0_dev38_lt c⟩, ⟨k0_dev39 c, k0_dev39_lt c⟩, ⟨k0_dev40 c, k0_dev40_lt c⟩, ⟨k0_dev41 c, k0_dev41_lt c⟩, ⟨k0_dev42 c, k0_dev42_lt c⟩, ⟨k0_dev43 c, k0_dev43_lt c⟩, ⟨k0_dev44 c, k0_dev44_lt c⟩, ⟨k0_dev45 c, k0_dev45_lt c⟩, ⟨k0_dev46 c, k0_dev46_lt c⟩, ⟨k0_dev47 c, k0_dev47_lt c⟩, ⟨k0_dev48 c, k0_dev48_lt c⟩, ⟨k0_dev49 c, k0_dev49_lt c⟩, ⟨k0_dev50 c, k0_dev50_lt c⟩, ⟨k0_dev51 c, k0_dev51_lt c⟩, ⟨k0_dev52 c, k0_dev52_lt c⟩, ⟨k0_dev53 c, k0_dev53_lt c⟩, ⟨k0_dev54 c, k0_dev54_lt c⟩, ⟨k0_dev55 c, k0_dev55_lt c⟩, ⟨k0_dev56 c, k0_dev56_lt c⟩, ⟨k0_dev57 c, k0_dev57_lt c⟩, ⟨k0_dev58 c, k0_dev58_lt c⟩, ⟨k0_dev59 c, k0_dev59_lt c⟩, ⟨k0_dev60 c, k0_dev60_lt c⟩]

/-- The device the `i`-th operation with a target addresses, counted from 1. -/
def kdev (i : ℕ) (c : Dev nD) : Dev nD := (kdevs c).getD (i - 1) c

/-- How far to the right that device is: the barrier signals and the histogram copies go to distances
    1 … 15; a weight copy goes one place to the right or to the left; a credit goes the other way. -/
def kdist (i : ℕ) : ℕ :=
  if i ≤ 15 then i else if i ≤ 30 then i - 15 else if i = 31 then 1 else if i = 32 then 15
  else if i % 4 = 1 ∨ i % 4 = 0 then 15 else 1

theorem kdev_eq : ∀ (i : Fin 61) (c : Dev nD), 1 ≤ i.val → kdev i.val c = sh (kdist i.val) c := by decide +kernel

/-! ## Buffers, slots and semaphores -/

/-- The tokens', the expert indices', the weights' and the result's blocks, and the two small scratch
    buffers: this device's histogram and the table of everyone's. -/
abbrev xM : Memref sig .tc .vmem S1024x512 .bf16 := Memref.whole cc0_stg0_0
abbrev eM : Memref sig .tc .vmem S1024x1 .i32 := Memref.whole cc0_stg1_0
abbrev wM : Memref sig .tc .vmem S4x512x1024 .bf16 := Memref.whole cc0_stg2_0
abbrev oM : Memref sig .tc .vmem S1024x1024 .f32 := Memref.whole cc0_stg3_0
abbrev hM : Memref sig .tc .vmem S8x128 .i32 := Memref.whole cc0_scratch2
abbrev aM : Memref sig .tc .vmem S16x8x128 .i32 := Memref.whole cc0_scratch3

/-- The two-slot weight buffer of a direction: `false` is the ring towards the right, `true` the one towards
    the left. -/
abbrev dbuf : Bool → Memref sig .tc .vmem S2x4x512x1024 .bf16
  | false => Memref.whole cc0_scratch0
  | true => Memref.whole cc0_scratch1

theorem dbuf_whole : ∀ d, (dbuf d).IsWhole
  | false => Memref.isWhole_whole _
  | true => Memref.isWhole_whole _

/-- The parity of a hop: the slot it reads. -/
def par (h : ℕ) : Fin 2 := ⟨h % 2, Nat.mod_lt _ (by decide)⟩

theorem inb_slot (k : Fin 2) : ∀ a, (![k.val, 0, 0, 0] : Fin 4 → Nat) a + S1x4x512x1024.size a ≤ S2x4x512x1024.size a := by
  revert k; decide
theorem inb_half (d : Bool) (k : Fin 2) : ∀ a, (![k.val, (bif d then 2 else 0), 0, 0] : Fin 4 → Nat) a + S1x2x512x1024.size a ≤ S2x4x512x1024.size a := by
  revert k d; decide
theorem inb_expert (k : Fin 2) (j : Fin 4) : ∀ a, (![k.val, j.val, 0, 0] : Fin 4 → Nat) a + S1x1x512x1024.size a ≤ S2x4x512x1024.size a := by
  revert k j; decide
theorem inb_hist (d : Fin 16) : ∀ a, (![d.val, 0, 0] : Fin 3 → Nat) a + S1x8x128.size a ≤ S16x8x128.size a := by
  revert d; decide
theorem inb_row (d : Fin 16) : ∀ a, (![d.val, 0, 0] : Fin 3 → Nat) a + S1x1x128.size a ≤ S16x8x128.size a := by
  revert d; decide

/-- Slot `k` of a direction's buffer; -/
abbrev slotM (d : Bool) (k : Fin 2) : Memref sig .tc .vmem S4x512x1024 .bf16 :=
  ((dbuf d).slice (Rect.unit (s := S2x4x512x1024) ![k.val, 0, 0, 0] S1x4x512x1024.size (inb_slot k)) (fun _ => rfl)).squeeze S4x512x1024 squeezes_S1x4x512x1024_S4x512x1024
/-- and the half of it the last hop moves. -/
abbrev halfM (d : Bool) (k : Fin 2) : Memref sig .tc .vmem S2x512x1024 .bf16 :=
  ((dbuf d).slice (Rect.unit (s := S2x4x512x1024) ![k.val, (bif d then 2 else 0), 0, 0] S1x2x512x1024.size (inb_half d k)) (fun _ => rfl)).squeeze S2x512x1024 squeezes_S1x2x512x1024_S2x512x1024
/-- Slot `d` of the table of histograms: where the device `d` places to the left writes. -/
abbrev histM (d : Fin 16) : Memref sig .tc .vmem S8x128 .i32 :=
  (aM.slice (Rect.unit (s := S16x8x128) ![d.val, 0, 0] S1x8x128.size (inb_hist d)) (fun _ => rfl)).squeeze S8x128 squeezes_S1x8x128_S8x128

theorem slot_exact (d : Bool) (k : Fin 2) : (slotM d k).view.WordExact :=
  match k with
  | 0 => ((dbuf_whole d).wordExact_slice rfl _ wordsbf16_S2x4x512x1024_S1x4x512x1024_0_0_0_0).reshape _ _
  | 1 => ((dbuf_whole d).wordExact_slice rfl _ wordsbf16_S2x4x512x1024_S1x4x512x1024_1_0_0_0).reshape _ _
theorem half_exact (d : Bool) (k : Fin 2) : (halfM d k).view.WordExact :=
  match d, k with
  | false, 0 => ((dbuf_whole false).wordExact_slice rfl _ wordsbf16_S2x4x512x1024_S1x2x512x1024_0_0_0_0).reshape _ _
  | false, 1 => ((dbuf_whole false).wordExact_slice rfl _ wordsbf16_S2x4x512x1024_S1x2x512x1024_1_0_0_0).reshape _ _
  | true, 0 => ((dbuf_whole true).wordExact_slice rfl _ wordsbf16_S2x4x512x1024_S1x2x512x1024_0_2_0_0).reshape _ _
  | true, 1 => ((dbuf_whole true).wordExact_slice rfl _ wordsbf16_S2x4x512x1024_S1x2x512x1024_1_2_0_0).reshape _ _
theorem hist_exact (d : Fin 16) : (histM d).view.WordExact := (View.wordExact_bits rfl).reshape _ _

/-- The semaphores: of direction `d` at hop `h`, the one its copy raises on the sender and the one it raises
    on the receiver; of the histogram copy at distance `k`, the same two; the credits; the barrier. -/
abbrev wsS (d : Bool) (h : Fin 8) : DmaSem sig := ⟨(bif d then 20 else 4) + h.val, by revert d h; decide⟩
abbrev wrS (d : Bool) (h : Fin 8) : DmaSem sig := ⟨(bif d then 28 else 12) + h.val, by revert d h; decide⟩
abbrev hsS (k : Fin 16) : DmaSem sig := ⟨36 + k.val, by revert k; decide⟩
abbrev hrS (k : Fin 16) : DmaSem sig := ⟨52 + k.val, by revert k; decide⟩
abbrev crS (d : Bool) : Sem sig := bif d then cc0_scratch11.sem else cc0_scratch10.sem
abbrev baS : Sem sig := sig.barrier 0 rfl

/-! ## The steps -/

abbrev Body (F : FTy → Type) (α : Type) : Type _ := Prog (TpuEff nD τ sig (Elt F) Λ₀ .tc) α

/-- `f s, f (s+1), …, f (s+n-1)` in order; -/
def loop (f : ℕ → Body F PUnit) : ℕ → ℕ → Body F PUnit
  | _, 0 => pure ⟨⟩
  | s, n + 1 => f s >>= fun _ => loop f (s + 1) n
/-- the same with a value carried along. -/
def accLoop {A : Type} (f : ℕ → A → Body F A) : ℕ → ℕ → A → Body F A
  | _, 0, a => pure a
  | s, n + 1, a => f s a >>= fun a' => accLoop f (s + 1) n a'

/-- An index below 16, 8 or 4, from a loop counter. -/
abbrev f16 (k : ℕ) : Fin 16 := ⟨k % 16, Nat.mod_lt _ (by decide)⟩
abbrev f8 (k : ℕ) : Fin 8 := ⟨k % 8, Nat.mod_lt _ (by decide)⟩
abbrev f4 (k : ℕ) : Fin 4 := ⟨k % 4, Nat.mod_lt _ (by decide)⟩

/-- The copy of hop `h` in direction `d`, from slot `h mod 2` here to the other slot of device `c'`. -/
def wsend (c' : Dev nD) (d : Bool) (h : ℕ) : Body F PUnit :=
  Prog.lift (.enqueueDma (slotM d (par h)) (.remote (Dev.tc c') (slotM d (par (h + 1))) (.dma (wsS d (f8 h)))) (.dma (wrS d (f8 h)))
    (slot_exact d _) (slot_exact d _) ⟨⟨rfl, Or.inl rfl⟩, trivial⟩)
/-- The last hop's, of half a slot. -/
def wsendHalf (c' : Dev nD) (d : Bool) : Body F PUnit :=
  Prog.lift (.enqueueDma (halfM d 1) (.remote (Dev.tc c') (halfM d 0) (.dma (wsS d 7))) (.dma (wrS d 7))
    (half_exact d _) (half_exact d _) ⟨⟨rfl, Or.inl rfl⟩, trivial⟩)
/-- The waits for hop `h`'s two ends. -/
def wwaitS (d : Bool) (h : ℕ) : Body F PUnit :=
  Prog.lift (.waitDma2 (wsS d (f8 h)) (slotM d (par (h + 1))) (slotM d (par h)) (slot_exact d _) (slot_exact d _))
def wwaitR (d : Bool) (h : ℕ) : Body F PUnit :=
  Prog.lift (.waitDma2 (wrS d (f8 h)) (slotM d (par h)) (slotM d (par (h + 1))) (slot_exact d _) (slot_exact d _))
def wwaitSHalf (d : Bool) : Body F PUnit :=
  Prog.lift (.waitDma2 (wsS d 7) (halfM d 0) (halfM d 1) (half_exact d _) (half_exact d _))
def wwaitRHalf (d : Bool) : Body F PUnit :=
  Prog.lift (.waitDma2 (wrS d 7) (halfM d 1) (halfM d 0) (half_exact d _) (half_exact d _))
/-- The copy of this device's histogram to the device at distance `k`, and the waits for it. -/
def hsend (c' : Dev nD) (k : ℕ) : Body F PUnit :=
  Prog.lift (.enqueueDma hM (.remote (Dev.tc c') (histM (f16 k)) (.dma (hsS (f16 k)))) (.dma (hrS (f16 k)))
    (Memref.isWhole_whole _).wordExact (hist_exact _) ⟨⟨rfl, Or.inl rfl⟩, trivial⟩)
def hwaitR (k : ℕ) : Body F PUnit :=
  Prog.lift (.waitDma2 (hrS (f16 k)) hM (histM (f16 k)) (Memref.isWhole_whole _).wordExact (hist_exact _))
def hwaitS (k : ℕ) : Body F PUnit :=
  Prog.lift (.waitDma2 (hsS (f16 k)) (histM (f16 k)) hM (hist_exact _) (Memref.isWhole_whole _).wordExact)

/-- Row 0 of slot `k` of the table of histograms. -/
def hload (k : ℕ) : Body F (Vec F S1x1x128 .i32) :=
  Prog.lift (.load aM (Rect.unit (s := S16x8x128) ![(f16 k).val, 0, 0] S1x1x128.size (inb_row _)).toLoadRect (View.loadsAt_vmem h_S1x1x128))

/-- The result block, read and written whole. -/
def oload : Body F (Vec F S1024x1024 .f32) :=
  Prog.lift (.load oM (Rect.unit (s := S1024x1024) ![0, 0] S1024x1024.size inb_S1024x1024_S1024x1024_0_0).toLoadRect (View.loadsAt_vmem h_S1024x1024))
def ostore (v : FVec F S1024x1024 .f32) : Body F PUnit :=
  Prog.lift (.store oM (Rect.unit (s := S1024x1024) ![0, 0] S1024x1024.size inb_S1024x1024_S1024x1024_0_0) v Finset.univ (View.stores_vmem_bits_univ h_S1024x1024 rfl) (.inl rfl))
/-- The weights of expert `j` in a slot. -/
def wload (d : Bool) (k : Fin 2) (j : ℕ) : Body F (Vec F S1x1x512x1024 .bf16) :=
  Prog.lift (.load (dbuf d) (Rect.unit (s := S2x4x512x1024) ![k.val, (f4 j).val, 0, 0] S1x1x512x1024.size (inb_expert k _)).toLoadRect (View.loadsAt_vmem h_S1x1x512x1024))

/-- One expert's contribution added to `acc`: the tokens that name expert `j` of the block of device `og`
    against its weights. -/
def contribVal (og : BitVec 32) (j : ℕ) (xb : FVec F S1024x512 .bf16) (e : IVec S1024x1 32)
    (acc : Vec F S1024x1024 .f32) (w : Vec F S1x1x512x1024 .bf16) : FVec F S1024x1024 .f32 :=
  addf (shapeCast S1024x1024 acc shapeCasts_S1024x1024_S1024x1024)
    (matmul dot_S1024x512_S512x1024_S1024x1024_1_0_0_1_n_n none
      (select (broadcastTo S1024x512 (shapeCast S1024x1 (cmpi .eq e (broadcast S1024x1 (Scalar.addi (Scalar.muli og 4#32) (BitVec.ofNat 32 j)))) shapeCasts_S1024x1_S1024x1) broadcasts_S1024x1_S1024x512)
        xb (broadcast S1024x512 (Scalar.ofBits .bf16 0x0000#16)))
      (shapeCast S512x1024 w shapeCasts_S1x1x512x1024_S512x1024) (constant S1024x1024 .f32 0x00000000#32))

/-- The step: the block's result so far is read, the weights are read, the sum is written. -/
def contrib (d : Bool) (k : Fin 2) (og : BitVec 32) (xb : FVec F S1024x512 .bf16) (e : IVec S1024x1 32) (j : ℕ) : Body F PUnit :=
  oload >>= fun acc => wload d k j >>= fun w => oload >>= fun _ => ostore (contribVal og j xb e acc w)

/-- The words the kernel computes with: its place, and the origin of the weights that hop `h` delivers. -/
abbrev meW (c : Dev nD) : BitVec 32 := Scalar.remsi (Scalar.divsi (Dev.word c) 1#32) 16#32
def ogW (v2 : BitVec 32) (h : ℕ) : Bool → BitVec 32
  | false => Scalar.remsi (Scalar.subi (Scalar.subi (Scalar.addi v2 16#32) (BitVec.ofNat 32 h)) 1#32) 16#32
  | true => Scalar.remsi (Scalar.addi (Scalar.addi v2 (BitVec.ofNat 32 h)) 1#32) 16#32

/-- Hop `h`: both directions' copies are waited for, each credit is given as soon as its slot is free, and
    before the last hop the next copies start once the neighbours' credits are in; -/
def hopComm (c : Dev nD) (h : ℕ) : Body F PUnit :=
  wwaitS false h >>= fun _ => semSignalWord (kdev (33 + 4 * h) c) (crS false) 1#32 >>= fun _ => wwaitR false h >>= fun _ =>
  wwaitS true h >>= fun _ => semSignalWord (kdev (34 + 4 * h) c) (crS true) 1#32 >>= fun _ => wwaitR true h
def hopNext (c : Dev nD) (h : ℕ) (send : Dev nD → Bool → Body F PUnit) : Body F PUnit :=
  semWaitWord (crS false) 1#32 >>= fun _ => send (kdev (35 + 4 * h) c) false >>= fun _ =>
  semWaitWord (crS true) 1#32 >>= fun _ => send (kdev (36 + 4 * h) c) true
/-- then the two delivered blocks are multiplied in. -/
def hopMul (v2 : BitVec 32) (xb : FVec F S1024x512 .bf16) (e : IVec S1024x1 32) (h : ℕ) : Body F PUnit :=
  loop (contrib false (par (h + 1)) (ogW v2 h false) xb e) 0 4 >>= fun _ =>
  loop (contrib true (par (h + 1)) (ogW v2 h true) xb e) 0 4

def hop (c : Dev nD) (xb : FVec F S1024x512 .bf16) (e : IVec S1024x1 32) (h : ℕ) : Body F PUnit :=
  hopComm c h >>= fun _ => hopNext c h (fun c' d => wsend c' d (h + 1)) >>= fun _ => hopMul (meW c) xb e h
def hop6 (c : Dev nD) (xb : FVec F S1024x512 .bf16) (e : IVec S1024x1 32) : Body F PUnit :=
  hopComm c 6 >>= fun _ => hopNext c 6 wsendHalf >>= fun _ => hopMul (meW c) xb e 6
def hop7 (c : Dev nD) (xb : FVec F S1024x512 .bf16) (e : IVec S1024x1 32) : Body F PUnit :=
  wwaitSHalf false >>= fun _ => wwaitRHalf false >>= fun _ => wwaitSHalf true >>= fun _ => wwaitRHalf true >>= fun _ =>
  loop (contrib false 0 (ogW (meW c) 7 false) xb e) 0 2 >>= fun _ =>
  loop (contrib true 0 (ogW (meW c) 7 true) xb e) 2 2

/-- The running count of the tokens on earlier devices: the histogram of distance `k` counts where its origin
    is an earlier device. -/
def histStep (v2 : BitVec 32) (k : ℕ) (acc : IVec S1x128 32) (row : Vec F S1x1x128 .i32) : IVec S1x128 32 :=
  addi acc (Scalar.select (Scalar.cmpi .slt (Scalar.remsi (Scalar.subi (Scalar.addi v2 16#32) (BitVec.ofNat 32 k)) 16#32) v2)
    (shapeCast S1x128 row shapeCasts_S1x1x128_S1x128) (broadcast S1x128 0#32))

/-- The start: every other device is told that this one has entered, and all of them are waited for. -/
def entry (c : Dev nD) : Body F PUnit :=
  loop (fun k => semSignalWord (kdev k c) baS 1#32) 1 15 >>= fun _ => semWaitWord baS 15#32

/-- The table of a token's matches with the 128 expert lanes. -/
def onehot (e : Vec F S1024x1 .i32) : IVec S1024x128 32 :=
  k0_pay5 (iota .tc S1024x128 32 [1] iota_S1024x128_d1_w32) (k0_pay4 (F := F) e)
def histVal (e : Vec F S1024x1 .i32) : IVec S8x128 32 :=
  k0_pay6 (iota .tc S1024x128 32 [1] iota_S1024x128_d1_w32) (k0_pay4 (F := F) e)

def hstore (v : IVec S8x128 32) : Body F PUnit :=
  Prog.lift (.load hM (Rect.unit (s := S8x128) ![0, 0] S8x128.size inb_S8x128_S8x128_0_0).toLoadRect (View.loadsAt_vmem h_S8x128)) >>= fun _ =>
  Prog.lift (.store hM (Rect.unit (s := S8x128) ![0, 0] S8x128.size inb_S8x128_S8x128_0_0) v Finset.univ (View.stores_vmem_bits_univ h_S8x128 rfl) (.inl rfl))
def wstore (d : Bool) (v : FVec F S1x4x512x1024 .bf16) : Body F PUnit :=
  Prog.lift (.load (dbuf d) (Rect.unit (s := S2x4x512x1024) ![0, 0, 0, 0] S1x4x512x1024.size inb_S2x4x512x1024_S1x4x512x1024_0_0_0_0).toLoadRect (View.loadsAt_vmem h_S1x4x512x1024)) >>= fun _ =>
  Prog.lift (.store (dbuf d) (Rect.unit (s := S2x4x512x1024) ![0, 0, 0, 0] S1x4x512x1024.size inb_S2x4x512x1024_S1x4x512x1024_0_0_0_0) v Finset.univ (View.stores_vmem h_S1x4x512x1024 ((dbuf_whole d).storeExact_slice rfl _ packedbf16_S2x4x512x1024_S1x4x512x1024_0_0_0_0) (fun _ => rfl)) (.inl rfl))
def xload : Body F (Vec F S1024x512 .bf16) :=
  Prog.lift (.load xM (Rect.unit (s := S1024x512) ![0, 0] S1024x512.size inb_S1024x512_S1024x512_0_0).toLoadRect (View.loadsAt_vmem h_S1024x512))
def eload : Body F (Vec F S1024x1 .i32) :=
  Prog.lift (.load eM (Rect.unit (s := S1024x1) ![0, 0] S1024x1.size inb_S1024x1_S1024x1_0_0).toLoadRect (View.loadsAt_vmem h_S1024x1))
def wload0 : Body F (Vec F S4x512x1024 .bf16) :=
  Prog.lift (.load wM (Rect.unit (s := S4x512x1024) ![0, 0, 0] S4x512x1024.size inb_S4x512x1024_S4x512x1024_0_0_0).toLoadRect (View.loadsAt_vmem h_S4x512x1024))

/-- The histogram leaves for everyone, the own weights go into slot 0 of both directions, the result starts at
    zero. -/
def setup (c : Dev nD) (e : Vec F S1024x1 .i32) : Body F PUnit :=
  hstore (histVal (F := F) e) >>= fun _ => loop (fun k => hsend (kdev (15 + k) c) k) 1 15 >>= fun _ =>
  wload0 >>= fun w => wstore false (k0_pay9 w) >>= fun _ => wstore true (k0_pay10 w) >>= fun _ =>
  oload >>= fun _ => ostore (k0_pay11 (F := F))
/-- The first copies, and the own block's contribution. -/
def first (c : Dev nD) (xb : FVec F S1024x512 .bf16) (e : IVec S1024x1 32) : Body F PUnit :=
  wsend (kdev 31 c) false 0 >>= fun _ => wsend (kdev 32 c) true 0 >>= fun _ =>
  loop (contrib false 0 (meW c) xb e) 0 4
/-- The end: the histograms arrive and are added up, the copies of the own one are waited for, and the tokens
    past an expert's capacity are set to zero. -/
def finish (c : Dev nD) (e : Vec F S1024x1 .i32) : Body F PUnit :=
  accLoop (fun k acc => hwaitR k >>= fun _ => hload k >>= fun row => pure (histStep (F := F) (meW c) k acc row)) 1 15 (broadcast S1x128 0#32) >>= fun offs =>
  loop hwaitS 1 15 >>= fun _ =>
  oload >>= fun acc => oload >>= fun _ =>
  ostore (k0_pay1 (k0_pay125 acc) (k0_pay126 (F := F)) (k0_pay127 (onehot e) (k0_pay7 (F := F) (onehot e)) offs))

/-- The kernel body. -/
def body : Body F PUnit :=
  Prog.lift .deviceId >>= fun c => entry c >>= fun _ =>
  xload >>= fun x => eload >>= fun e => setup c e >>= fun _ =>
  first c (k0_pay2 x) (k0_pay3 (F := F) e) >>= fun _ =>
  loop (hop c (k0_pay2 x) (k0_pay3 (F := F) e)) 0 6 >>= fun _ =>
  hop6 c (k0_pay2 x) (k0_pay3 (F := F) e) >>= fun _ => hop7 c (k0_pay2 x) (k0_pay3 (F := F) e) >>= fun _ =>
  finish c e

end Cert.KernelIdeal.Ring

end
-- ==== Proof.Geo.lean ====
/-
  Where the slots lie. A direction's buffer has two slots of four experts' weights; the last hop moves half a
  slot; a histogram slot is one of sixteen. Here is which elements each of them covers, and what a read through
  one says of a read through another: the facts about memory the protocol and the values are built from.
-/
module

public import proofs.«01_k».proof.Proof.Prog
public import Idealize.ShloMosaic.Lib.ValueLayout

@[expose] public section

noncomputable section

namespace Cert.KernelIdeal.Ring

open Idealize.ShloMosaic Idealize.ShloMosaic.TcCoe Idealize.SL.Sem
open Cert.KernelIdeal Cert.KernelIdeal.Gen
open Idealize.ShloMosaic.ValueIdx

variable {F : FTy → Type} [FloatOps F]

/-! ## Which elements -/

/-- The rectangle of expert `j` in slot `k`, and of row 0 of histogram slot `k`. -/
abbrev expR (k : Fin 2) (j : Fin 4) : Rect S2x4x512x1024 := Rect.unit (s := S2x4x512x1024) ![k.val, j.val, 0, 0] S1x1x512x1024.size (inb_expert k j)
abbrev rowR (k : Fin 16) : Rect S16x8x128 := Rect.unit (s := S16x8x128) ![k.val, 0, 0] S1x1x128.size (inb_row k)
abbrev slotR (k : Fin 2) : Rect S2x4x512x1024 := Rect.unit (s := S2x4x512x1024) ![k.val, 0, 0, 0] S1x4x512x1024.size (inb_slot k)

theorem mem_slot (k : Fin 2) (i : S2x4x512x1024.Idx) : i ∈ (slotR k).set ↔ (i 0).val = k.val := by
  rw [Rect.mem_set_unit]
  have h1 : (i 1).val < 4 := (i 1).isLt
  have h2 : (i 2).val < 512 := (i 2).isLt
  have h3 : (i 3).val < 1024 := (i 3).isLt
  simp only [Fin.forall_fin_succ, Matrix.cons_val_zero, Matrix.cons_val_succ]
  constructor
  · rintro ⟨⟨a, b⟩, -⟩
    have b' : (i 0).val < k.val + 1 := b
    exact Nat.le_antisymm (by omega) a
  · intro h
    refine ⟨⟨h.ge, show (i 0).val < k.val + 1 by omega⟩, ⟨Nat.zero_le _, show (i 1).val < 0 + 4 by omega⟩, ⟨Nat.zero_le _, show (i 2).val < 0 + 512 by omega⟩,
      ⟨Nat.zero_le _, show (i 3).val < 0 + 1024 by omega⟩, fun x => x.elim0⟩

theorem mem_half (d : Bool) (k : Fin 2) (i : S2x4x512x1024.Idx) :
    i ∈ (Rect.unit (s := S2x4x512x1024) ![k.val, (bif d then 2 else 0), 0, 0] S1x2x512x1024.size (inb_half d k)).set
      ↔ (i 0).val = k.val ∧ (bif d then 2 else 0) ≤ (i 1).val ∧ (i 1).val < (bif d then 2 else 0) + 2 := by
  rw [Rect.mem_set_unit]
  have h2 : (i 2).val < 512 := (i 2).isLt
  have h3 : (i 3).val < 1024 := (i 3).isLt
  simp only [Fin.forall_fin_succ, Matrix.cons_val_zero, Matrix.cons_val_succ]
  constructor
  · rintro ⟨⟨a, b⟩, ⟨a1, b1⟩, -⟩
    have b' : (i 0).val < k.val + 1 := b
    exact ⟨Nat.le_antisymm (by omega) a, a1, b1⟩
  · rintro ⟨h, a1, b1⟩
    exact ⟨⟨h.ge, show (i 0).val < k.val + 1 by omega⟩, ⟨a1, b1⟩, ⟨Nat.zero_le _, show (i 2).val < 0 + 512 by omega⟩,
      ⟨Nat.zero_le _, show (i 3).val < 0 + 1024 by omega⟩, fun x => x.elim0⟩

theorem mem_exp (k : Fin 2) (j : Fin 4) (i : S2x4x512x1024.Idx) : i ∈ (expR k j).set ↔ (i 0).val = k.val ∧ (i 1).val = j.val := by
  rw [Rect.mem_set_unit]
  have h2 : (i 2).val < 512 := (i 2).isLt
  have h3 : (i 3).val < 1024 := (i 3).isLt
  simp only [Fin.forall_fin_succ, Matrix.cons_val_zero, Matrix.cons_val_succ]
  constructor
  · rintro ⟨⟨a, b⟩, ⟨a1, b1⟩, -⟩
    have b' : (i 0).val < k.val + 1 := b
    have b1' : (i 1).val < j.val + 1 := b1
    exact ⟨Nat.le_antisymm (by omega) a, Nat.le_antisymm (by omega) a1⟩
  · rintro ⟨h, h1⟩
    exact ⟨⟨h.ge, show (i 0).val < k.val + 1 by omega⟩, ⟨h1.ge, show (i 1).val < j.val + 1 by omega⟩, ⟨Nat.zero_le _, show (i 2).val < 0 + 512 by omega⟩,
      ⟨Nat.zero_le _, show (i 3).val < 0 + 1024 by omega⟩, fun x => x.elim0⟩

theorem mem_hist (k : Fin 16) (i : S16x8x128.Idx) :
    i ∈ (Rect.unit (s := S16x8x128) ![k.val, 0, 0] S1x8x128.size (inb_hist k)).set ↔ (i 0).val = k.val := by
  rw [Rect.mem_set_unit]
  have h1 : (i 1).val < 8 := (i 1).isLt
  have h2 : (i 2).val < 128 := (i 2).isLt
  simp only [Fin.forall_fin_succ, Matrix.cons_val_zero, Matrix.cons_val_succ]
  constructor
  · rintro ⟨⟨a, b⟩, -⟩
    have b' : (i 0).val < k.val + 1 := b
    exact Nat.le_antisymm (by omega) a
  · intro h
    exact ⟨⟨h.ge, show (i 0).val < k.val + 1 by omega⟩, ⟨Nat.zero_le _, show (i 1).val < 0 + 8 by omega⟩, ⟨Nat.zero_le _, show (i 2).val < 0 + 128 by omega⟩,
      fun x => x.elim0⟩

theorem mem_row (k : Fin 16) (i : S16x8x128.Idx) (h : i ∈ (rowR k).set) : (i 0).val = k.val := by
  rw [Rect.mem_set_unit] at h
  have a := (h 0).1
  have b : (i 0).val < k.val + 1 := (h 0).2
  exact Nat.le_antisymm (by omega) a

abbrev halfR (d : Bool) (k : Fin 2) : Rect S2x4x512x1024 := Rect.unit (s := S2x4x512x1024) ![k.val, (bif d then 2 else 0), 0, 0] S1x2x512x1024.size (inb_half d k)
abbrev histR (k : Fin 16) : Rect S16x8x128 := Rect.unit (s := S16x8x128) ![k.val, 0, 0] S1x8x128.size (inb_hist k)

/-- The sets of the views are the rectangles'. -/
theorem slot_v0 (k : Fin 2) : (slotM false k).view.set = (slotR k).set := (View.set_reshape _ _).trans (View.set_slice_whole _ _)
theorem slot_v1 (k : Fin 2) : (slotM true k).view.set = (slotR k).set := (View.set_reshape _ _).trans (View.set_slice_whole _ _)
theorem half_v0 (k : Fin 2) : (halfM false k).view.set = (halfR false k).set := (View.set_reshape _ _).trans (View.set_slice_whole _ _)
theorem half_v1 (k : Fin 2) : (halfM true k).view.set = (halfR true k).set := (View.set_reshape _ _).trans (View.set_slice_whole _ _)
theorem exp_v0 (k : Fin 2) (j : Fin 4) : ((dbuf false).access (expR k j)).set = (expR k j).set := View.set_slice_whole _ _
theorem exp_v1 (k : Fin 2) (j : Fin 4) : ((dbuf true).access (expR k j)).set = (expR k j).set := View.set_slice_whole _ _
theorem hist_set (k : Fin 16) : (histM k).view.set = (histR k).set := (View.set_reshape _ _).trans (View.set_slice_whole _ _)

theorem disj_slotR : Disjoint (slotR 0).set (slotR 1).set :=
  Finset.disjoint_left.2 fun i h0 h1 => absurd (((mem_slot 0 i).1 h0).symm.trans ((mem_slot 1 i).1 h1)) (by decide)
theorem cover_slotR : (slotR 0).set ∪ (slotR 1).set = Finset.univ := by
  ext i
  have h : (i 0).val < 2 := (i 0).isLt
  simp only [Finset.mem_union, mem_slot, Finset.mem_univ, iff_true, Fin.val_zero, Fin.val_one]
  omega
theorem half_sub (d : Bool) (k : Fin 2) : (halfR d k).set ⊆ (slotR k).set := fun i h => (mem_slot k i).2 ((mem_half d k i).1 h).1
theorem exp_sub (k : Fin 2) (j : Fin 4) : (expR k j).set ⊆ (slotR k).set := fun i h => (mem_slot k i).2 ((mem_exp k j i).1 h).1
/-- The experts a direction's last hop moves. -/
def inHalf (d : Bool) (j : Fin 4) : Prop := (bif d then 2 else 0) ≤ j.val ∧ j.val < (bif d then 2 else 0) + 2
theorem exp_sub_half (d : Bool) (k : Fin 2) (j : Fin 4) (hj : inHalf d j) : (expR k j).set ⊆ (halfR d k).set :=
  fun i h => (mem_half d k i).2 (by have := (mem_exp k j i).1 h; have := hj; unfold inHalf at this; omega)

theorem slots_disjoint : ∀ d, Disjoint (slotM d 0).view.set (slotM d 1).view.set
  | false => disj_slotR.mono (slot_v0 0).le (slot_v0 1).le
  | true => disj_slotR.mono (slot_v1 0).le (slot_v1 1).le
theorem slots_cover : ∀ d, (slotM d 0).view.set ∪ (slotM d 1).view.set = Finset.univ
  | false => (congrArg₂ (· ∪ ·) (slot_v0 0) (slot_v0 1)).trans cover_slotR
  | true => (congrArg₂ (· ∪ ·) (slot_v1 0) (slot_v1 1)).trans cover_slotR
theorem half_subset : ∀ d k, (halfM d k).view.set ⊆ (slotM d k).view.set
  | false, k => (half_v0 k).le.trans ((half_sub _ _).trans (slot_v0 k).ge)
  | true, k => (half_v1 k).le.trans ((half_sub _ _).trans (slot_v1 k).ge)
theorem exp_subset : ∀ d k j, ((dbuf d).access (expR k j)).set ⊆ (slotM d k).view.set
  | false, k, j => (exp_v0 k j).le.trans ((exp_sub _ _).trans (slot_v0 k).ge)
  | true, k, j => (exp_v1 k j).le.trans ((exp_sub _ _).trans (slot_v1 k).ge)
theorem exp_subset_half : ∀ d k j, inHalf d j → ((dbuf d).access (expR k j)).set ⊆ (halfM d k).view.set
  | false, k, j, hj => (exp_v0 k j).le.trans ((exp_sub_half _ _ _ hj).trans (half_v0 k).ge)
  | true, k, j, hj => (exp_v1 k j).le.trans ((exp_sub_half _ _ _ hj).trans (half_v1 k).ge)
/-- A store of a whole slot through the buffer covers the slot. -/
theorem store_slot : ∀ d k, ((dbuf d).access (slotR k)).set = (slotM d k).view.set
  | false, k => (View.set_slice_whole _ _).trans (slot_v0 k).symm
  | true, k => (View.set_slice_whole _ _).trans (slot_v1 k).symm

theorem row_sub (k : Fin 16) : (rowR k).set ⊆ (histR k).set := fun i h => (mem_hist k i).2 (mem_row k i h)
theorem row_subset (k : Fin 16) : (aM.access (rowR k)).set ⊆ (histM k).view.set :=
  (View.set_slice_whole cc0_scratch3 (rowR k)).le.trans ((row_sub k).trans (hist_set k).ge)
theorem disj_histR (k l : Fin 16) (h : k ≠ l) : Disjoint (histR k).set (histR l).set :=
  Finset.disjoint_left.2 fun i h0 h1 => h (Fin.ext (((mem_hist k i).1 h0).symm.trans ((mem_hist l i).1 h1)))
theorem hist_disjoint (k l : Fin 16) (h : k ≠ l) : Disjoint (histM k).view.set (histM l).view.set :=
  (disj_histR k l h).mono (hist_set k).le (hist_set l).le
theorem cover_histR : Finset.univ.biUnion (fun k : Fin 16 => (histR k).set) = Finset.univ := by
  ext i
  simp only [Finset.mem_biUnion, Finset.mem_univ, true_and, iff_true]
  exact ⟨i 0, (mem_hist _ i).2 rfl⟩
/-- The table's slots as sets of its elements. -/
abbrev histS (k : Fin 16) : Finset aM.view.ty.Idx := (histM k).view.set
theorem hist_cover : Finset.univ.biUnion histS = (Finset.univ : Finset aM.view.ty.Idx) :=
  (congrArg (Finset.biUnion Finset.univ) (funext fun k => hist_set k)).trans cover_histR

/-! ## What a read says of another -/

/-- Of a slot's contents, the half the last hop of a direction moves; expert `j`'s weights as a load gives them;
    and of a table slot's contents the row a load gives. -/
def halfOf {α : Type} (d : Bool) (X : S4x512x1024.Idx → α) : S2x512x1024.Idx → α :=
  fun i => X (ix3 ⟨(i 0).val + (bif d then 2 else 0), by have h : (i 0).val < 2 := (i 0).isLt; cases d <;> simp <;> omega⟩ (i 1) (i 2))
def expOf {α : Type} (j : Fin 4) (X : S4x512x1024.Idx → α) : S1x1x512x1024.Idx → α := fun i => X (ix3 j (i 2) (i 3))
def expOfHalf {α : Type} (d : Bool) (j : Fin 4) (X : S2x512x1024.Idx → α) : S1x1x512x1024.Idx → α :=
  fun i => X (ix3 ⟨(j.val - (bif d then 2 else 0)) % 2, Nat.mod_lt _ (by decide)⟩ (i 2) (i 3))
def rowOf {α : Type} (X : S8x128.Idx → α) : S1x1x128.Idx → α := fun i => X (ix2 0 (i 2))
/-- A slot's contents as a store through the buffer writes them. -/
def padOf {α : Type} (X : S4x512x1024.Idx → α) : S1x4x512x1024.Idx → α := fun i => X (ix3 (i 1) (i 2) (i 3))

theorem expOfHalf_halfOf {α : Type} (d : Bool) (j : Fin 4) (hj : inHalf d j) (X : S4x512x1024.Idx → α) : expOfHalf d j (halfOf d X) = expOf j X := by
  funext i
  unfold expOfHalf halfOf expOf
  refine congrArg X ?_
  have : (⟨(j.val - (bif d then 2 else 0)) % 2 + (bif d then 2 else 0), by cases d <;> simp <;> omega⟩ : Fin 4) = j := by
    unfold inHalf at hj; apply Fin.ext; cases d <;> simp at hj ⊢ <;> omega
  exact congrArg (fun a => ix3 a (i 2) (i 3)) this

theorem unsq4 (h) (i : S4x512x1024.Idx) : (Shape.reshapeEquiv (s := S1x4x512x1024) (s' := S4x512x1024) h i : S1x4x512x1024.Idx) = ix4 0 (i 0) (i 1) (i 2) := by
  conv_lhs => rw [eq_ix3 i]
  exact reshapeEquiv_ix3_1abc h _ _ _
theorem unsq2 (h) (i : S2x512x1024.Idx) : (Shape.reshapeEquiv (s := S1x2x512x1024) (s' := S2x512x1024) h i : S1x2x512x1024.Idx) = ix4 0 (i 0) (i 1) (i 2) := by
  conv_lhs => rw [eq_ix3 i]
  exact reshapeEquiv_ix3_1abc h _ _ _
theorem unsqh (h) (i : S8x128.Idx) : (Shape.reshapeEquiv (s := S1x8x128) (s' := S8x128) h i : S1x8x128.Idx) = ix3 0 (i 0) (i 1) := by
  conv_lhs => rw [eq_ix2 i]
  exact reshapeEquiv_ix2_1ab h _ _

/-- A slot's element in the buffer; a half's; an expert's. -/
theorem slot_emb (k : Fin 2) (h) (i : S4x512x1024.Idx) : (slotR k).emb (Shape.reshapeEquiv (s := S1x4x512x1024) (s' := S4x512x1024) h i) = ix4 k (i 0) (i 1) (i 2) := by
  rw [unsq4]
  funext a; apply Fin.ext
  match a with
  | ⟨0, _⟩ => exact (Nat.add_zero _).trans rfl
  | ⟨1, _⟩ => show 0 + 1 * (i 0).val = (i 0).val; omega
  | ⟨2, _⟩ => show 0 + 1 * (i 1).val = (i 1).val; omega
  | ⟨3, _⟩ => show 0 + 1 * (i 2).val = (i 2).val; omega
theorem half_emb (d : Bool) (k : Fin 2) (h) (i : S2x512x1024.Idx) :
    (halfR d k).emb (Shape.reshapeEquiv (s := S1x2x512x1024) (s' := S2x512x1024) h i)
      = ix4 k ⟨(i 0).val + (bif d then 2 else 0), by have h : (i 0).val < 2 := (i 0).isLt; cases d <;> simp <;> omega⟩ (i 1) (i 2) := by
  rw [unsq2]
  funext a; apply Fin.ext
  match a with
  | ⟨0, _⟩ => exact (Nat.add_zero _).trans rfl
  | ⟨1, _⟩ => show (bif d then 2 else 0) + 1 * (i 0).val = (i 0).val + (bif d then 2 else 0); omega
  | ⟨2, _⟩ => show 0 + 1 * (i 1).val = (i 1).val; omega
  | ⟨3, _⟩ => show 0 + 1 * (i 2).val = (i 2).val; omega
theorem exp_emb (k : Fin 2) (j : Fin 4) (i : S1x1x512x1024.Idx) : (expR k j).emb i = ix4 k j (i 2) (i 3) := by
  have h0 : (i 0).val < 1 := (i 0).isLt
  have h1 : (i 1).val < 1 := (i 1).isLt
  funext a; apply Fin.ext
  match a with
  | ⟨0, _⟩ => show k.val + 1 * (i 0).val = k.val; omega
  | ⟨1, _⟩ => show j.val + 1 * (i 1).val = j.val; omega
  | ⟨2, _⟩ => show 0 + 1 * (i 2).val = (i 2).val; omega
  | ⟨3, _⟩ => show 0 + 1 * (i 3).val = (i 3).val; omega
theorem pad_emb (k : Fin 2) (i : S1x4x512x1024.Idx) : (slotR k).emb i = ix4 k (i 1) (i 2) (i 3) := by
  have h0 : (i 0).val < 1 := (i 0).isLt
  funext a; apply Fin.ext
  match a with
  | ⟨0, _⟩ => show k.val + 1 * (i 0).val = k.val; omega
  | ⟨1, _⟩ => show 0 + 1 * (i 1).val = (i 1).val; omega
  | ⟨2, _⟩ => show 0 + 1 * (i 2).val = (i 2).val; omega
  | ⟨3, _⟩ => show 0 + 1 * (i 3).val = (i 3).val; omega
theorem hist_emb (k : Fin 16) (h) (i : S8x128.Idx) : (histR k).emb (Shape.reshapeEquiv (s := S1x8x128) (s' := S8x128) h i) = ix3 k (i 0) (i 1) := by
  rw [unsqh]
  funext a; apply Fin.ext
  match a with
  | ⟨0, _⟩ => exact (Nat.add_zero _).trans rfl
  | ⟨1, _⟩ => show 0 + 1 * (i 0).val = (i 0).val; omega
  | ⟨2, _⟩ => show 0 + 1 * (i 1).val = (i 1).val; omega
theorem row_emb (k : Fin 16) (i : S1x1x128.Idx) : (rowR k).emb i = ix3 k 0 (i 2) := by
  have h0 : (i 0).val < 1 := (i 0).isLt
  have h1 : (i 1).val < 1 := (i 1).isLt
  funext a; apply Fin.ext
  match a with
  | ⟨0, _⟩ => show k.val + 1 * (i 0).val = k.val; omega
  | ⟨1, _⟩ => show 0 + 1 * (i 1).val = 0; omega
  | ⟨2, _⟩ => show 0 + 1 * (i 2).val = (i 2).val; omega

theorem read_exp : ∀ d k j (f : (dbuf d).view.ty.Contents (Elt F)) (X), (slotM d k).view.read (Elt F) f = X → ((dbuf d).access (expR k j)).read (Elt F) f = expOf j X
  | false, k, j, f, _, rfl => funext fun i => congrArg f ((exp_emb k j i).trans (slot_emb k _ (ix3 j (i 2) (i 3))).symm)
  | true, k, j, f, _, rfl => funext fun i => congrArg f ((exp_emb k j i).trans (slot_emb k _ (ix3 j (i 2) (i 3))).symm)
theorem read_half : ∀ d k (f : (dbuf d).view.ty.Contents (Elt F)) (X), (slotM d k).view.read (Elt F) f = X → (halfM d k).view.read (Elt F) f = halfOf d X
  | false, k, f, _, rfl => funext fun i => congrArg f ((half_emb false k _ i).trans (slot_emb k _ (ix3 _ (i 1) (i 2))).symm)
  | true, k, f, _, rfl => funext fun i => congrArg f ((half_emb true k _ i).trans (slot_emb k _ (ix3 _ (i 1) (i 2))).symm)
theorem ix4_congr {k : Fin 2} {a b : Fin 4} (h : a.val = b.val) (x : Fin 512) (y : Fin 1024) : (ix4 k a x y : S2x4x512x1024.Idx) = ix4 k b x y := by
  rw [Fin.ext h]
theorem read_exp_half : ∀ d k j (hj : inHalf d j) (f : (dbuf d).view.ty.Contents (Elt F)) (X), (halfM d k).view.read (Elt F) f = X →
    ((dbuf d).access (expR k j)).read (Elt F) f = expOfHalf d j X
  | false, k, j, hj, f, _, rfl => funext fun i => congrArg f ((exp_emb k j i).trans
      ((ix4_congr (by unfold inHalf at hj; simp at hj ⊢; omega) _ _).trans (half_emb false k _ (ix3 _ (i 2) (i 3))).symm))
  | true, k, j, hj, f, _, rfl => funext fun i => congrArg f ((exp_emb k j i).trans
      ((ix4_congr (by unfold inHalf at hj; simp at hj ⊢; omega) _ _).trans (half_emb true k _ (ix3 _ (i 2) (i 3))).symm))
theorem padOf_unsq {α : Type} (X : S4x512x1024.Idx → α) (h) (i : S4x512x1024.Idx) : padOf X (Shape.reshapeEquiv (s := S1x4x512x1024) (s' := S4x512x1024) h i) = X i :=
  (congrArg (padOf X) (unsq4 h i)).trans (congrArg X (eq_ix3 i).symm)
/-- After a store of `padOf X` through the buffer the slot reads `X`. -/
theorem read_stored : ∀ d k (f : (dbuf d).view.ty.Contents (Elt F)) (X : S4x512x1024.Idx → Elt F .bf16),
    (slotM d k).view.read (Elt F) (((dbuf d).access (slotR k)).write (Elt F) f (padOf X) Finset.univ) = X
  | false, k, f, X => funext fun i => (congrFun (View.read_write_univ (v := (dbuf false).access (slotR k)) f (padOf X)) (Shape.reshapeEquiv _ i)).trans (padOf_unsq X _ i)
  | true, k, f, X => funext fun i => (congrFun (View.read_write_univ (v := (dbuf true).access (slotR k)) f (padOf X)) (Shape.reshapeEquiv _ i)).trans (padOf_unsq X _ i)
theorem read_row (k : Fin 16) (f : aM.view.ty.Contents (Elt F)) (X) (hX : (histM k).view.read (Elt F) f = X) : (aM.access (rowR k)).read (Elt F) f = rowOf X := by
  subst hX
  exact funext fun i => congrArg f ((row_emb k i).trans (hist_emb k _ (ix2 0 (i 2))).symm)

end Cert.KernelIdeal.Ring

end
-- ==== Proof.BodyEq.lean ====
/-
  The printed kernel body is the program of `Prog.lean`: the two are walked one memory operation at a time,
  each pair of operations equal by unfolding.
-/
module

public import proofs.«01_k».proof.Proof.Prog
public import proofs.«01_k».proof.Proof.Gen.KernelIdeal.Points

@[expose] public section

set_option maxRecDepth 100000
set_option maxHeartbeats 1000000

noncomputable section

namespace Cert.KernelIdeal.Ring

open Idealize.ShloMosaic Idealize.ShloMosaic.TcCoe Idealize.SL.Sem
open Cert.KernelIdeal Cert.KernelIdeal.Gen

variable {F : FTy → Type} [FloatOps F]

/-- Two programs that start with the same operation and go on alike are the same. -/
theorem op_step {E : Type → Type _} {α β : Type} {e e' : E β} {k k' : β → Prog E α} (h : e = e') (hk : ∀ x, k x = k' x) :
    Prog.op e k = Prog.op e' k' := by
  subst h; exact congrArg _ (funext hk)

theorem body_eq (t : Fin cfg0.N) : bodyAt0 (F := F) t = body := by
  rw [bodyAt0, cc0_body_eq_skeleton]
  repeat (refine op_step rfl fun x => ?_)
  rfl

end Cert.KernelIdeal.Ring

end
-- ==== Proof.Proto.lean ====
/-
  The protocol between the devices.

  Every device runs one round on each of its semaphores.

  * The barrier. A device signals each of the fifteen others once and waits for fifteen units. The signal that
    device `sh d c` sends to `c` hands over slot `d` of its table of histograms, which `c`'s copy at distance `d`
    will fill; the right and the left neighbour's signals also hand over slot 1 of the weight buffer that `c`'s
    first copy in that direction will fill.
  * A copy's two ends. The receiving semaphore's unit hands the receiver its slot with the contents that landed:
    at hop `h` the weights of the device `h + 1` places up the ring, or the histogram of the device `k` places to
    the left. The sending semaphore's unit hands the sender the share of the source it lent.
  * The credits. When the copy of hop `h` has left its slot, the device puts the slot down for the neighbour that
    sends to it and signals that neighbour. A device may be a unit ahead of the neighbour's waits, so the slot
    itself lies in an invariant (`Release`) and the unit carries only the fact that it lies there.
-/
module

public import proofs.«01_k».proof.Proof.Geo
public import proofs.«01_k».proof.Proof.BodyEq
public import proofs.«01_k».proof.Proof.Gen.KernelIdeal.Launch
public import Idealize.ShloMosaic.Lib.Pipeline.Launch
public import Idealize.ShloMosaic.Lib.Pipeline.Kit
public import Idealize.ShloMosaic.Lib.Release
public import Idealize.ShloMosaic.Lib.MemrefSat
public import Idealize.ShloMosaic.Lib.Tactic

@[expose] public section

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release (slot released readerAt writeTok slotInv USlots)
open Cert.KernelIdeal Cert.KernelIdeal.Gen

variable {F : FTy → Type} [FloatOps F]

/-! ## The resources -/

/-- A direction's slot as a key of the slot library: the device it lies on, the direction, the hop after whose
    copy it is put down. -/
abbrev Key : Type := Dev nD × Bool × ℕ
abbrev UB : Type := URounds (GSem nD τ sig) ℕ
abbrev UU : Type := UR sig nD τ × (UB × USlots Key)

abbrev 𝒱₀ : Variants := Variants.none

local notation "𝕄" => MT nD τ sig ℕ (Elt F) ℕ UU ℕ

abbrev EP : Emb (UR sig nD τ) (MT nD τ sig ℕ (Elt F) ℕ UU ℕ) := embL
abbrev EB : Emb (UB × USlots Key) (MT nD τ sig ℕ (Elt F) ℕ UU ℕ) := embR
abbrev ER : Emb UB (MT nD τ sig ℕ (Elt F) ℕ UU ℕ) := (Emb.inl : Emb UB (UB × USlots Key)).trans EB
abbrev EW : Emb (USlots Key) (MT nD τ sig ℕ (Elt F) ℕ UU ℕ) := (Emb.inr : Emb (USlots Key) (UB × USlots Key)).trans EB

/-! ## The ring -/

/-- Where direction `d`'s copies go, and the device whose weights are there after `h` hops. -/
def nb (d : Bool) (c : Dev nD) : Dev nD := sh (bif d then 15 else 1) c
def orig (d : Bool) (h : ℕ) (c : Dev nD) : Dev nD := sh (bif d then h else 16 - h) c

theorem sh_sh (a b : ℕ) (c : Dev nD) : sh a (sh b c) = sh (a + b) c := by
  unfold sh; apply Fin.ext; dsimp only; omega
theorem sh_16 (c : Dev nD) : sh 16 c = c := by
  unfold sh; apply Fin.ext; dsimp only; have : c.val < 16 := c.isLt; omega
theorem sh_inv {a b : ℕ} (h : a + b = 16) (c : Dev nD) : sh a (sh b c) = c := by rw [sh_sh, h, sh_16]
theorem nb_nb (d : Bool) (c : Dev nD) : nb (!d) (nb d c) = c := by cases d <;> exact sh_inv rfl c
theorem nb_nb' (d : Bool) (c : Dev nD) : nb d (nb (!d) c) = c := by cases d <;> exact sh_inv rfl c
theorem orig_zero (d : Bool) (c : Dev nD) : orig d 0 c = c := by
  cases d
  · exact sh_16 c
  · unfold orig sh; apply Fin.ext; have : c.val < 16 := c.isLt; dsimp only [cond_true]; omega
theorem orig_succ (d : Bool) (h : ℕ) (hh : h < 8) (c : Dev nD) : orig d (h + 1) (nb d c) = orig d h c := by
  cases d <;> (unfold orig nb sh; apply Fin.ext; have : c.val < 16 := c.isLt; dsimp only [cond_true, cond_false]; omega)

/-! ## The cells -/

abbrev baC (c : Dev nD) : GSem nD τ sig := ((c : Thread nD τ), .reg baS)
abbrev crC (d : Bool) (c : Dev nD) : GSem nD τ sig := ((c : Thread nD τ), .reg (crS d))
abbrev wsC (d : Bool) (h : ℕ) (c : Dev nD) : GSem nD τ sig := ((c : Thread nD τ), .dma (wsS d (f8 h)))
abbrev wrC (d : Bool) (h : ℕ) (c : Dev nD) : GSem nD τ sig := ((c : Thread nD τ), .dma (wrS d (f8 h)))
abbrev hsC (k : ℕ) (c : Dev nD) : GSem nD τ sig := ((c : Thread nD τ), .dma (hsS (f16 k)))
abbrev hrC (k : ℕ) (c : Dev nD) : GSem nD τ sig := ((c : Thread nD τ), .dma (hrS (f16 k)))

/-- The kernel's own semaphores: all but the four the staging uses. -/
def isOwn : SemLoc sig → Bool
  | .reg _ => true
  | .dma q => decide (4 ≤ q.val)
def ownSems : Finset (SemLoc sig) := Finset.univ.filter (fun sm => isOwn sm = true)

/-- What a copy of a slot, of half a slot, of a histogram credits. -/
def NW : ℕ := (slotM false 0).view.dmaCredit
def NF : ℕ := (halfM false 0).view.dmaCredit
def NH : ℕ := (histM 0).view.dmaCredit
theorem NW_pos : 0 < NW := View.dmaCredit_pos _ (by decide)
theorem NF_pos : 0 < NF := View.dmaCredit_pos _ (by decide)
theorem NH_pos : 0 < NH := View.dmaCredit_pos _ (by decide)
theorem slot_credit : ∀ d k, (slotM d k).view.dmaCredit = NW
  | false, _ => rfl
  | true, _ => rfl
theorem half_credit : ∀ d k, (halfM d k).view.dmaCredit = NF
  | false, _ => rfl
  | true, _ => rfl
theorem hist_credit (k) : (histM k).view.dmaCredit = NH := rfl
theorem hM_credit : (hM : Memref sig .tc .vmem S8x128 .i32).view.dmaCredit = NH := rfl

/-- Hop `h`'s amount. -/
def amtW (h : ℕ) : ℕ := if h < 7 then NW else NF

/-! ## Contents and shares -/

variable (wt : Dev nD → S4x512x1024.Idx → Elt F .bf16) (hi : Dev nD → S8x128.Idx → Elt F .i32)

/-- The share of the histogram still held after `k` copies of it have been started; the share the next lends. -/
def hrem : ℕ → PosShare TreeShare
  | 0 => fullShare
  | k + 1 => (hrem k).right
def hlend (k : ℕ) : PosShare TreeShare := (hrem (k - 1)).left

/-- The share of its source that hop `h`'s copy borrows, with what it holds; and what it lands. -/
def lentP (d : Bool) (h : ℕ) (c : Dev nD) : sProp 𝕄 :=
  if h < 7 then owns (c : Thread nD τ) (slotM d (par h)) fullShare.left (wt (orig d h c))
  else owns (c : Thread nD τ) (halfM d 1) fullShare.left (halfOf d (wt (orig d 7 c)))
def landP (d : Bool) (h : ℕ) (c : Dev nD) : sProp 𝕄 :=
  if h < 7 then owns (c : Thread nD τ) (slotM d (par (h + 1))) fullShare (wt (orig d (h + 1) c))
  else owns (c : Thread nD τ) (halfM d 0) fullShare (halfOf d (wt (orig d 8 c)))
def hlentP (k : ℕ) (c : Dev nD) : sProp 𝕄 := owns (c : Thread nD τ) hM (hlend k) (hi c)
def hlandP (k : ℕ) (c : Dev nD) : sProp 𝕄 := owns (c : Thread nD τ) (histM (f16 k)) fullShare (hi (sh (16 - k) c))

/-- A slot at whatever contents: what a copy needs of its destination. -/
def freeS (d : Bool) (k : Fin 2) (c : Dev nD) : sProp 𝕄 := slot ((slotM d k).view.loc (c : Thread nD τ)) (slotM d k).view.set
def freeH (d : Bool) (k : Fin 2) (c : Dev nD) : sProp 𝕄 := slot ((halfM d k).view.loc (c : Thread nD τ)) (halfM d k).view.set
def freeA (k : ℕ) (c : Dev nD) : sProp 𝕄 := slot ((histM (f16 k)).view.loc (c : Thread nD τ)) (histM (f16 k)).view.set

/-- What lies in the invariant of a key. -/
def slotRes (k : Key) : sProp 𝕄 := if k.2.2 < 6 then freeS k.2.1 (par k.2.2) k.1 else freeH k.2.1 0 k.1
/-- A device's slots of direction `d` put down up to hop `h`. -/
def freed (d : Bool) (h : ℕ) (c : Dev nD) : sProp 𝕄 := bigSep (Finset.range (h + 1)) fun j => released EW ((c, d, j) : Key) 1

/-- What the barrier signal of `sh d c` hands `c`. -/
def barP (d : ℕ) (c : Dev nD) : sProp 𝕄 :=
  iprop(freeA d (sh d c) ∗ (if d = 1 then freeS false 1 (sh d c) else if d = 15 then freeS true 1 (sh d c) else iprop(emp)))

instance freeS_storable (d k c) : BI.Storable (upEmb : UEmb _ 𝕄) (freeS (F := F) d k c) := by unfold freeS; infer_instance
instance freeH_storable (d k c) : BI.Storable (upEmb : UEmb _ 𝕄) (freeH (F := F) d k c) := by unfold freeH; infer_instance
instance freeA_storable (k c) : BI.Storable (upEmb : UEmb _ 𝕄) (freeA (F := F) k c) := by unfold freeA; infer_instance
instance slotRes_storable (k : Key) : BI.Storable (upEmb : UEmb _ 𝕄) (slotRes (F := F) k) := by unfold slotRes; split <;> infer_instance
instance freed_storable (d h c) : BI.Storable (upEmb : UEmb _ 𝕄) (freed (F := F) d h c) := by unfold freed; infer_instance
instance freed_persistent (d h c) : BI.Persistent (freed (F := F) d h c) := by unfold freed; infer_instance
instance barP_storable (d c) : BI.Storable (upEmb : UEmb _ 𝕄) (barP (F := F) d c) := by unfold barP; (repeat' split) <;> infer_instance
instance lentP_storable (d h c) : BI.Storable (upEmb : UEmb _ 𝕄) (lentP wt d h c) := by unfold lentP; split <;> infer_instance
instance landP_storable (d h c) : BI.Storable (upEmb : UEmb _ 𝕄) (landP wt d h c) := by unfold landP; split <;> infer_instance
instance hlentP_storable (k c) : BI.Storable (upEmb : UEmb _ 𝕄) (hlentP hi k c) := by unfold hlentP; infer_instance
instance hlandP_storable (k c) : BI.Storable (upEmb : UEmb _ 𝕄) (hlandP hi k c) := by unfold hlandP; infer_instance

/-! ## The schedule -/

/-- The payload of a copy's semaphore, by its place among them. -/
def dmaP (n : ℕ) (c : Dev nD) : sProp 𝕄 :=
  if n < 4 then iprop(emp) else if n < 12 then lentP wt false (n - 4) c else if n < 20 then landP wt false (n - 12) c
  else if n < 28 then lentP wt true (n - 20) c else if n < 36 then landP wt true (n - 28) c
  else if n < 52 then hlentP hi (n - 36) c else hlandP hi (n - 52) c
/-- Its amount. -/
def dmaA (n : ℕ) : ℕ := if n < 36 then amtW ((n - 4) % 8) else NH

theorem dmaA_lt {n : ℕ} (h : n < 36) : dmaA n = amtW ((n - 4) % 8) := if_pos h
theorem dmaA_ge {n : ℕ} (h : ¬n < 36) : dmaA n = NH := if_neg h

def dutS : SemLoc sig → Finset ℕ
  | .reg s => if s = baS then Finset.Ico 1 16 else Finset.range 7
  | .dma q => if q.val < 4 ∨ q.val = 36 ∨ q.val = 52 then ∅ else {0}
def amtS : SemLoc sig → ℕ
  | .reg _ => 1
  | .dma q => dmaA q.val
def payS (c : Dev nD) (d : ℕ) : SemLoc sig → sProp 𝕄
  | .reg s => if s = baS then barP d c else if s = crS false then freed false d (nb false c) else freed true d (nb true c)
  | .dma q => dmaP wt hi q.val c

theorem dutS_reg (s) : dutS (.reg s) = if s = baS then Finset.Ico 1 16 else Finset.range 7 := rfl
theorem dutS_dma (q) : dutS (.dma q) = if q.val < 4 ∨ q.val = 36 ∨ q.val = 52 then ∅ else {0} := rfl
theorem payS_reg (c d s) : payS wt hi c d (.reg s) =
    if s = baS then barP d c else if s = crS false then freed false d (nb false c) else freed true d (nb true c) := rfl

theorem amtW_pos (h : ℕ) : 0 < amtW h := by unfold amtW; split; exacts [NW_pos, NF_pos]
theorem amtS_pos : ∀ sm, 0 < amtS sm
  | .reg _ => Nat.one_pos
  | .dma q => by
    show 0 < dmaA q.val
    unfold dmaA; split; exacts [amtW_pos _, NH_pos]

def sched : Rounds.Schedule (GSem nD τ sig) ℕ 𝕄 where
  duties g r := if r = 0 ∧ g.1.2 = .tc then dutS g.2 else ∅
  unitless _ := False
  amount g _ _ := amtS g.2
  payload g _ d := payS wt hi g.1.1 d g.2
  amount_pos g _ _ _ := amtS_pos g.2

instance payS_storable (c d) : ∀ sm, BI.Storable (upEmb : UEmb _ 𝕄) (payS wt hi c d sm)
  | .reg s => by rw [payS_reg]; (repeat' split) <;> infer_instance
  | .dma q => by
    show BI.Storable (upEmb : UEmb _ 𝕄) (dmaP wt hi q.val c)
    unfold dmaP; (repeat' split) <;> infer_instance
instance sched_storable (g : GSem nD τ sig) (r d : ℕ) : BI.Storable (upEmb : UEmb _ 𝕄) ((sched wt hi).payload g r d) :=
  payS_storable wt hi g.1.1 d g.2

theorem payload_eq (c : Dev nD) (sm : SemLoc sig) (d : ℕ) : (sched wt hi).payload ((c : Thread nD τ), sm) 0 d = payS wt hi c d sm := rfl
theorem duties_zero (c : Dev nD) (sm : SemLoc sig) : (sched wt hi).duties ((c : Thread nD τ), sm) 0 = dutS sm := by
  dsimp only [sched]; exact if_pos ⟨rfl, rfl⟩
theorem duties_later (g : GSem nD τ sig) : ∀ r, 1 ≤ r → (sched wt hi).duties g r = ∅ :=
  fun r hr => by dsimp only [sched]; exact if_neg fun h => by omega
theorem expect_dma (c : Dev nD) (q : DmaSem sig) (h : dutS (.dma q) = {0}) : (sched wt hi).expect ((c : Thread nD τ), .dma q) 0 = dmaA q.val := by
  unfold Schedule.expect Schedule.amountOf
  rw [duties_zero, h, Finset.sum_singleton]; rfl
theorem dut_ba : dutS (.reg baS) = Finset.Ico 1 16 := by rw [dutS_reg, if_pos rfl]
theorem dut_cr (d : Bool) : dutS (.reg (crS d)) = Finset.range 7 := by rw [dutS_reg, if_neg (by cases d <;> decide)]
theorem dut_ws (d : Bool) (h : Fin 8) : dutS (.dma (wsS d h)) = {0} := by rw [dutS_dma, if_neg (by revert d h; decide)]
theorem dut_wr (d : Bool) (h : Fin 8) : dutS (.dma (wrS d h)) = {0} := by rw [dutS_dma, if_neg (by revert d h; decide)]
theorem dut_hs (k : Fin 16) (hk : k ≠ 0) : dutS (.dma (hsS k)) = {0} := by rw [dutS_dma, if_neg (by revert k; decide)]
theorem dut_hr (k : Fin 16) (hk : k ≠ 0) : dutS (.dma (hrS k)) = {0} := by rw [dutS_dma, if_neg (by revert k; decide)]
theorem amt_ws (d : Bool) (h : Fin 8) : amtS (.dma (wsS d h)) = amtW h.val :=
  (dmaA_lt (by revert d h; decide)).trans (congrArg amtW (by revert d h; decide))
theorem amt_wr (d : Bool) (h : Fin 8) : amtS (.dma (wrS d h)) = amtW h.val :=
  (dmaA_lt (by revert d h; decide)).trans (congrArg amtW (by revert d h; decide))
theorem amt_hs (k : Fin 16) : amtS (.dma (hsS k)) = NH := dmaA_ge (by revert k; decide)
theorem amt_hr (k : Fin 16) : amtS (.dma (hrS k)) = NH := dmaA_ge (by revert k; decide)

theorem pay_ba (c : Dev nD) (d : ℕ) : payS wt hi c d (.reg baS) = barP d c := by rw [payS_reg, if_pos rfl]
theorem pay_cr (c : Dev nD) (i : ℕ) : ∀ d, payS wt hi c i (.reg (crS d)) = freed d i (nb d c)
  | false => by rw [payS_reg, if_neg (by decide), if_pos rfl]
  | true => by rw [payS_reg, if_neg (by decide), if_neg (by decide)]
theorem pay_ws (c : Dev nD) (i : ℕ) (h : Fin 8) : ∀ d, payS wt hi c i (.dma (wsS d h)) = lentP wt d h.val c
  | false => by
    show dmaP wt hi (4 + h.val) c = _
    unfold dmaP; rw [if_neg (by omega), if_pos (by omega), Nat.add_sub_cancel_left]
  | true => by
    show dmaP wt hi (20 + h.val) c = _
    unfold dmaP; rw [if_neg (by omega), if_neg (by omega), if_neg (by omega), if_pos (by omega), Nat.add_sub_cancel_left]
theorem pay_wr (c : Dev nD) (i : ℕ) (h : Fin 8) : ∀ d, payS wt hi c i (.dma (wrS d h)) = landP wt d h.val c
  | false => by
    show dmaP wt hi (12 + h.val) c = _
    unfold dmaP; rw [if_neg (by omega), if_neg (by omega), if_pos (by omega), Nat.add_sub_cancel_left]
  | true => by
    show dmaP wt hi (28 + h.val) c = _
    unfold dmaP; rw [if_neg (by omega), if_neg (by omega), if_neg (by omega), if_neg (by omega), if_pos (by omega), Nat.add_sub_cancel_left]
theorem pay_hs (c : Dev nD) (i : ℕ) (k : Fin 16) : payS wt hi c i (.dma (hsS k)) = hlentP hi k.val c := by
  show dmaP wt hi (36 + k.val) c = _
  unfold dmaP
  rw [if_neg (by omega), if_neg (by omega), if_neg (by omega), if_neg (by omega), if_neg (by omega), if_pos (by omega), Nat.add_sub_cancel_left]
theorem pay_hr (c : Dev nD) (i : ℕ) (k : Fin 16) : payS wt hi c i (.dma (hrS k)) = hlandP hi k.val c := by
  show dmaP wt hi (52 + k.val) c = _
  unfold dmaP
  rw [if_neg (by omega), if_neg (by omega), if_neg (by omega), if_neg (by omega), if_neg (by omega), if_neg (by omega), Nat.add_sub_cancel_left]

/-! ## What a device owes, and the levels -/

/-- One payment: the cell, the index it is booked at, the amount. The credits of the seven hops are booked at the
    hop's number, everything else at 0. -/
abbrev Due : Type := GSem nD τ sig × ℕ × ℕ
def pile : List Due → CellTallies nD τ sig ℕ
  | [] => 0
  | x :: l => pile l + tallyAt x.1 x.2.1 x.2.2

def barDue (c : Dev nD) (k : ℕ) : Due := (baC (sh k c), 0, 1)
def histDue (c : Dev nD) (k : ℕ) : Due := (hrC k (sh k c), 0, NH)
def sendDue (c : Dev nD) (d : Bool) (h : ℕ) : Due := (wrC d h (nb d c), 0, amtW h)
def credDue (c : Dev nD) (d : Bool) (h : ℕ) : Due := (crC d (nb (!d) c), h, 1)
def barsFrom (c : Dev nD) (s n : ℕ) : List Due := (List.range' s n).map (barDue c)
def histsFrom (c : Dev nD) (s n : ℕ) : List Due := (List.range' s n).map (histDue c)
def hopDues (c : Dev nD) (h : ℕ) : List Due := [credDue c false h, credDue c true h, sendDue c false (h + 1), sendDue c true (h + 1)]
def hopsFrom (c : Dev nD) (h n : ℕ) : List Due := (List.range' h n).flatMap (hopDues c)
/-- After the histograms: the weights. -/
def tailDue (c : Dev nD) : List Due := sendDue c false 0 :: sendDue c true 0 :: hopsFrom c 0 7
def allDue (c : Dev nD) : List Due := barsFrom c 1 15 ++ (histsFrom c 1 15 ++ tailDue c)

theorem hopsFrom_succ (c : Dev nD) (h n : ℕ) : hopsFrom c h (n + 1) =
    credDue c false h :: credDue c true h :: sendDue c false (h + 1) :: sendDue c true (h + 1) :: hopsFrom c (h + 1) n := rfl

/-- Levels: the barrier below the copies, and along the hops each landing below the credit that follows it, each
    credit below the next landing. -/
def lvS : SemLoc sig → ℕ → ℕ
  | .reg s, i => if s = baS then 1 else 2 * i + 3
  | .dma q, _ => if q.val < 12 then 0 else if q.val < 20 then 2 * (q.val - 12) + 2 else if q.val < 28 then 0
      else if q.val < 36 then 2 * (q.val - 28) + 2 else if q.val < 52 then 0 else 2
def L (g : GSem nD τ sig) : Finset ℕ := if g.1.2 = .tc then Finset.range 8 else ∅
def lv (g : GSem nD τ sig) (i : ℕ) : ℕ := lvS g.2 i

theorem L_tc (g : GSem nD τ sig) (h : g.1.2 = .tc) : L g = Finset.range 8 := if_pos h
theorem lvS_reg (s i) : lvS (.reg s) i = if s = baS then 1 else 2 * i + 3 := rfl
theorem lv_ba (i : ℕ) : lvS (.reg baS) i = 1 := by rw [lvS_reg, if_pos rfl]
theorem lv_cr (i : ℕ) (d : Bool) : lvS (.reg (crS d)) i = 2 * i + 3 := by rw [lvS_reg, if_neg (by cases d <;> decide)]
theorem lv_ws (i : ℕ) (d : Bool) (h : Fin 8) : lvS (.dma (wsS d h)) i = 0 := by unfold lvS; dsimp only; revert d h; decide
theorem lv_wr (i : ℕ) (d : Bool) (h : Fin 8) : lvS (.dma (wrS d h)) i = 2 * h.val + 2 := by unfold lvS; dsimp only; revert d h; decide
theorem lv_hr (i : ℕ) (k : Fin 16) : lvS (.dma (hrS k)) i = 2 := by unfold lvS; dsimp only; revert k; decide

/-- A payment to a TensorCore's cell at a booked index, above level `b`. -/
def Above (b : ℕ) (x : Due) : Prop := x.1.1.2 = .tc ∧ x.2.1 < 8 ∧ b < lvS x.1.2 x.2.1

theorem pile_pos {l : List Due} {g : GSem nD τ sig} {i : ℕ} (h : 0 < pile l g i) : ∃ x ∈ l, g = x.1 ∧ i = x.2.1 := by
  induction l with
  | nil => exact absurd h (Nat.lt_irrefl 0)
  | cons x l ih =>
    unfold pile at h
    rw [Pi.add_apply, Finsupp.add_apply, tallyAt_apply] at h
    by_cases hx : g = x.1 ∧ i = x.2.1
    · exact ⟨x, List.mem_cons_self, hx⟩
    · rw [if_neg hx] at h
      obtain ⟨y, hy, e⟩ := ih h
      exact ⟨y, List.mem_cons_of_mem _ hy, e⟩

theorem mayWait_pile (c : Dev nD) (sm : SemLoc sig) (i : ℕ) (l : List Due) (hi : i < 8) (h : ∀ x ∈ l, Above (lvS sm i) x) :
    (levAts L lv : sProp 𝕄) ⊢ MayWait (c : Thread nD τ) sm i (pile l) :=
  MayOwe.of_cut (L := L) (lev := lv) (lvS sm i)
    (fun p hp => by rw [Finset.mem_singleton.mp hp]; rw [L_tc _ rfl]; exact Finset.mem_range.2 hi)
    (fun g u hg => by
      obtain ⟨x, hx, rfl, rfl⟩ := pile_pos hg
      have := h x hx
      rw [L_tc _ this.1]; exact Finset.mem_range.2 this.2.1)
    (fun p hp => by rw [Finset.mem_singleton.mp hp]; exact le_refl _)
    (fun g u hg => by obtain ⟨x, hx, rfl, rfl⟩ := pile_pos hg; exact (h x hx).2.2)

theorem above_bar (c : Dev nD) (k : ℕ) : Above 0 (barDue c k) := ⟨rfl, Nat.zero_lt_succ 7, by show 0 < lvS (.reg baS) 0; rw [lv_ba]; decide⟩
theorem above_hist (c : Dev nD) (k : ℕ) : Above 1 (histDue c k) := ⟨rfl, Nat.zero_lt_succ 7, by show 1 < lvS (.dma (hrS (f16 k))) 0; rw [lv_hr]; decide⟩
theorem above_send (c : Dev nD) (d : Bool) (h b : ℕ) (hh : h < 8) (hb : b < 2 * h + 2) : Above b (sendDue c d h) :=
  ⟨rfl, Nat.zero_lt_succ 7, by show b < lvS (.dma (wrS d (f8 h))) 0; rw [lv_wr]; show b < 2 * (h % 8) + 2; omega⟩
theorem above_cred (c : Dev nD) (d : Bool) (h b : ℕ) (hh : h < 7) (hb : b < 2 * h + 3) : Above b (credDue c d h) :=
  ⟨rfl, by show h < 8; omega, by show b < lvS (.reg (crS d)) h; rw [lv_cr]; exact hb⟩
theorem above_hops (c : Dev nD) (h n b : ℕ) (hn : h + n ≤ 7) (hb : b < 2 * h + 3) : ∀ x ∈ hopsFrom c h n, Above b x := by
  induction n generalizing h with
  | zero => intro x hx; exact absurd hx List.not_mem_nil
  | succ n ih =>
    rw [hopsFrom_succ]
    simp only [List.forall_mem_cons]
    exact ⟨above_cred c _ h b (by omega) hb, above_cred c _ h b (by omega) hb, above_send c _ _ b (by omega) (by omega), above_send c _ _ b (by omega) (by omega),
      ih (h + 1) (by omega) (by omega)⟩
theorem above_mono {b b' : ℕ} (h : b ≤ b') {x : Due} (hx : Above b' x) : Above b x := ⟨hx.1, hx.2.1, lt_of_le_of_lt h hx.2.2⟩
theorem above_tail (c : Dev nD) : ∀ x ∈ tailDue c, Above 1 x := by
  unfold tailDue
  simp only [List.forall_mem_cons]
  exact ⟨above_send c _ 0 1 (by decide) (by decide), above_send c _ 0 1 (by decide) (by decide), above_hops c 0 7 1 (by decide) (by decide)⟩
theorem above_hists (c : Dev nD) (s n : ℕ) : ∀ x ∈ histsFrom c s n ++ tailDue c, Above 1 x := by
  intro x hx
  rcases List.mem_append.1 hx with hx | hx
  · obtain ⟨k, -, rfl⟩ := List.mem_map.1 hx; exact above_hist c k
  · exact above_tail c x hx
theorem above_all (c : Dev nD) : ∀ x ∈ allDue c, Above 0 x := by
  intro x hx
  rcases List.mem_append.1 hx with hx | hx
  · obtain ⟨k, -, rfl⟩ := List.mem_map.1 hx; exact above_bar c k
  · exact above_mono (by decide) (above_hists c 1 15 x hx)

/-! ## What every device knows -/

def cells : Finset (Dev nD × SemLoc sig) := Finset.univ ×ˢ ownSems
def keys : Finset Key := Finset.univ ×ˢ (Finset.univ ×ˢ Finset.range 7)

variable (K : Dev nD × SemLoc sig → ℕ) (KS : Key → ℕ)

/-- Every cell's invariant with its first round reached, every slot's invariant, the levels. -/
def know : sProp 𝕄 :=
  iprop(bigSep cells (fun x => iprop(cellInv ER (sched wt hi) (K x) ((x.1 : Thread nD τ), x.2) ∗ reached ER ((x.1 : Thread nD τ), x.2) 0))
    ∗ bigSep keys (fun k => slotInv EW (KS k) k (slotRes k)) ∗ levAts L lv)

instance know_persistent : BI.Persistent (know wt hi K KS) := by unfold know; infer_instance

theorem mem_cells (c : Dev nD) (sm : SemLoc sig) (h : isOwn sm = true) : (c, sm) ∈ cells :=
  Finset.mem_product.2 ⟨Finset.mem_univ _, Finset.mem_filter.2 ⟨Finset.mem_univ _, h⟩⟩
theorem mem_keys (c : Dev nD) (d : Bool) (h : ℕ) (hh : h < 7) : ((c, d, h) : Key) ∈ keys :=
  Finset.mem_product.2 ⟨Finset.mem_univ _, Finset.mem_product.2 ⟨Finset.mem_univ _, Finset.mem_range.2 hh⟩⟩

theorem know_cell (c : Dev nD) (sm : SemLoc sig) (h : isOwn sm = true) :
    know wt hi K KS ⊢ iprop(cellInv ER (sched wt hi) (K (c, sm)) ((c : Thread nD τ), sm) ∗ reached ER ((c : Thread nD τ), sm) 0) := by
  unfold know
  exact (Laws.sep_and.trans and_elimL).trans (bigSep_elim (i := (c, sm)) (mem_cells c sm h))
theorem know_slot (c : Dev nD) (d : Bool) (h : ℕ) (hh : h < 7) :
    know wt hi K KS ⊢ slotInv EW (KS (c, d, h)) (c, d, h) (slotRes (F := F) (c, d, h)) := by
  unfold know
  exact ((Laws.sep_and.trans and_elimR).trans (Laws.sep_and.trans and_elimL)).trans (bigSep_elim (i := ((c, d, h) : Key)) (mem_keys c d h hh))
theorem know_lev : know wt hi K KS ⊢ levAts L lv := by
  unfold know; iintro ⟨-, -, H⟩; iexact H

set_option maxRecDepth 8000 in
theorem know_wait (c : Dev nD) (sm : SemLoc sig) (i : ℕ) (l : List Due) (hi' : i < 8) (h : ∀ x ∈ l, Above (lvS sm i) x) :
    know wt hi K KS ⊢ (MayWait (c : Thread nD τ) sm i (pile l) : sProp 𝕄) :=
  BIBase.Entails.trans (know_lev wt hi K KS) (mayWait_pile c sm i l hi' h)

/-! ## Big conjunctions, as the proof mode reads them -/

theorem sepElim {I : Type} [DecidableEq I] {s : Finset I} {i : I} (hi : i ∈ s) (Φ : I → sProp 𝕄) : bigSep s Φ ⊢ Φ i := bigSep_elim hi
theorem sepSplit {I : Type} [DecidableEq I] {s t : Finset I} (h : t ⊆ s) (Φ : I → sProp 𝕄) :
    iprop(bigSep t Φ ∗ bigSep (s \ t) Φ) ⊢ bigSep s Φ := Entails.of_eq (bigSep_sdiff_split h).symm
theorem sepInsert {I : Type} [DecidableEq I] {s : Finset I} {i : I} (h : i ∉ s) (Φ : I → sProp 𝕄) :
    iprop(Φ i ∗ bigSep s Φ) ⊢ bigSep (insert i s) Φ := Entails.of_eq (bigSep_insert h).symm
theorem sepTake {I : Type} [DecidableEq I] {s : Finset I} {i : I} (h : i ∉ s) (Φ : I → sProp 𝕄) :
    bigSep (insert i s) Φ ⊢ iprop(Φ i ∗ bigSep s Φ) := Entails.of_eq (bigSep_insert h)
theorem sepMono {I : Type} {s : Finset I} {Φ Ψ : I → sProp 𝕄} (h : ∀ i ∈ s, Φ i ⊢ Ψ i) : bigSep s Φ ⊢ bigSep s Ψ := bigSep_mono h

end Cert.KernelIdeal.Ring

end
-- ==== Proof.Steps.lean ====
/-
  One step of the protocol at a time: a signal, a copy, a wait for a copy's end, the wait at the barrier, the wait
  for a credit, and the slots put down and taken. Each says what the step needs and what it leaves.
-/
module

public import proofs.«01_k».proof.Proof.Proto

@[expose] public section

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release (slot released readerAt writeTok slotInv USlots slot_take slot_release slot_slot_false)
open Cert.KernelIdeal Cert.KernelIdeal.Gen

variable {F : FTy → Type} [FloatOps F]

local notation "𝕄" => MT nD τ sig ℕ (Elt F) ℕ UU ℕ

/-- Device `c` running `p`, then `Q`. -/
abbrev run {α : Type} (c : Dev nD) (p : Body F α) (Q : α → sProp 𝕄) : sProp 𝕄 :=
  wp frame (wpE (defs₀ (F := F)) 𝒱₀ (c : Thread nD τ) none) Set.univ p Q

theorem run_bind {α β : Type} (c : Dev nD) (p : Body F α) (k : α → Body F β) (Q : β → sProp 𝕄) :
    run c (p >>= k) Q = run c p fun a => run c (k a) Q := wp_bind ..

/-- What device `c` still owes: the payments of the list. -/
def owesL (c : Dev nD) (l : List Due) : sProp 𝕄 := iprop(∃ W, owes (c : Thread nD τ) (pile l) W)

variable (wt : Dev nD → S4x512x1024.Idx → Elt F .bf16) (hi : Dev nD → S8x128.Idx → Elt F .i32)
variable (K : Dev nD × SemLoc sig → ℕ) (KS : Key → ℕ)

abbrev know' : sProp 𝕄 := know wt hi K KS

theorem run_ret {α : Type} (c : Dev nD) (a : α) (Q : α → sProp 𝕄) : Q a ⊢ run c (pure a) Q := by
  unfold run
  rw [Prog.pure_eq_ret, wp_ret]
  iintro H; imodintro; iexact H

/-- A signal of one unit, paying duty `j` of `c'`'s semaphore. -/
theorem signal_step (c c' : Dev nD) (s : Sem sig) (j i : ℕ) (l : List Due) (hj : j ∈ dutS (.reg s)) (Q : PUnit → sProp 𝕄) :
    iprop(know wt hi K KS ∗ owesL c ((((c' : Thread nD τ), .reg s), i, 1) :: l) ∗ dutyTok ER ((c' : Thread nD τ), .reg s) 0 j
        ∗ payS wt hi c' j (.reg s) ∗ (owesL c l -∗ Q ⟨⟩))
      ⊢ run c (semSignalWord c' s 1#32) Q := by
  unfold run semSignalWord owesL
  iintro ⟨#Hk, ⟨%W, HO⟩, Ht, Hp, HQ⟩
  ihave Hc := (know_cell wt hi K KS c' (.reg s) rfl) $$ Hk
  icases Hc with ⟨#Hi, #Hr⟩
  iapply (Rounds.wp_signal 𝒱₀ ER (sched wt hi) (c : Thread nD τ) none (dst := (c' : Thread nD τ)) (κ := K (c', .reg s)) (r := 0) (d := j)
      (by rw [duties_zero]; exact hj) (show _ = _ from (by decide : (1 : ℕ) = _)) i (pile l) rfl (W := W)) $$ [HO Ht Hp]
  · isplitr; · iexact Hi
    isplitl [HO]; · iexact HO
    isplitl [Ht]; · iexact Ht
    isplitl [Hp]; · rw [payload_eq]; iexact Hp
    iexact Hr
  iintro HO
  rw [wp_ret]; imodintro
  iapply HQ; iexists W; iexact HO

/-- A copy to `c'`: a share of the source lent, the destination's elements given. -/
theorem send_step {sh : Shape} {e : EltTy} (c c' : Dev nD) (src dst : Memref sig .tc .vmem sh e) (s r : DmaSem sig) (N : ℕ) (q : PosShare TreeShare)
    (X : sh.Idx → Elt F e) (l : List Due) (h1 : src.view.WordExact) (h2 : dst.view.WordExact)
    (h3 : DmaTarget.Typed .vmem (.dma r) (.remote (Dev.tc c' : Thread nD τ) dst (.dma s) rfl))
    (os : isOwn (.dma s) = true) (or : isOwn (.dma r) = true) (ds : dutS (.dma s) = {0}) (dr : dutS (.dma r) = {0})
    (hs : amtS (.dma s) = N) (hr : amtS (.dma r) = N) (hN : dst.view.amount (.dma r) = N)
    (hp1 : owns (c : Thread nD τ) src q X ⊢ payS wt hi c 0 (.dma s)) (hp2 : owns (c' : Thread nD τ) dst fullShare X ⊢ payS wt hi c' 0 (.dma r))
    (Q : PUnit → sProp 𝕄) :
    iprop(know wt hi K KS ∗ owns (c : Thread nD τ) src q X ∗ slot (dst.view.loc (c' : Thread nD τ)) dst.view.set
        ∗ owesL c ((((c' : Thread nD τ), .dma r), 0, N) :: l) ∗ dutyTok ER ((c : Thread nD τ), .dma s) 0 0 ∗ dutyTok ER ((c' : Thread nD τ), .dma r) 0 0
        ∗ (cred (tallyAt ((c : Thread nD τ), SemLoc.dma s) 0 N) ∗ owesL c l -∗ Q ⟨⟩))
      ⊢ run c (Prog.lift (.enqueueDma src (.remote (Dev.tc c') dst (.dma s)) (.dma r) h1 h2 h3)) Q := by
  unfold run Prog.lift owesL slot
  iintro ⟨#Hk, Hs, ⟨%fd, Hd⟩, ⟨%W, HO⟩, Hts, Htr, HQ⟩
  ihave Hc := (know_cell wt hi K KS c (.dma s) os) $$ Hk
  icases Hc with ⟨#Hi, #Hr⟩
  ihave Hc' := (know_cell wt hi K KS c' (.dma r) or) $$ Hk
  icases Hc' with ⟨#Hi', #Hr'⟩
  unfold owns
  icases Hs with ⟨%fs, %hfs, Hs⟩
  iapply (Rounds.wp_send_pointsTo 𝒱₀ ER (sched wt hi) (c : Thread nD τ) none (κ₁ := K (c, .dma s)) (κ₂ := K (c', .dma r)) (q := q) (fs := fs) (fd := fd)
      (r₁ := 0) (r₂ := 0) (d₁ := 0) (d₂ := 0) (sS := .dma s) (sem := .dma r)
      (by rw [duties_zero, ds]; exact Finset.mem_singleton_self _) (by rw [duties_zero, dr]; exact Finset.mem_singleton_self _)
      0 0 N hN hs hr (pile l) rfl (W := W)
      (by
        refine BIBase.Entails.trans ?_ hp1
        unfold owns
        iintro H; iexists fs; isplitr; · ipureintro; exact hfs
        iexact H)
      (by
        refine BIBase.Entails.trans ?_ hp2
        unfold owns
        iintro H; iexists (dst.view.write (Elt F) fd (src.view.read (Elt F) fs) Finset.univ); isplitr
        · ipureintro; exact (View.read_write_univ _ _).trans hfs
        iexact H)) $$ [Hs Hd HO Hts Htr]
  · isplitr; · iexact Hi
    isplitr; · iexact Hi'
    isplitl [Hs]; · iexact Hs
    isplitl [Hd]; · iexact Hd
    isplitl [HO]; · iexact HO
    isplitl [Hts]; · iexact Hts
    isplitr; · iexact Hr
    isplitl [Htr]; · iexact Htr
    iexact Hr'
  iintro ⟨Hc, HO⟩
  rw [wp_ret]; imodintro
  iapply HQ; isplitl [Hc]; · iexact Hc
  iexists W; iexact HO

/-- A wait for a copy's end; the semaphore's round is over, and the semaphore is back at zero. -/
theorem dwait_step {sh : Shape} {e : EltTy} (c : Dev nD) (src dst : Memref sig .tc .vmem sh e) (q : DmaSem sig) (N : ℕ) (l : List Due)
    (h1 : src.view.WordExact) (h2 : dst.view.WordExact) (oq : isOwn (.dma q) = true) (dq : dutS (.dma q) = {0}) (aq : amtS (.dma q) = N)
    (hN : dst.view.dmaCredit = N) (hl : ∀ x ∈ l, Above (lvS (.dma q) 0) x) (Q : PUnit → sProp 𝕄) :
    iprop(know wt hi K KS ∗ cred (tallyAt ((c : Thread nD τ), SemLoc.dma q) 0 N) ∗ owesL c l ∗ atPos ER ((c : Thread nD τ), .dma q) 0 ∅ 0
        ∗ (owesL c l ∗ payS wt hi c 0 (.dma q) ∗ semVal ((c : Thread nD τ), .dma q) 0 -∗ Q ⟨⟩))
      ⊢ run c (Prog.lift (.waitDma2 q src dst h1 h2)) Q := by
  unfold run Prog.lift owesL
  iintro ⟨#Hk, Hcr, ⟨%W, HO⟩, Hat, HQ⟩
  ihave Hc := (know_cell wt hi K KS c (.dma q) oq) $$ Hk
  icases Hc with ⟨#Hi, -⟩
  iapply (Rounds.wp_wait_rest_token 𝒱₀ ER (sched wt hi) (c : Thread nD τ) none (κ := K (c, .dma q))
      (wpE_waitDma2_eq 𝒱₀ (c : Thread nD τ) none Set.univ) (Set.mem_univ _) 0 (O := pile l) (W := W) (R := 0) (m := 0) (T := ∅)
      (by rw [Nat.zero_add, hN, expect_dma wt hi c q dq]; exact aq.symm)) $$ [Hcr HO Hat]
  · isplitr; · iexact Hi
    isplitl [Hcr]; · rw [hN]; iexact Hcr
    isplitl [HO]; · iexact HO
    isplitr; · iapply (know_wait wt hi K KS c (.dma q) 0 l (by decide) hl); iexact Hk
    iexact Hat
  iintro ⟨HO, Hat, -, Hpay⟩
  rw [wp_ret]
  imod (Rounds.cell_close ER (sched wt hi) (Set.mem_univ (K (c, .dma q))) (fun h => h) (R := 0 + 1) (duties_later wt hi ((c : Thread nD τ), .dma q))) $$ [Hat] with Hz
  · isplitr; · iexact Hi
    iexact Hat
  imodintro
  iapply HQ
  isplitl [HO]; · iexists _; iexact HO
  isplitl [Hpay]
  · rw [duties_zero, dq, Finset.sdiff_empty]; iapply (sepElim (Finset.mem_singleton_self 0) (fun d => payS wt hi c d (.dma q))); iexact Hpay
  iexact Hz

/-- The wait at the barrier: every other device's signal, with what it hands over. -/
theorem bar_step (c : Dev nD) (l : List Due) (hl : ∀ x ∈ l, Above 1 x) (Q : PUnit → sProp 𝕄) :
    iprop(know wt hi K KS ∗ cred (tallyAt (baC c) 0 15) ∗ owesL c l ∗ atPos ER (baC c) 0 ∅ 0
        ∗ (owesL c l ∗ bigSep (Finset.Ico 1 16) (fun d => barP (F := F) d c) ∗ semVal (baC c) 0 -∗ Q ⟨⟩))
      ⊢ run c (semWaitWord baS 15#32) Q := by
  unfold run semWaitWord owesL
  iintro ⟨#Hk, Hcr, ⟨%W, HO⟩, Hat, HQ⟩
  ihave Hc := (know_cell wt hi K KS c (.reg baS) rfl) $$ Hk
  icases Hc with ⟨#Hi, -⟩
  iapply (Rounds.wp_wait_rest_token 𝒱₀ ER (sched wt hi) (c : Thread nD τ) none (κ := K (c, .reg baS))
      (wpE_semWait_eq 𝒱₀ (c : Thread nD τ) none Set.univ) (Set.mem_univ _) 0 (O := pile l) (W := W) (R := 0) (m := 0) (T := ∅)
      (by
        unfold Schedule.expect Schedule.amountOf
        rw [duties_zero, dut_ba]
        show 0 + BitVec.toNat 15#32 = (∑ d ∈ Finset.Ico 1 16, 1)
        decide)) $$ [Hcr HO Hat]
  · isplitr; · iexact Hi
    isplitl [Hcr]; · iexact Hcr
    isplitl [HO]; · iexact HO
    isplitr; · iapply (know_wait wt hi K KS c (.reg baS) 0 l (by decide) (by rw [lv_ba]; exact hl)); iexact Hk
    iexact Hat
  iintro ⟨HO, Hat, -, Hpay⟩
  rw [wp_ret]
  imod (Rounds.cell_close ER (sched wt hi) (Set.mem_univ (K (c, .reg baS))) (fun h => h) (R := 0 + 1) (duties_later wt hi (baC c))) $$ [Hat] with Hz
  · isplitr; · iexact Hi
    iexact Hat
  imodintro
  iapply HQ
  isplitl [HO]; · iexists _; iexact HO
  isplitl [Hpay]
  · rw [duties_zero, dut_ba, Finset.sdiff_empty]
    iapply (sepMono (s := Finset.Ico 1 16) (fun d _ => Entails.of_eq (pay_ba wt hi c d))); iexact Hpay
  iexact Hz

/-- A device's place on a credit semaphore after `h` waits: some set of at least `h` of the signals is in. -/
def credSt (c : Dev nD) (d : Bool) (h : ℕ) : sProp 𝕄 :=
  iprop(∃ S : Finset ℕ, ⌜S ⊆ Finset.range 7 ∧ h + (Finset.range 7 \ S).card ≤ 7⌝ ∗ atPos ER (crC d c) 0 S h
    ∗ bigSep S (fun i => freed (F := F) d i (nb d c)))

/-- Among more than `h` signals there is one of number `h` at least. -/
theorem late {S : Finset ℕ} {h : ℕ} (hS : S ⊆ Finset.range 7) (hc : h + 1 + (Finset.range 7 \ S).card ≤ 7) : ∃ i ∈ S, h ≤ i := by
  by_contra hn
  push Not at hn
  have h1 : S ⊆ Finset.range h := fun i hi => Finset.mem_range.2 (hn i hi)
  have h2 := Finset.card_le_card h1
  have h3 := Finset.card_sdiff_add_card_eq_card hS
  rw [Finset.card_range] at h2 h3
  omega

/-- The wait for the `h`-th credit (from 0): the neighbour has put down the slot of hop `h`. A later credit may
    have been delivered in its stead; it says as much. -/
theorem cwait_step (c : Dev nD) (d : Bool) (h : ℕ) (hh : h < 7) (l : List Due) (hl : ∀ x ∈ l, Above (2 * h + 3) x) (Q : PUnit → sProp 𝕄) :
    iprop(know wt hi K KS ∗ cred (tallyAt (crC d c) h 1) ∗ owesL c l ∗ credSt c d h
        ∗ (owesL c l ∗ released EW ((nb d c, d, h) : Key) 1 ∗ credSt c d (h + 1) -∗ Q ⟨⟩))
      ⊢ run c (semWaitWord (crS d) 1#32) Q := by
  unfold run semWaitWord owesL credSt
  iintro ⟨#Hk, Hcr, ⟨%W, HO⟩, ⟨%T, %hT, Hat, #Hold⟩, HQ⟩
  ihave Hc := (know_cell wt hi K KS c (.reg (crS d)) rfl) $$ Hk
  icases Hc with ⟨#Hi, -⟩
  have hex : (sched wt hi).expect (crC d c) 0 = 7 := by
    unfold Schedule.expect Schedule.amountOf
    rw [duties_zero, dut_cr]; rfl
  iapply (Rounds.wp_wait 𝒱₀ ER (sched wt hi) (c : Thread nD τ) none (κ := K (c, .reg (crS d)))
      (wpE_semWait_eq 𝒱₀ (c : Thread nD τ) none Set.univ) (Set.mem_univ _) (cr := Finsupp.single h 1) (O := pile l) (W := W) (N := {(.reg (crS d), h)})
      (R := 0) (m := h) (T := T) (by rw [Util.total_single]; decide) (image_single_subset _ _ _)) $$ [Hcr HO Hat]
  · isplitr; · iexact Hi
    isplitl [Hcr]; · iexact Hcr
    isplitl [HO]; · iexact HO
    isplitr; · iapply (know_wait wt hi K KS c (.reg (crS d)) h l (by omega) (by rw [lv_cr]; exact hl)); iexact Hk
    iexact Hat
  iintro %S ⟨%hS, HO, Hat, Hnew⟩
  rw [hex, duties_zero, dut_cr] at hS
  have hS' : h + 1 + (Finset.range 7 \ S).card ≤ 7 := hS.2.2
  ihave Hall : (bigSep S (fun i => freed (F := F) d i (nb d c))) $$ [Hnew]
  · iapply (sepSplit hS.1 _)
    isplitr; · iexact Hold
    iapply (sepMono (s := S \ T) (fun i _ => Entails.of_eq (pay_cr wt hi c i d))); iexact Hnew
  ihave #Hall' := Hall
  obtain ⟨i, hi', hle⟩ := late hS.2.1 hS'
  rw [wp_ret]; imodintro
  iapply HQ
  isplitl [HO]; · iexists _; iexact HO
  isplitr
  · ihave Hf := (sepElim (Φ := fun i => freed (F := F) d i (nb d c)) hi') $$ Hall'
    unfold freed
    iapply (sepElim (Φ := fun j => released EW ((nb d c, d, j) : Key) 1) (Finset.mem_range.2 (by omega : h < i + 1))); iexact Hf
  iexists S
  isplitr; · ipureintro; exact ⟨hS.2.1, hS'⟩
  isplitl [Hat]; · iexact Hat
  iexact Hall'

/-- The seventh: with it the round is over, and the semaphore back at zero. -/
theorem cwait_last (c : Dev nD) (d : Bool) (l : List Due) (hl : ∀ x ∈ l, Above 15 x) (Q : PUnit → sProp 𝕄) :
    iprop(know wt hi K KS ∗ cred (tallyAt (crC d c) 6 1) ∗ owesL c l ∗ credSt c d 6
        ∗ (owesL c l ∗ released EW ((nb d c, d, 6) : Key) 1 ∗ semVal (crC d c) 0 -∗ Q ⟨⟩))
      ⊢ run c (semWaitWord (crS d) 1#32) Q := by
  unfold run semWaitWord owesL credSt
  iintro ⟨#Hk, Hcr, ⟨%W, HO⟩, ⟨%T, %hT, Hat, #Hold⟩, HQ⟩
  ihave Hc := (know_cell wt hi K KS c (.reg (crS d)) rfl) $$ Hk
  icases Hc with ⟨#Hi, -⟩
  have hex : (sched wt hi).expect (crC d c) 0 = 7 := by
    unfold Schedule.expect Schedule.amountOf
    rw [duties_zero, dut_cr]; rfl
  iapply (Rounds.wp_wait_rest_token 𝒱₀ ER (sched wt hi) (c : Thread nD τ) none (κ := K (c, .reg (crS d)))
      (wpE_semWait_eq 𝒱₀ (c : Thread nD τ) none Set.univ) (Set.mem_univ _) 6 (O := pile l) (W := W) (R := 0) (m := 6) (T := T)
      (by rw [hex]; decide)) $$ [Hcr HO Hat]
  · isplitr; · iexact Hi
    isplitl [Hcr]; · iexact Hcr
    isplitl [HO]; · iexact HO
    isplitr; · iapply (know_wait wt hi K KS c (.reg (crS d)) 6 l (by decide) (by rw [lv_cr]; exact hl)); iexact Hk
    iexact Hat
  iintro ⟨HO, Hat, -, Hnew⟩
  rw [wp_ret, duties_zero, dut_cr]
  imod (Rounds.cell_close ER (sched wt hi) (Set.mem_univ (K (c, .reg (crS d)))) (fun h => h) (R := 0 + 1) (duties_later wt hi (crC d c))) $$ [Hat] with Hz
  · isplitr; · iexact Hi
    iexact Hat
  imodintro
  iapply HQ
  isplitl [HO]; · iexists _; iexact HO
  isplitl [Hnew]
  · ihave Hall : (bigSep (Finset.range 7) (fun i => freed (F := F) d i (nb d c))) $$ [Hnew]
    · iapply (sepSplit hT.1 _)
      isplitr; · iexact Hold
      iapply (sepMono (s := Finset.range 7 \ T) (fun i _ => Entails.of_eq (pay_cr wt hi c i d))); iexact Hnew
    ihave Hf := (sepElim (Φ := fun i => freed (F := F) d i (nb d c)) (Finset.mem_range.2 (by decide : 6 < 7))) $$ Hall
    unfold freed
    iapply (sepElim (Φ := fun j => released EW ((nb d c, d, j) : Key) 1) (Finset.mem_range.2 (by decide : 6 < 6 + 1))); iexact Hf
  iexact Hz

/-! ## Slots put down and taken -/

/-- Direction `d`'s slots of `c` are down up to hop `n`. -/
def downTo (d : Bool) (n : ℕ) (c : Dev nD) : sProp 𝕄 := bigSep (Finset.range n) fun j => released EW ((c, d, j) : Key) 1
instance downTo_persistent (d : Bool) (n : ℕ) (c : Dev nD) : BI.Persistent (downTo (F := F) d n c) := by unfold downTo; infer_instance

theorem downTo_succ (d : Bool) (n : ℕ) (c : Dev nD) : iprop(downTo (F := F) d n c ∗ released EW ((c, d, n) : Key) 1) ⊢ downTo (F := F) d (n + 1) c := by
  unfold downTo
  rw [Finset.range_add_one]
  refine BIBase.Entails.trans ?_ (sepInsert Finset.notMem_range_self _)
  iintro ⟨H, H'⟩
  isplitl [H'] <;> iassumption
theorem freed_eq (d : Bool) (n : ℕ) (c : Dev nD) : freed (F := F) d n c = downTo d (n + 1) c := rfl

theorem slot_ne : ∀ d k, (slotM d k).view.set.Nonempty
  | false, k => (slot_v0 k).symm ▸ ⟨ValueIdx.ix4 k 0 0 0, (mem_slot k _).2 rfl⟩
  | true, k => (slot_v1 k).symm ▸ ⟨ValueIdx.ix4 k 0 0 0, (mem_slot k _).2 rfl⟩
theorem half_ne : ∀ d k, (halfM d k).view.set.Nonempty
  | false, k => (half_v0 k).symm ▸ ⟨ValueIdx.ix4 k 0 0 0, (mem_half false k _).2 ⟨rfl, Nat.zero_le _, show 0 < 0 + 2 by decide⟩⟩
  | true, k => (half_v1 k).symm ▸ ⟨ValueIdx.ix4 k 2 0 0, (mem_half true k _).2 ⟨rfl, le_refl _, show 2 < 2 + 2 by decide⟩⟩

theorem slotRes_two (k : Key) : iprop(slotRes (F := F) k ∗ slotRes (F := F) k) ⊢ (False : sProp 𝕄) := by
  unfold slotRes freeS freeH
  split
  · exact slot_slot_false (slot_ne _ _)
  · exact slot_slot_false (half_ne _ _)

theorem put_down (c : Dev nD) (d : Bool) (h : ℕ) (hh : h < 7) :
    iprop(know wt hi K KS ∗ downTo (F := F) d h c ∗ readerAt EW ((c, d, h) : Key) 0 ∗ slotRes (F := F) (c, d, h)) ⊢ (|={Set.univ}=> downTo (F := F) d (h + 1) c : sProp 𝕄) := by
  iintro ⟨#Hk, #Hd, Hr, Hs⟩
  ihave Hi := (know_slot wt hi K KS c d h hh) $$ Hk
  imod (slot_release EW (Set.mem_univ (KS (c, d, h))) (slotRes_two (c, d, h)) 0) $$ [Hi Hr Hs] with ⟨-, Hrel⟩
  · isplitl [Hi]; · iexact Hi
    isplitl [Hr] <;> iassumption
  imodintro
  iapply (downTo_succ d h c)
  isplitr; · iexact Hd
  iexact Hrel

theorem take_up (c : Dev nD) (d : Bool) (h : ℕ) (hh : h < 7) :
    iprop(know wt hi K KS ∗ released EW ((c, d, h) : Key) 1 ∗ writeTok EW ((c, d, h) : Key) 1) ⊢ (|={Set.univ}=> slotRes (F := F) (c, d, h) : sProp 𝕄) := by
  iintro ⟨#Hk, Hr, Hs⟩
  ihave Hi := (know_slot wt hi K KS c d h hh) $$ Hk
  iapply (slot_take EW (Set.mem_univ (KS (c, d, h))) 1)
  isplitl [Hi]; · iexact Hi
  isplitl [Hr] <;> iassumption

end Cert.KernelIdeal.Ring

end
-- ==== Proof.Mem.lean ====
/-
  The loads and stores of the body. A block of weights read from a slot is multiplied into the result; the values
  are those of the functions here, which follow the body's own loops.
-/
module

public import proofs.«01_k».proof.Proof.Steps

@[expose] public section

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F]

local notation "𝕄" => MT nD τ sig ℕ (Elt F) ℕ UU ℕ

/-! ## The values -/

/-- The result after experts `s … s+n-1` of the block whose weights are `W`. -/
def accC (og : BitVec 32) (xb : FVec F S1024x512 .bf16) (e : IVec S1024x1 32) (W : ℕ → Vec F S1x1x512x1024 .bf16) :
    ℕ → ℕ → Vec F S1024x1024 .f32 → Vec F S1024x1024 .f32
  | _, 0, a => a
  | s, n + 1, a => accC og xb e W (s + 1) n (contribVal og s xb e a (W s))

/-! ## The result's block -/

theorem hz2 : (![0, 0] : Fin 2 → Nat) = fun _ => 0 := funext fun a => by fin_cases a <;> rfl
theorem hz3 : (![0, 0, 0] : Fin 3 → Nat) = fun _ => 0 := funext fun a => by fin_cases a <;> rfl

def outB (c : Dev nD) (a : Vec F S1024x1024 .f32) : sProp 𝕄 := ((c : Thread nD τ).loc cc0_stg3_0) ↦{fullShare} a

theorem oload_step (c : Dev nD) (a : Vec F S1024x1024 .f32) (Q : Vec F S1024x1024 .f32 → sProp 𝕄) :
    iprop(outB c a ∗ (outB c a -∗ Q a)) ⊢ run c oload Q := by
  unfold run oload Prog.lift outB
  iintro ⟨H, HQ⟩
  iapply (wp_load 𝒱₀ (c : Thread nD τ) none Set.univ (m := oM) (Finset.subset_univ _)) $$ H; iintro H
  rw [wp_ret, show oM.view.readAt (Elt F) (Rect.unit (s := S1024x1024) ![0, 0] S1024x1024.size inb_S1024x1024_S1024x1024_0_0).toLoadRect a = a
    from Memref.readAt_unit_zero (Elt F) cc0_stg3_0 hz2 _ _]
  imodintro
  iapply HQ; iexact H
theorem ostore_step (c : Dev nD) (a v : Vec F S1024x1024 .f32) (Q : PUnit → sProp 𝕄) :
    iprop(outB c a ∗ (outB c v -∗ Q ⟨⟩)) ⊢ run c (ostore v) Q := by
  unfold run ostore Prog.lift outB
  iintro ⟨H, HQ⟩
  iapply (wp_store 𝒱₀ (c : Thread nD τ) none Set.univ (m := oM)
    (r := Rect.unit (s := S1024x1024) ![0, 0] S1024x1024.size inb_S1024x1024_S1024x1024_0_0) (Mk := Finset.univ) (Finset.subset_univ _)) $$ H; iintro H
  rw [wp_ret, show (oM.access (Rect.unit (s := S1024x1024) ![0, 0] S1024x1024.size inb_S1024x1024_S1024x1024_0_0)).write (Elt F) a v Finset.univ = v
    from Memref.write_access_unit_zero_univ (Elt F) cc0_stg3_0 hz2 _ a v]
  imodintro
  iapply HQ; iexact H

/-! ## A block of weights multiplied in -/

theorem wload_step (c : Dev nD) (d : Bool) (k : Fin 2) (j : ℕ) (w : Vec F S1x1x512x1024 .bf16) (q : PosShare TreeShare)
    (S : Finset (Idx (((dbuf d).access (expR k (f4 j))).loc (c : Thread nD τ)))) (f : Buf (Elt F) (((dbuf d).access (expR k (f4 j))).loc (c : Thread nD τ)))
    (hS : ((dbuf d).access (expR k (f4 j))).set ⊆ S) (hw : ((dbuf d).access (expR k (f4 j))).read (Elt F) f = w) (Q : Vec F S1x1x512x1024 .bf16 → sProp 𝕄) :
    iprop((((dbuf d).access (expR k (f4 j))).loc (c : Thread nD τ) ↦[S]{q} f) ∗ ((((dbuf d).access (expR k (f4 j))).loc (c : Thread nD τ) ↦[S]{q} f) -∗ Q w))
      ⊢ run c (wload d k j) Q := by
  unfold run wload Prog.lift
  iintro ⟨Hw, HQ⟩
  iapply (wp_load_rect 𝒱₀ (c : Thread nD τ) none Set.univ (m := dbuf d) (r := expR k (f4 j)) hS) $$ Hw; iintro Hw
  rw [wp_ret, hw]; imodintro
  iapply HQ; iexact Hw

theorem contrib_step (c : Dev nD) (d : Bool) (k : Fin 2) (og : BitVec 32) (xb : FVec F S1024x512 .bf16) (e : IVec S1024x1 32) (j : ℕ)
    (a : Vec F S1024x1024 .f32) (w : Vec F S1x1x512x1024 .bf16) (q : PosShare TreeShare)
    (S : Finset (Idx (((dbuf d).access (expR k (f4 j))).loc (c : Thread nD τ)))) (f : Buf (Elt F) (((dbuf d).access (expR k (f4 j))).loc (c : Thread nD τ)))
    (hS : ((dbuf d).access (expR k (f4 j))).set ⊆ S) (hw : ((dbuf d).access (expR k (f4 j))).read (Elt F) f = w) (Q : PUnit → sProp 𝕄) :
    iprop((((dbuf d).access (expR k (f4 j))).loc (c : Thread nD τ) ↦[S]{q} f) ∗ outB c a
        ∗ ((((dbuf d).access (expR k (f4 j))).loc (c : Thread nD τ) ↦[S]{q} f) ∗ outB c (contribVal og j xb e a w) -∗ Q ⟨⟩))
      ⊢ run c (contrib d k og xb e j) Q := by
  unfold contrib
  iintro ⟨Hw, Ho, HQ⟩
  rw [run_bind]
  iapply (oload_step c a)
  isplitl [Ho]; · iexact Ho
  iintro Ho
  rw [run_bind]
  iapply (wload_step c d k j w q S f hS hw)
  isplitl [Hw]; · iexact Hw
  iintro Hw
  rw [run_bind]
  iapply (oload_step c a)
  isplitl [Ho]; · iexact Ho
  iintro Ho
  iapply (ostore_step c a)
  isplitl [Ho]; · iexact Ho
  iintro Ho
  iapply HQ
  isplitl [Hw] <;> iassumption

theorem slot_contrib (c : Dev nD) (d : Bool) (k : Fin 2) (og : BitVec 32) (xb : FVec F S1024x512 .bf16) (e : IVec S1024x1 32)
    (X : S4x512x1024.Idx → Elt F .bf16) (q : PosShare TreeShare) (n s : ℕ) (a : Vec F S1024x1024 .f32) (Q : PUnit → sProp 𝕄) :
    iprop(owns (c : Thread nD τ) (slotM d k) q X ∗ outB c a
        ∗ (owns (c : Thread nD τ) (slotM d k) q X ∗ outB c (accC og xb e (fun j => expOf (f4 j) X) s n a) -∗ Q ⟨⟩))
      ⊢ run c (loop (contrib d k og xb e) s n) Q := by
  induction n generalizing s a with
  | zero =>
    unfold loop accC
    iintro ⟨Hw, Ho, HQ⟩
    iapply (run_ret c); iapply HQ
    isplitl [Hw] <;> iassumption
  | succ n ih =>
    unfold loop accC
    rw [run_bind]
    unfold owns
    iintro ⟨⟨%f, %hf, Hw⟩, Ho, HQ⟩
    iapply (contrib_step c d k og xb e s a (expOf (f4 s) X) q _ f (exp_subset d k (f4 s)) (read_exp d k (f4 s) f X hf))
    isplitl [Hw]; · iexact Hw
    isplitl [Ho]; · iexact Ho
    iintro ⟨Hw, Ho⟩
    iapply (ih (s + 1) (contribVal og s xb e a (expOf (f4 s) X)))
    unfold owns
    isplitl [Hw]
    · iexists f; isplitr; · ipureintro; exact hf
      iexact Hw
    isplitl [Ho]; · iexact Ho
    iexact HQ

theorem half_contrib (c : Dev nD) (d : Bool) (k : Fin 2) (og : BitVec 32) (xb : FVec F S1024x512 .bf16) (e : IVec S1024x1 32)
    (X : S4x512x1024.Idx → Elt F .bf16) (q : PosShare TreeShare) (n s : ℕ) (hs : ∀ j, s ≤ j → j < s + n → inHalf d (f4 j)) (a : Vec F S1024x1024 .f32) (Q : PUnit → sProp 𝕄) :
    iprop(owns (c : Thread nD τ) (halfM d k) q (halfOf d X) ∗ outB c a
        ∗ (owns (c : Thread nD τ) (halfM d k) q (halfOf d X) ∗ outB c (accC og xb e (fun j => expOf (f4 j) X) s n a) -∗ Q ⟨⟩))
      ⊢ run c (loop (contrib d k og xb e) s n) Q := by
  induction n generalizing s a with
  | zero =>
    unfold loop accC
    iintro ⟨Hw, Ho, HQ⟩
    iapply (run_ret c); iapply HQ
    isplitl [Hw] <;> iassumption
  | succ n ih =>
    unfold loop accC
    rw [run_bind]
    unfold owns
    iintro ⟨⟨%f, %hf, Hw⟩, Ho, HQ⟩
    have hj := hs s (le_refl _) (by omega)
    iapply (contrib_step c d k og xb e s a (expOf (f4 s) X) q _ f (exp_subset_half d k (f4 s) hj)
      ((read_exp_half d k (f4 s) hj f _ hf).trans (expOfHalf_halfOf d (f4 s) hj X)))
    isplitl [Hw]; · iexact Hw
    isplitl [Ho]; · iexact Ho
    iintro ⟨Hw, Ho⟩
    iapply (ih (s + 1) (fun j h1 h2 => hs j (by omega) (by omega)) (contribVal og s xb e a (expOf (f4 s) X)))
    unfold owns
    isplitl [Hw]
    · iexists f; isplitr; · ipureintro; exact hf
      iexact Hw
    isplitl [Ho]; · iexact Ho
    iexact HQ

end Cert.KernelIdeal.Ring

end
-- ==== Proof.Hop.lean ====
/-
  The hops. Between hops a device holds, in each direction, the half share of the slot it is sending from, the
  credit for that copy's end, and its place on the credit semaphore; hop `h` turns the state at `h` into the state
  at `h + 1`, the result block having taken in the two blocks that arrived.
-/
module

public import proofs.«01_k».proof.Proof.Mem

@[expose] public section

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release (slot released readerAt writeTok slotInv USlots)
open Cert.KernelIdeal Cert.KernelIdeal.Gen

variable {F : FTy → Type} [FloatOps F]

local notation "𝕄" => MT nD τ sig ℕ (Elt F) ℕ UU ℕ

variable (wt : Dev nD → S4x512x1024.Idx → Elt F .bf16) (hi : Dev nD → S8x128.Idx → Elt F .i32)
variable (K : Dev nD × SemLoc sig → ℕ) (KS : Key → ℕ)

/-! ## Numbers -/

theorem f8_val {h : ℕ} (hh : h < 8) : (f8 h).val = h := Nat.mod_eq_of_lt hh
theorem par_two (h : ℕ) : par (h + 1 + 1) = par h := Fin.ext (by unfold par; dsimp only; omega)
theorem amtW_lt {h : ℕ} (hh : h < 7) : amtW h = NW := if_pos hh
theorem amt_ws' (d : Bool) {h : ℕ} (hh : h < 8) : amtS (.dma (wsS d (f8 h))) = amtW h := (amt_ws d _).trans (congrArg amtW (f8_val hh))
theorem amt_wr' (d : Bool) {h : ℕ} (hh : h < 8) : amtS (.dma (wrS d (f8 h))) = amtW h := (amt_wr d _).trans (congrArg amtW (f8_val hh))
theorem own_ws (d : Bool) (h : Fin 8) : isOwn (.dma (wsS d h)) = true := by revert d h; decide
theorem own_wr (d : Bool) (h : Fin 8) : isOwn (.dma (wrS d h)) = true := by revert d h; decide

theorem dev_credF (h : Fin 7) (c : Dev nD) : kdev (33 + 4 * h.val) c = nb (!false) c := by revert h c; decide +kernel
theorem dev_credT (h : Fin 7) (c : Dev nD) : kdev (34 + 4 * h.val) c = nb (!true) c := by revert h c; decide +kernel
theorem dev_sendF (h : Fin 7) (c : Dev nD) : kdev (35 + 4 * h.val) c = nb false c := by revert h c; decide +kernel
theorem dev_sendT (h : Fin 7) (c : Dev nD) : kdev (36 + 4 * h.val) c = nb true c := by revert h c; decide +kernel

theorem lent_lt (d : Bool) {h : ℕ} (hh : h < 7) (c : Dev nD) : lentP wt d h c = owns (c : Thread nD τ) (slotM d (par h)) fullShare.left (wt (orig d h c)) := if_pos hh
theorem land_lt (d : Bool) {h : ℕ} (hh : h < 7) (c : Dev nD) : landP wt d h c = owns (c : Thread nD τ) (slotM d (par (h + 1))) fullShare (wt (orig d (h + 1) c)) := if_pos hh
theorem lent_7 (d : Bool) (c : Dev nD) : lentP wt d 7 c = owns (c : Thread nD τ) (halfM d 1) fullShare.left (halfOf d (wt (orig d 7 c))) := if_neg (by decide)
theorem land_7 (d : Bool) (c : Dev nD) : landP wt d 7 c = owns (c : Thread nD τ) (halfM d 0) fullShare (halfOf d (wt (orig d 8 c))) := if_neg (by decide)
theorem pay_ws' (d : Bool) {h : ℕ} (hh : h < 8) (c : Dev nD) : payS wt hi c 0 (.dma (wsS d (f8 h))) = lentP wt d h c :=
  (pay_ws wt hi c 0 (f8 h) d).trans (by rw [f8_val hh])
theorem pay_wr' (d : Bool) {h : ℕ} (hh : h < 8) (c : Dev nD) : payS wt hi c 0 (.dma (wrS d (f8 h))) = landP wt d h c :=
  (pay_wr wt hi c 0 (f8 h) d).trans (by rw [f8_val hh])

/-! ## The states -/

/-- Direction `d` before hop `h`: its copy is on its way from the slot of parity `h`. -/
def dirSt (d : Bool) (h : ℕ) (c : Dev nD) : sProp 𝕄 :=
  iprop(cred (tallyAt (wsC d h c) 0 (amtW h)) ∗ owns (c : Thread nD τ) (slotM d (par h)) fullShare.right (wt (orig d h c))
    ∗ credSt c d h ∗ downTo d h c)
/-- What hop `h` uses up in direction `d`. -/
def dirUse (d : Bool) (h : ℕ) (c : Dev nD) : sProp 𝕄 :=
  iprop((cred (tallyAt (wrC d h c) 0 (amtW h)) ∗ atPos ER (wsC d h c) 0 ∅ 0 ∗ atPos ER (wrC d h c) 0 ∅ 0
      ∗ dutyTok ER (crC d (nb (!d) c)) 0 h ∗ readerAt EW ((c, d, h) : Key) 0)
    ∗ (cred (tallyAt (crC d c) h 1) ∗ writeTok EW ((nb d c, d, h) : Key) 1
      ∗ dutyTok ER (wsC d (h + 1) c) 0 0 ∗ dutyTok ER (wrC d (h + 1) (nb d c)) 0 0))
/-- What it leaves: its two semaphores at zero. -/
def dirEnd (d : Bool) (h : ℕ) (c : Dev nD) : sProp 𝕄 := iprop(semVal (wsC d h c) 0 ∗ semVal (wrC d h c) 0)

/-- The part of the slot that stays when hop `h`'s is put down: nothing, but at the last but one hop the half the
    last copy does not fill. -/
def keep (d : Bool) (h : ℕ) (c : Dev nD) : sProp 𝕄 :=
  if h < 6 then iprop(emp) else iprop(∃ f, (slotM d 0).view.loc (c : Thread nD τ) ↦[(slotM d 0).view.set \ (halfM d 0).view.set]{fullShare} f)

theorem keep_lt (d : Bool) {h : ℕ} (hh : h < 6) (c : Dev nD) : keep (F := F) d h c = iprop(emp) := if_pos hh
theorem keep_6 (d : Bool) (c : Dev nD) : keep (F := F) d 6 c
    = iprop(∃ f, (slotM d 0).view.loc (c : Thread nD τ) ↦[(slotM d 0).view.set \ (halfM d 0).view.set]{fullShare} f) := if_neg (by decide)
theorem slotRes_lt (d : Bool) {h : ℕ} (hh : h < 6) (c : Dev nD) : slotRes (F := F) (c, d, h) = freeS d (par h) c := if_pos hh
theorem slotRes_6 (d : Bool) (c : Dev nD) : slotRes (F := F) (c, d, 6) = freeH d 0 c := if_neg (show ¬ (6 < 6) by decide)

theorem split_down (d : Bool) (h : ℕ) (hh : h < 7) (c : Dev nD) (X) :
    owns (c : Thread nD τ) (slotM d (par h)) fullShare X ⊢ (iprop(slotRes (c, d, h) ∗ keep d h c) : sProp 𝕄) := by
  unfold owns
  iintro ⟨%f, -, H⟩
  by_cases h6 : h < 6
  · rw [slotRes_lt d h6, keep_lt d h6]
    unfold freeS slot
    isplitl [H]; · iexists f; iexact H
    iempintro
  · obtain rfl : h = 6 := by omega
    rw [slotRes_6, keep_6]
    unfold freeH slot
    ihave H2 := (pointsTo_split_subset (half_subset d 0)).1 $$ H
    icases H2 with ⟨H1, H2⟩
    isplitl [H1]; · iexists f; iexact H1
    iexists f; iexact H2

/-! ## Direction `d`'s two ends of hop `h`, and the credit for its slot -/

theorem dir_comm (c : Dev nD) (d : Bool) (h : ℕ) (hh : h < 7) (l : List Due) (hl : ∀ x ∈ l, Above (2 * h + 2) x) (Q : PUnit → sProp 𝕄) :
    iprop(know wt hi K KS ∗ owesL c (credDue c d h :: l) ∗ dirSt wt d h c
        ∗ (cred (tallyAt (wrC d h c) 0 (amtW h)) ∗ atPos ER (wsC d h c) 0 ∅ 0 ∗ atPos ER (wrC d h c) 0 ∅ 0
          ∗ dutyTok ER (crC d (nb (!d) c)) 0 h ∗ readerAt EW ((c, d, h) : Key) 0)
        ∗ (owesL c l ∗ owns (c : Thread nD τ) (slotM d (par (h + 1))) fullShare (wt (orig d (h + 1) c)) ∗ credSt c d h ∗ downTo d (h + 1) c
          ∗ keep d h c ∗ dirEnd d h c -∗ Q ⟨⟩))
      ⊢ run c (wwaitS d h >>= fun _ => semSignalWord (nb (!d) c) (crS d) 1#32 >>= fun _ => wwaitR d h) Q := by
  unfold dirSt dirEnd
  iintro ⟨#Hk, HO, ⟨Hcs, Hr, Hst, #Hd⟩, ⟨Hcr, Has, Har, Ht, Hrd⟩, HQ⟩
  rw [run_bind]
  unfold wwaitS
  iapply (dwait_step wt hi K KS c (slotM d (par (h + 1))) (slotM d (par h)) (wsS d (f8 h)) (amtW h) (credDue c d h :: l) _ _
    (own_ws d _) (dut_ws d _) (amt_ws' d (by omega)) ((slot_credit d _).trans (amtW_lt hh).symm)
    (by
      rw [lv_ws]
      simp only [List.forall_mem_cons]
      exact ⟨above_cred c d h 0 hh (by omega), fun x hx => above_mono (Nat.zero_le _) (hl x hx)⟩))
  isplitr; · iexact Hk
  isplitl [Hcs]; · iexact Hcs
  isplitl [HO]; · iexact HO
  isplitl [Has]; · iexact Has
  iintro ⟨HO, Hl, Hzs⟩
  ihave Hl := (Entails.of_eq ((pay_ws' wt hi d (by omega) c).trans (lent_lt wt d hh c))) $$ Hl
  rw [run_bind]
  ihave Hf := (owns_halves (c : Thread nD τ) (slotM d (par h)) fullShare (wt (orig d h c))).2 $$ [Hl Hr]
  · isplitl [Hl] <;> iassumption
  ihave Hf2 := (split_down d h hh c _) $$ Hf
  icases Hf2 with ⟨Hs, Hkeep⟩
  imod (put_down wt hi K KS c d h hh) $$ [Hrd Hs] with #Hd'
  · isplitr; · iexact Hk
    isplitr; · iexact Hd
    isplitl [Hrd] <;> iassumption
  iapply (signal_step wt hi K KS c (nb (!d) c) (crS d) h h l (by rw [dut_cr]; exact Finset.mem_range.2 hh))
  isplitr; · iexact Hk
  isplitl [HO]; · iexact HO
  isplitl [Ht]; · iexact Ht
  isplitr; · rw [pay_cr, nb_nb', freed_eq]; iexact Hd'
  iintro HO
  unfold wwaitR
  iapply (dwait_step wt hi K KS c (slotM d (par h)) (slotM d (par (h + 1))) (wrS d (f8 h)) (amtW h) l _ _
    (own_wr d _) (dut_wr d _) (amt_wr' d (by omega)) ((slot_credit d _).trans (amtW_lt hh).symm)
    (by rw [lv_wr, f8_val (by omega)]; exact hl))
  isplitr; · iexact Hk
  isplitl [Hcr]; · iexact Hcr
  isplitl [HO]; · iexact HO
  isplitl [Har]; · iexact Har
  iintro ⟨HO, Hl, Hzr⟩
  ihave Hl := (Entails.of_eq ((pay_wr' wt hi d (by omega) c).trans (land_lt wt d hh c))) $$ Hl
  iapply HQ
  isplitl [HO]; · iexact HO
  isplitl [Hl]; · iexact Hl
  isplitl [Hst]; · iexact Hst
  isplitr; · iexact Hd'
  isplitl [Hkeep]; · iexact Hkeep
  isplitl [Hzs] <;> iassumption

/-! ## The copies -/

/-- A copy of a whole slot, hop `h`'s. -/
theorem wsend_step (c : Dev nD) (d : Bool) (h : ℕ) (hh : h < 7) (l : List Due) (Q : PUnit → sProp 𝕄) :
    iprop(know wt hi K KS ∗ owesL c (sendDue c d h :: l) ∗ owns (c : Thread nD τ) (slotM d (par h)) fullShare (wt (orig d h c))
        ∗ freeS d (par (h + 1)) (nb d c) ∗ dutyTok ER (wsC d h c) 0 0 ∗ dutyTok ER (wrC d h (nb d c)) 0 0
        ∗ (owesL c l ∗ cred (tallyAt (wsC d h c) 0 (amtW h)) ∗ owns (c : Thread nD τ) (slotM d (par h)) fullShare.right (wt (orig d h c)) -∗ Q ⟨⟩))
      ⊢ run c (wsend (nb d c) d h) Q := by
  iintro ⟨#Hk, HO, Hs, Hd, Hts, Htr, HQ⟩
  ihave Hs2 := (owns_halves (c : Thread nD τ) (slotM d (par h)) fullShare (wt (orig d h c))).1 $$ Hs
  icases Hs2 with ⟨Hl, Hr⟩
  unfold wsend
  iapply (send_step wt hi K KS c (nb d c) (slotM d (par h)) (slotM d (par (h + 1))) (wsS d (f8 h)) (wrS d (f8 h)) (amtW h) fullShare.left (wt (orig d h c)) l _ _ _
    (own_ws d _) (own_wr d _) (dut_ws d _) (dut_wr d _) (amt_ws' d (by omega)) (amt_wr' d (by omega)) ((slot_credit d _).trans (amtW_lt hh).symm)
    (by rw [pay_ws' wt hi d (by omega), lent_lt wt d hh])
    (by rw [pay_wr' wt hi d (by omega), land_lt wt d hh, orig_succ d h (by omega)]))
  isplitr; · iexact Hk
  isplitl [Hl]; · iexact Hl
  isplitl [Hd]; · unfold freeS; iexact Hd
  isplitl [HO]; · iexact HO
  isplitl [Hts]; · iexact Hts
  isplitl [Htr]; · iexact Htr
  iintro ⟨Hc, HO⟩
  iapply HQ
  isplitl [HO]; · iexact HO
  isplitl [Hc] <;> iassumption

/-- The part of the slot the last copy does not take, at the share the copies borrow. -/
def keepL (d : Bool) (c : Dev nD) : sProp 𝕄 :=
  iprop(∃ f, (slotM d 1).view.loc (c : Thread nD τ) ↦[(slotM d 1).view.set \ (halfM d 1).view.set]{fullShare.left} f)

/-- The last hop's copy, of half a slot. -/
theorem wsendHalf_step (c : Dev nD) (d : Bool) (l : List Due) (Q : PUnit → sProp 𝕄) :
    iprop(know wt hi K KS ∗ owesL c (sendDue c d 7 :: l) ∗ owns (c : Thread nD τ) (slotM d 1) fullShare (wt (orig d 7 c))
        ∗ freeH d 0 (nb d c) ∗ dutyTok ER (wsC d 7 c) 0 0 ∗ dutyTok ER (wrC d 7 (nb d c)) 0 0
        ∗ (owesL c l ∗ cred (tallyAt (wsC d 7 c) 0 (amtW 7)) ∗ owns (c : Thread nD τ) (slotM d 1) fullShare.right (wt (orig d 7 c)) ∗ keepL d c -∗ Q ⟨⟩))
      ⊢ run c (wsendHalf (nb d c) d) Q := by
  iintro ⟨#Hk, HO, Hs, Hd, Hts, Htr, HQ⟩
  ihave Hs2 := (owns_halves (c : Thread nD τ) (slotM d 1) fullShare (wt (orig d 7 c))).1 $$ Hs
  icases Hs2 with ⟨Hl, Hr⟩
  unfold owns
  icases Hl with ⟨%f, %hf, Hl⟩
  ihave Hl2 := (pointsTo_split_subset (half_subset d 1)).1 $$ Hl
  icases Hl2 with ⟨Hl, Hkeep⟩
  unfold wsendHalf
  iapply (send_step wt hi K KS c (nb d c) (halfM d 1) (halfM d 0) (wsS d 7) (wrS d 7) (amtW 7) fullShare.left (halfOf d (wt (orig d 7 c))) l _ _ _
    (own_ws d _) (own_wr d _) (dut_ws d _) (dut_wr d _) (amt_ws d _) (amt_wr d _) (half_credit d _)
    (by rw [pay_ws]; exact Entails.of_eq (lent_7 wt d c).symm)
    (by rw [pay_wr]; refine Entails.of_eq ?_; rw [show ((7 : Fin 8).val) = 7 from rfl, land_7, orig_succ d 7 (by decide)]))
  isplitr; · iexact Hk
  isplitl [Hl]
  · unfold owns; iexists f
    isplitr; · ipureintro; exact read_half d 1 f _ hf
    iexact Hl
  isplitl [Hd]; · unfold freeH; iexact Hd
  isplitl [HO]; · iexact HO
  isplitl [Hts]; · iexact Hts
  isplitl [Htr]; · iexact Htr
  iintro ⟨Hc, HO⟩
  iapply HQ
  isplitl [HO]; · iexact HO
  isplitl [Hc]; · iexact Hc
  isplitl [Hr]; · iexact Hr
  unfold keepL; iexists f; iexact Hkeep

/-- The next copy once its credit is in. -/
theorem dir_next (c : Dev nD) (d : Bool) (h : ℕ) (hh : h < 6) (l : List Due) (hl : ∀ x ∈ l, Above (2 * h + 3) x) (Q : PUnit → sProp 𝕄) :
    iprop(know wt hi K KS ∗ owesL c (sendDue c d (h + 1) :: l) ∗ owns (c : Thread nD τ) (slotM d (par (h + 1))) fullShare (wt (orig d (h + 1) c)) ∗ credSt c d h
        ∗ (cred (tallyAt (crC d c) h 1) ∗ writeTok EW ((nb d c, d, h) : Key) 1
          ∗ dutyTok ER (wsC d (h + 1) c) 0 0 ∗ dutyTok ER (wrC d (h + 1) (nb d c)) 0 0)
        ∗ (owesL c l ∗ cred (tallyAt (wsC d (h + 1) c) 0 (amtW (h + 1))) ∗ owns (c : Thread nD τ) (slotM d (par (h + 1))) fullShare.right (wt (orig d (h + 1) c))
          ∗ credSt c d (h + 1) -∗ Q ⟨⟩))
      ⊢ run c (semWaitWord (crS d) 1#32 >>= fun _ => wsend (nb d c) d (h + 1)) Q := by
  iintro ⟨#Hk, HO, Hs, Hst, ⟨Hc, Hw, Hts, Htr⟩, HQ⟩
  rw [run_bind]
  iapply (cwait_step wt hi K KS c d h (by omega) (sendDue c d (h + 1) :: l)
    (by simp only [List.forall_mem_cons]; exact ⟨above_send c d (h + 1) _ (by omega) (by omega), hl⟩))
  isplitr; · iexact Hk
  isplitl [Hc]; · iexact Hc
  isplitl [HO]; · iexact HO
  isplitl [Hst]; · iexact Hst
  iintro ⟨HO, Hrel, Hst⟩
  imod (take_up wt hi K KS (nb d c) d h (by omega)) $$ [Hrel Hw] with Hfree
  · isplitr; · iexact Hk
    isplitl [Hrel] <;> iassumption
  iapply (wsend_step wt hi K KS c d (h + 1) (by omega) l)
  isplitr; · iexact Hk
  isplitl [HO]; · iexact HO
  isplitl [Hs]; · iexact Hs
  isplitl [Hfree]; · iapply (Entails.of_eq ((slotRes_lt d hh (nb d c)).trans (by rw [par_two])) : slotRes (F := F) (nb d c, d, h) ⊢ freeS d (par (h + 1 + 1)) (nb d c)) $$ Hfree
  isplitl [Hts]; · iexact Hts
  isplitl [Htr]; · iexact Htr
  iintro ⟨HO, Hc, Hs⟩
  iapply HQ
  isplitl [HO]; · iexact HO
  isplitl [Hc]; · iexact Hc
  isplitl [Hs] <;> iassumption

theorem dir_last (c : Dev nD) (d : Bool) (l : List Due) (hl : ∀ x ∈ l, Above 15 x) (Q : PUnit → sProp 𝕄) :
    iprop(know wt hi K KS ∗ owesL c (sendDue c d 7 :: l) ∗ owns (c : Thread nD τ) (slotM d 1) fullShare (wt (orig d 7 c)) ∗ credSt c d 6
        ∗ (cred (tallyAt (crC d c) 6 1) ∗ writeTok EW ((nb d c, d, 6) : Key) 1
          ∗ dutyTok ER (wsC d 7 c) 0 0 ∗ dutyTok ER (wrC d 7 (nb d c)) 0 0)
        ∗ (owesL c l ∗ cred (tallyAt (wsC d 7 c) 0 (amtW 7)) ∗ owns (c : Thread nD τ) (slotM d 1) fullShare.right (wt (orig d 7 c))
          ∗ keepL d c ∗ semVal (crC d c) 0 -∗ Q ⟨⟩))
      ⊢ run c (semWaitWord (crS d) 1#32 >>= fun _ => wsendHalf (nb d c) d) Q := by
  iintro ⟨#Hk, HO, Hs, Hst, ⟨Hc, Hw, Hts, Htr⟩, HQ⟩
  rw [run_bind]
  iapply (cwait_last wt hi K KS c d (sendDue c d 7 :: l)
    (by simp only [List.forall_mem_cons]; exact ⟨above_send c d 7 _ (by omega) (by omega), hl⟩))
  isplitr; · iexact Hk
  isplitl [Hc]; · iexact Hc
  isplitl [HO]; · iexact HO
  isplitl [Hst]; · iexact Hst
  iintro ⟨HO, Hrel, Hz⟩
  imod (take_up wt hi K KS (nb d c) d 6 (by omega)) $$ [Hrel Hw] with Hfree
  · isplitr; · iexact Hk
    isplitl [Hrel] <;> iassumption
  iapply (wsendHalf_step wt hi K KS c d l)
  isplitr; · iexact Hk
  isplitl [HO]; · iexact HO
  isplitl [Hs]; · iexact Hs
  isplitl [Hfree]; · iapply (Entails.of_eq (slotRes_6 d (nb d c))) $$ Hfree
  isplitl [Hts]; · iexact Hts
  isplitl [Htr]; · iexact Htr
  iintro ⟨HO, Hc, Hs, Hkeep⟩
  iapply HQ
  isplitl [HO]; · iexact HO
  isplitl [Hc]; · iexact Hc
  isplitl [Hs]; · iexact Hs
  isplitl [Hkeep] <;> iassumption

/-! ## A whole hop -/

/-- The result after hop `h`'s two blocks. -/
def hopV (c : Dev nD) (xb : FVec F S1024x512 .bf16) (e : IVec S1024x1 32) (h : ℕ) (a : Vec F S1024x1024 .f32) : Vec F S1024x1024 .f32 :=
  accC (ogW (meW c) h true) xb e (fun j => expOf (f4 j) (wt (orig true (h + 1) c))) 0 4
    (accC (ogW (meW c) h false) xb e (fun j => expOf (f4 j) (wt (orig false (h + 1) c))) 0 4 a)

theorem hopMul_step (c : Dev nD) (xb : FVec F S1024x512 .bf16) (e : IVec S1024x1 32) (h : ℕ) (a : Vec F S1024x1024 .f32) (q : PosShare TreeShare) (Q : PUnit → sProp 𝕄) :
    iprop(owns (c : Thread nD τ) (slotM false (par (h + 1))) q (wt (orig false (h + 1) c)) ∗ owns (c : Thread nD τ) (slotM true (par (h + 1))) q (wt (orig true (h + 1) c))
        ∗ outB c a
        ∗ (owns (c : Thread nD τ) (slotM false (par (h + 1))) q (wt (orig false (h + 1) c)) ∗ owns (c : Thread nD τ) (slotM true (par (h + 1))) q (wt (orig true (h + 1) c))
          ∗ outB c (hopV wt c xb e h a) -∗ Q ⟨⟩))
      ⊢ run c (hopMul (meW c) xb e h) Q := by
  unfold hopMul hopV
  iintro ⟨Hf, Ht, Ho, HQ⟩
  rw [run_bind]
  iapply (slot_contrib c false (par (h + 1)) (ogW (meW c) h false) xb e (wt (orig false (h + 1) c)) q 4 0 a)
  isplitl [Hf]; · iexact Hf
  isplitl [Ho]; · iexact Ho
  iintro ⟨Hf, Ho⟩
  iapply (slot_contrib c true (par (h + 1)) (ogW (meW c) h true) xb e (wt (orig true (h + 1) c)) q 4 0 _)
  isplitl [Ht]; · iexact Ht
  isplitl [Ho]; · iexact Ho
  iintro ⟨Ht, Ho⟩
  iapply HQ
  isplitl [Hf]; · iexact Hf
  isplitl [Ht] <;> iassumption

theorem hopComm_eq (c : Dev nD) (h : ℕ) (hh : h < 7) : hopComm (F := F) c h =
    (wwaitS false h >>= fun _ => semSignalWord (nb (!false) c) (crS false) 1#32 >>= fun _ => wwaitR false h) >>= fun _ =>
    (wwaitS true h >>= fun _ => semSignalWord (nb (!true) c) (crS true) 1#32 >>= fun _ => wwaitR true h) := by
  unfold hopComm
  rw [dev_credF ⟨h, hh⟩ c, dev_credT ⟨h, hh⟩ c]
  simp only [Prog.bind_assoc]
theorem hopNext_eq (c : Dev nD) (h : ℕ) (hh : h < 7) (send : Dev nD → Bool → Body F PUnit) : hopNext c h send =
    (semWaitWord (crS false) 1#32 >>= fun _ => send (nb false c) false) >>= fun _ => (semWaitWord (crS true) 1#32 >>= fun _ => send (nb true c) true) := by
  unfold hopNext
  rw [dev_sendF ⟨h, hh⟩ c, dev_sendT ⟨h, hh⟩ c]
  simp only [Prog.bind_assoc]

/-- The two directions' ends of hop `h`. -/
theorem hopComm_step (c : Dev nD) (h : ℕ) (hh : h < 7) (l : List Due) (hl : ∀ x ∈ l, Above (2 * h + 2) x) (Q : PUnit → sProp 𝕄) :
    iprop(know wt hi K KS ∗ owesL c (credDue c false h :: credDue c true h :: l) ∗ (dirSt wt false h c ∗ dirSt wt true h c)
        ∗ ((cred (tallyAt (wrC false h c) 0 (amtW h)) ∗ atPos ER (wsC false h c) 0 ∅ 0 ∗ atPos ER (wrC false h c) 0 ∅ 0
            ∗ dutyTok ER (crC false (nb (!false) c)) 0 h ∗ readerAt EW ((c, false, h) : Key) 0)
          ∗ (cred (tallyAt (wrC true h c) 0 (amtW h)) ∗ atPos ER (wsC true h c) 0 ∅ 0 ∗ atPos ER (wrC true h c) 0 ∅ 0
            ∗ dutyTok ER (crC true (nb (!true) c)) 0 h ∗ readerAt EW ((c, true, h) : Key) 0))
        ∗ (owesL c l
          ∗ (owns (c : Thread nD τ) (slotM false (par (h + 1))) fullShare (wt (orig false (h + 1) c)) ∗ credSt c false h ∗ downTo false (h + 1) c
            ∗ keep false h c ∗ dirEnd false h c)
          ∗ (owns (c : Thread nD τ) (slotM true (par (h + 1))) fullShare (wt (orig true (h + 1) c)) ∗ credSt c true h ∗ downTo true (h + 1) c
            ∗ keep true h c ∗ dirEnd true h c) -∗ Q ⟨⟩))
      ⊢ run c (hopComm c h) Q := by
  rw [hopComm_eq c h hh, run_bind]
  iintro ⟨#Hk, HO, ⟨Hf, Ht⟩, ⟨Huf, Hut⟩, HQ⟩
  iapply (dir_comm wt hi K KS c false h hh (credDue c true h :: l)
    (by simp only [List.forall_mem_cons]; exact ⟨above_cred c true h _ hh (by omega), hl⟩))
  isplitr; · iexact Hk
  isplitl [HO]; · iexact HO
  isplitl [Hf]; · iexact Hf
  isplitl [Huf]; · iexact Huf
  iintro ⟨HO, Hf⟩
  iapply (dir_comm wt hi K KS c true h hh l hl)
  isplitr; · iexact Hk
  isplitl [HO]; · iexact HO
  isplitl [Ht]; · iexact Ht
  isplitl [Hut]; · iexact Hut
  iintro ⟨HO, Ht⟩
  iapply HQ
  isplitl [HO]; · iexact HO
  isplitl [Hf] <;> iassumption

/-- A hop but the last two. -/
theorem hop_step (c : Dev nD) (xb : FVec F S1024x512 .bf16) (e : IVec S1024x1 32) (h n : ℕ) (hn : h + n = 6) (hh : h < 6) (a : Vec F S1024x1024 .f32) (Q : PUnit → sProp 𝕄) :
    iprop(know wt hi K KS ∗ (dirUse (F := F) false h c ∗ dirUse true h c)
        ∗ (owesL c (hopsFrom c h (n + 1)) ∗ (dirSt wt false h c ∗ dirSt wt true h c) ∗ outB c a)
        ∗ ((owesL c (hopsFrom c (h + 1) n) ∗ (dirSt wt false (h + 1) c ∗ dirSt wt true (h + 1) c) ∗ outB c (hopV wt c xb e h a))
          ∗ (dirEnd false h c ∗ dirEnd true h c) -∗ Q ⟨⟩))
      ⊢ run c (hop c xb e h) Q := by
  unfold hop dirUse
  rw [hopsFrom_succ, run_bind]
  iintro ⟨#Hk, ⟨⟨Huf, Hvf⟩, ⟨Hut, Hvt⟩⟩, ⟨HO, Hd, Ho⟩, HQ⟩
  iapply (hopComm_step wt hi K KS c h (by omega) (sendDue c false (h + 1) :: sendDue c true (h + 1) :: hopsFrom c (h + 1) n)
    (by
      simp only [List.forall_mem_cons]
      exact ⟨above_send c _ _ _ (by omega) (by omega), above_send c _ _ _ (by omega) (by omega), above_hops c _ _ _ (by omega) (by omega)⟩))
  isplitr; · iexact Hk
  isplitl [HO]; · iexact HO
  isplitl [Hd]; · iexact Hd
  isplitl [Huf Hut]; · isplitl [Huf] <;> iassumption
  iintro ⟨HO, ⟨Hf, Hcf, Hdf, -, Hef⟩, ⟨Ht, Hct, Hdt, -, Het⟩⟩
  rw [run_bind, hopNext_eq c h (by omega), run_bind]
  iapply (dir_next wt hi K KS c false h hh (sendDue c true (h + 1) :: hopsFrom c (h + 1) n)
    (by
      simp only [List.forall_mem_cons]
      exact ⟨above_send c _ _ _ (by omega) (by omega), above_hops c _ _ _ (by omega) (by omega)⟩))
  isplitr; · iexact Hk
  isplitl [HO]; · iexact HO
  isplitl [Hf]; · iexact Hf
  isplitl [Hcf]; · iexact Hcf
  isplitl [Hvf]; · iexact Hvf
  iintro ⟨HO, Hwf, Hf, Hcf⟩
  iapply (dir_next wt hi K KS c true h hh (hopsFrom c (h + 1) n) (above_hops c _ _ _ (by omega) (by omega)))
  isplitr; · iexact Hk
  isplitl [HO]; · iexact HO
  isplitl [Ht]; · iexact Ht
  isplitl [Hct]; · iexact Hct
  isplitl [Hvt]; · iexact Hvt
  iintro ⟨HO, Hwt, Ht, Hct⟩
  iapply (hopMul_step wt c xb e h a fullShare.right)
  isplitl [Hf]; · iexact Hf
  isplitl [Ht]; · iexact Ht
  isplitl [Ho]; · iexact Ho
  iintro ⟨Hf, Ht, Ho⟩
  iapply HQ
  isplitr [Hef Het]
  · isplitl [HO]; · iexact HO
    unfold dirSt
    isplitr [Ho]
    · isplitl [Hwf Hf Hcf Hdf]
      · isplitl [Hwf]; · iexact Hwf
        isplitl [Hf]; · iexact Hf
        isplitl [Hcf] <;> iassumption
      isplitl [Hwt]; · iexact Hwt
      isplitl [Ht]; · iexact Ht
      isplitl [Hct] <;> iassumption
    iexact Ho
  isplitl [Hef] <;> iassumption

/-- The last but one. -/
theorem hop6_step (c : Dev nD) (xb : FVec F S1024x512 .bf16) (e : IVec S1024x1 32) (a : Vec F S1024x1024 .f32) (Q : PUnit → sProp 𝕄) :
    iprop(know wt hi K KS ∗ (dirUse (F := F) false 6 c ∗ dirUse true 6 c)
        ∗ (owesL c (hopsFrom c 6 1) ∗ (dirSt wt false 6 c ∗ dirSt wt true 6 c) ∗ outB c a)
        ∗ (owesL c [] ∗ outB c (hopV wt c xb e 6 a)
          ∗ (cred (tallyAt (wsC false 7 c) 0 (amtW 7)) ∗ owns (c : Thread nD τ) (slotM false 1) fullShare.right (wt (orig false 7 c))
            ∗ keepL false c ∗ semVal (crC false c) 0 ∗ keep false 6 c ∗ dirEnd false 6 c)
          ∗ (cred (tallyAt (wsC true 7 c) 0 (amtW 7)) ∗ owns (c : Thread nD τ) (slotM true 1) fullShare.right (wt (orig true 7 c))
            ∗ keepL true c ∗ semVal (crC true c) 0 ∗ keep true 6 c ∗ dirEnd true 6 c) -∗ Q ⟨⟩))
      ⊢ run c (hop6 c xb e) Q := by
  unfold hop6 dirUse
  rw [hopsFrom_succ, run_bind, show hopsFrom c (6 + 1) 0 = [] from rfl]
  iintro ⟨#Hk, ⟨⟨Huf, Hvf⟩, ⟨Hut, Hvt⟩⟩, ⟨HO, Hd, Ho⟩, HQ⟩
  iapply (hopComm_step wt hi K KS c 6 (by omega) (sendDue c false 7 :: sendDue c true 7 :: [])
    (by
      simp only [List.forall_mem_cons]
      exact ⟨above_send c _ _ _ (by omega) (by omega), above_send c _ _ _ (by omega) (by omega), fun x hx => absurd hx List.not_mem_nil⟩))
  isplitr; · iexact Hk
  isplitl [HO]; · iexact HO
  isplitl [Hd]; · iexact Hd
  isplitl [Huf Hut]; · isplitl [Huf] <;> iassumption
  iintro ⟨HO, ⟨Hf, Hcf, -, Hkf, Hef⟩, ⟨Ht, Hct, -, Hkt, Het⟩⟩
  rw [run_bind, hopNext_eq c 6 (by omega), run_bind]
  iapply (dir_last wt hi K KS c false (sendDue c true 7 :: [])
    (by
      simp only [List.forall_mem_cons]
      exact ⟨above_send c _ _ _ (by omega) (by omega), fun x hx => absurd hx List.not_mem_nil⟩))
  isplitr; · iexact Hk
  isplitl [HO]; · iexact HO
  isplitl [Hf]; · iexact Hf
  isplitl [Hcf]; · iexact Hcf
  isplitl [Hvf]; · iexact Hvf
  iintro ⟨HO, Hwf, Hf, Hqf, Hzf⟩
  iapply (dir_last wt hi K KS c true [] (fun x hx => absurd hx List.not_mem_nil))
  isplitr; · iexact Hk
  isplitl [HO]; · iexact HO
  isplitl [Ht]; · iexact Ht
  isplitl [Hct]; · iexact Hct
  isplitl [Hvt]; · iexact Hvt
  iintro ⟨HO, Hwt, Ht, Hqt, Hzt⟩
  iapply (hopMul_step wt c xb e 6 a fullShare.right)
  isplitl [Hf]; · iexact Hf
  isplitl [Ht]; · iexact Ht
  isplitl [Ho]; · iexact Ho
  iintro ⟨Hf, Ht, Ho⟩
  iapply HQ
  isplitl [HO]; · iexact HO
  isplitl [Ho]; · iexact Ho
  isplitl [Hwf Hf Hqf Hzf Hkf Hef]
  · isplitl [Hwf]; · iexact Hwf
    isplitl [Hf]; · iexact Hf
    isplitl [Hqf]; · iexact Hqf
    isplitl [Hzf]; · iexact Hzf
    isplitl [Hkf] <;> iassumption
  isplitl [Hwt]; · iexact Hwt
  isplitl [Ht]; · iexact Ht
  isplitl [Hqt]; · iexact Hqt
  isplitl [Hzt]; · iexact Hzt
  isplitl [Hkt] <;> iassumption

end Cert.KernelIdeal.Ring

end
-- ==== Proof.Mem2.lean ====
/-
  The remaining loads and stores: the staged operands, the histogram and the device's own weights put into their
  buffers, and a row of the table of histograms.
-/
module

public import proofs.«01_k».proof.Proof.Mem

@[expose] public section

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Release (slot)
open Cert.KernelIdeal Cert.KernelIdeal.Gen

variable {F : FTy → Type} [FloatOps F]

local notation "𝕄" => MT nD τ sig ℕ (Elt F) ℕ UU ℕ

def xB (c : Dev nD) (v : Vec F S1024x512 .bf16) : sProp 𝕄 := ((c : Thread nD τ).loc cc0_stg0_0) ↦{fullShare} v
def eB (c : Dev nD) (v : Vec F S1024x1 .i32) : sProp 𝕄 := ((c : Thread nD τ).loc cc0_stg1_0) ↦{fullShare} v
def wB (c : Dev nD) (v : Vec F S4x512x1024 .bf16) : sProp 𝕄 := ((c : Thread nD τ).loc cc0_stg2_0) ↦{fullShare} v

theorem xload_step (c : Dev nD) (a : Vec F S1024x512 .bf16) (Q : Vec F S1024x512 .bf16 → sProp 𝕄) :
    iprop(xB c a ∗ (xB c a -∗ Q a)) ⊢ run c xload Q := by
  unfold run xload Prog.lift xB
  iintro ⟨H, HQ⟩
  iapply (wp_load 𝒱₀ (c : Thread nD τ) none Set.univ (m := xM) (Finset.subset_univ _)) $$ H; iintro H
  rw [wp_ret, show xM.view.readAt (Elt F) (Rect.unit (s := S1024x512) ![0, 0] S1024x512.size inb_S1024x512_S1024x512_0_0).toLoadRect a = a
    from Memref.readAt_unit_zero (Elt F) cc0_stg0_0 hz2 _ _]
  imodintro
  iapply HQ; iexact H
theorem eload_step (c : Dev nD) (a : Vec F S1024x1 .i32) (Q : Vec F S1024x1 .i32 → sProp 𝕄) :
    iprop(eB c a ∗ (eB c a -∗ Q a)) ⊢ run c eload Q := by
  unfold run eload Prog.lift eB
  iintro ⟨H, HQ⟩
  iapply (wp_load 𝒱₀ (c : Thread nD τ) none Set.univ (m := eM) (Finset.subset_univ _)) $$ H; iintro H
  rw [wp_ret, show eM.view.readAt (Elt F) (Rect.unit (s := S1024x1) ![0, 0] S1024x1.size inb_S1024x1_S1024x1_0_0).toLoadRect a = a
    from Memref.readAt_unit_zero (Elt F) cc0_stg1_0 hz2 _ _]
  imodintro
  iapply HQ; iexact H
theorem wload0_step (c : Dev nD) (a : Vec F S4x512x1024 .bf16) (Q : Vec F S4x512x1024 .bf16 → sProp 𝕄) :
    iprop(wB c a ∗ (wB c a -∗ Q a)) ⊢ run c wload0 Q := by
  unfold run wload0 Prog.lift wB
  iintro ⟨H, HQ⟩
  iapply (wp_load 𝒱₀ (c : Thread nD τ) none Set.univ (m := wM) (Finset.subset_univ _)) $$ H; iintro H
  rw [wp_ret, show wM.view.readAt (Elt F) (Rect.unit (s := S4x512x1024) ![0, 0, 0] S4x512x1024.size inb_S4x512x1024_S4x512x1024_0_0_0).toLoadRect a = a
    from Memref.readAt_unit_zero (Elt F) cc0_stg2_0 hz3 _ _]
  imodintro
  iapply HQ; iexact H

/-- The histogram's buffer, at whatever contents, takes `v`. -/
theorem hstore_step (c : Dev nD) (v : Vec F S8x128 .i32) (Q : PUnit → sProp 𝕄) :
    iprop((∃ f, ((c : Thread nD τ).loc cc0_scratch2) ↦{fullShare} f) ∗ (owns (c : Thread nD τ) hM fullShare v -∗ Q ⟨⟩)) ⊢ run c (hstore (F := F) v) Q := by
  unfold hstore
  iintro ⟨⟨%f, H⟩, HQ⟩
  rw [run_bind]
  unfold run Prog.lift
  iapply (wp_load 𝒱₀ (c : Thread nD τ) none Set.univ (m := hM) (Finset.subset_univ _)) $$ H; iintro H
  rw [wp_ret]
  imodintro
  iapply (wp_store 𝒱₀ (c : Thread nD τ) none Set.univ (m := hM)
    (r := Rect.unit (s := S8x128) ![0, 0] S8x128.size inb_S8x128_S8x128_0_0) (Mk := Finset.univ) (Finset.subset_univ _)) $$ H; iintro H
  rw [wp_ret, show (hM.access (Rect.unit (s := S8x128) ![0, 0] S8x128.size inb_S8x128_S8x128_0_0)).write (Elt F) f v Finset.univ = v
    from Memref.write_access_unit_zero_univ (Elt F) cc0_scratch2 hz2 _ f v]
  imodintro
  iapply HQ
  unfold hM
  iapply (Entails.of_eq (owns_whole (c : Thread nD τ) cc0_scratch2 fullShare v).symm)
  iexact H

/-- A slot of the ring buffers takes the device's own weights. -/
theorem wstore_raw (c : Dev nD) (d : Bool) (v : Vec F S1x4x512x1024 .bf16)
    (S : Finset (Idx (((dbuf d).access (slotR 0)).loc (c : Thread nD τ)))) (f : Buf (Elt F) (((dbuf d).access (slotR 0)).loc (c : Thread nD τ)))
    (hS : ((dbuf d).access (slotR 0)).set ⊆ S) (Q : PUnit → sProp 𝕄) :
    iprop((((dbuf d).access (slotR 0)).loc (c : Thread nD τ) ↦[S]{fullShare} f)
        ∗ ((((dbuf d).access (slotR 0)).loc (c : Thread nD τ) ↦[S]{fullShare} ((dbuf d).access (slotR 0)).write (Elt F) f v Finset.univ) -∗ Q ⟨⟩))
      ⊢ run c (wstore (F := F) d v) Q := by
  unfold wstore
  iintro ⟨H, HQ⟩
  rw [run_bind]
  unfold run Prog.lift
  iapply (wp_load_rect 𝒱₀ (c : Thread nD τ) none Set.univ (m := dbuf d) (r := slotR 0) hS) $$ H; iintro H
  rw [wp_ret]
  imodintro
  iapply (wp_store 𝒱₀ (c : Thread nD τ) none Set.univ (m := dbuf d) (r := slotR 0) (Mk := Finset.univ) (S := S)
    ((View.setOn_univ _).le.trans hS)) $$ H
  iintro H
  rw [wp_ret]
  imodintro
  iapply HQ; iexact H

theorem wstore_step (c : Dev nD) (d : Bool) (X : Vec F S4x512x1024 .bf16) (Q : PUnit → sProp 𝕄) :
    iprop(freeS d 0 c ∗ (owns (c : Thread nD τ) (slotM d 0) fullShare X -∗ Q ⟨⟩)) ⊢ run c (wstore (F := F) d (padOf X)) Q := by
  unfold freeS slot
  iintro ⟨⟨%f, H⟩, HQ⟩
  iapply (wstore_raw c d (padOf X) _ f (store_slot d 0).le)
  isplitl [H]; · iexact H
  iintro H
  iapply HQ
  unfold owns
  iexists _
  isplitr; · ipureintro; exact read_stored d 0 f X
  iexact H

theorem hload_step (c : Dev nD) (k : ℕ) (X : Vec F S8x128 .i32) (q : PosShare TreeShare) (Q : Vec F S1x1x128 .i32 → sProp 𝕄) :
    iprop(owns (c : Thread nD τ) (histM (f16 k)) q X ∗ (owns (c : Thread nD τ) (histM (f16 k)) q X -∗ Q (rowOf X))) ⊢ run c (hload (F := F) k) Q := by
  unfold run hload Prog.lift owns
  iintro ⟨⟨%f, %hf, H⟩, HQ⟩
  iapply (wp_load_rect 𝒱₀ (c : Thread nD τ) none Set.univ (m := aM) (r := rowR (f16 k)) (S := (histM (f16 k)).view.set) (row_subset _)) $$ H; iintro H
  rw [wp_ret, show (aM.access (rowR (f16 k))).read (Elt F) f = rowOf X from read_row _ f X hf]; imodintro
  iapply HQ; iexists f
  isplitr; · ipureintro; exact hf
  iexact H

/-- The own weights as the kernel's reshapes lay them out. -/
theorem pay9_eq (w : Vec F S4x512x1024 .bf16) : k0_pay9 w = padOf w := by
  unfold k0_pay9 k0_pay8 shapeCast
  funext i
  dsimp only
  rw [Shape.reshapeEquiv_self]
  obtain ⟨j, rfl⟩ := (Shape.reshapeEquiv (s := S1x4x512x1024) (s' := S4x512x1024) (by decide)).surjective i
  rw [Shape.reshapeEquiv_reshapeEquiv, Shape.reshapeEquiv_self, padOf_unsq]
theorem pay10_eq (w : Vec F S4x512x1024 .bf16) : k0_pay10 w = padOf w := pay9_eq w

end Cert.KernelIdeal.Ring

end
-- ==== Proof.Ends.lean ====
/-
  The program around the hops: the entry barrier, the histogram and the device's own weights put in place and sent,
  the last hop, and the end, with each loop run by one rule over the list of what its rounds use.
-/
module

public import proofs.«01_k».proof.Proof.Hop
public import proofs.«01_k».proof.Proof.Mem2

@[expose] public section

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release (slot released readerAt writeTok slotInv USlots)
open Cert.KernelIdeal Cert.KernelIdeal.Gen

variable {F : FTy → Type} [FloatOps F]

local notation "𝕄" => MT nD τ sig ℕ (Elt F) ℕ UU ℕ

/-! ## Lists of resources -/

/-- `P s ∗ … ∗ P (s+n-1)`. -/
def row (P : ℕ → sProp 𝕄) : ℕ → ℕ → sProp 𝕄
  | _, 0 => iprop(emp)
  | s, n + 1 => iprop(P s ∗ row P (s + 1) n)

theorem row_mono {P Q : ℕ → sProp 𝕄} (n s : ℕ) (h : ∀ k, s ≤ k → k < s + n → P k ⊢ Q k) : row P s n ⊢ row Q s n := by
  induction n generalizing s with
  | zero => exact BIBase.Entails.rfl
  | succ n ih =>
    unfold row
    iintro ⟨H, Hr⟩
    isplitl [H]
    · iapply (h s (le_refl _) (by omega)) $$ H
    iapply (ih (s + 1) fun k h1 h2 => h k (by omega) (by omega)) $$ Hr
theorem row_sep (P Q : ℕ → sProp 𝕄) (n s : ℕ) : row (fun k => iprop(P k ∗ Q k)) s n ⊢ iprop(row P s n ∗ row Q s n) := by
  induction n generalizing s with
  | zero => unfold row; iintro _; isplitl [] <;> iempintro
  | succ n ih =>
    unfold row
    iintro ⟨⟨Hp, Hq⟩, Hr⟩
    ihave Hr2 := (ih (s + 1)) $$ Hr
    icases Hr2 with ⟨H1, H2⟩
    isplitl [Hp H1]
    · isplitl [Hp] <;> iassumption
    isplitl [Hq] <;> iassumption
theorem row_zip (P Q : ℕ → sProp 𝕄) (n s : ℕ) : iprop(row P s n ∗ row Q s n) ⊢ row (fun k => iprop(P k ∗ Q k)) s n := by
  induction n generalizing s with
  | zero => unfold row; iintro _; iempintro
  | succ n ih =>
    unfold row
    iintro ⟨⟨Hp, H1⟩, ⟨Hq, H2⟩⟩
    isplitl [Hp Hq]
    · isplitl [Hp] <;> iassumption
    iapply (ih (s + 1))
    isplitl [H1] <;> iassumption

theorem Ico_head (s n : ℕ) : Finset.Ico s (s + (n + 1)) = insert s (Finset.Ico (s + 1) (s + 1 + n)) := by
  ext x; simp only [Finset.mem_Ico, Finset.mem_insert]; omega
theorem not_mem_tail (s n : ℕ) : s ∉ Finset.Ico (s + 1) (s + 1 + n) := by simp only [Finset.mem_Ico]; omega

theorem row_of_Ico (P : ℕ → sProp 𝕄) (n s : ℕ) : bigSep (Finset.Ico s (s + n)) P ⊢ row P s n := by
  induction n generalizing s with
  | zero => unfold row; iintro _; iempintro
  | succ n ih =>
    rw [Ico_head]; unfold row
    iintro H
    ihave H2 := (sepTake (not_mem_tail s n) P) $$ H
    icases H2 with ⟨H1, H2⟩
    isplitl [H1]; · iexact H1
    iapply (ih (s + 1)) $$ H2

/-! ## Loops -/

variable (wt : Dev nD → S4x512x1024.Idx → Elt F .bf16) (hi : Dev nD → S8x128.Idx → Elt F .i32)
variable (K : Dev nD × SemLoc sig → ℕ) (KS : Key → ℕ)

theorem loop_rule (c : Dev nD) (f : ℕ → Body F PUnit) (I P Q' : ℕ → sProp 𝕄) (n s : ℕ)
    (hstep : ∀ k, s ≤ k → k < s + n → ∀ R : PUnit → sProp 𝕄, iprop(know wt hi K KS ∗ P k ∗ I k ∗ (I (k + 1) ∗ Q' k -∗ R ⟨⟩)) ⊢ run c (f k) R)
    (R : PUnit → sProp 𝕄) :
    iprop(know wt hi K KS ∗ row P s n ∗ I s ∗ (I (s + n) ∗ row Q' s n -∗ R ⟨⟩)) ⊢ run c (loop f s n) R := by
  induction n generalizing s R with
  | zero =>
    unfold loop row
    iintro ⟨-, -, HI, HR⟩
    iapply (run_ret c); iapply HR
    isplitl [HI]; · iexact HI
    iempintro
  | succ n ih =>
    unfold loop row
    rw [run_bind, show s + (n + 1) = s + 1 + n by omega]
    iintro ⟨#Hk, ⟨HP, Hr⟩, HI, HR⟩
    iapply (hstep s (le_refl _) (by omega))
    isplitr; · iexact Hk
    isplitl [HP]; · iexact HP
    isplitl [HI]; · iexact HI
    iintro ⟨HI, HQ⟩
    iapply (ih (s + 1) fun k h1 h2 => hstep k (by omega) (by omega))
    isplitr; · iexact Hk
    isplitl [Hr]; · iexact Hr
    isplitl [HI]; · iexact HI
    iintro ⟨HI, Hq⟩
    iapply HR
    isplitl [HI]; · iexact HI
    isplitl [HQ] <;> iassumption

/-- A value carried through `g s, …, g (s+n-1)`. -/
def accVal {A : Type} (g : ℕ → A → A) : ℕ → ℕ → A → A
  | _, 0, a => a
  | s, n + 1, a => accVal g (s + 1) n (g s a)

theorem accLoop_rule {A : Type} (c : Dev nD) (f : ℕ → A → Body F A) (g : ℕ → A → A) (I : sProp 𝕄) (P Q' : ℕ → sProp 𝕄) (n s : ℕ) (a : A)
    (hstep : ∀ k, s ≤ k → k < s + n → ∀ (a : A) (R : A → sProp 𝕄), iprop(know wt hi K KS ∗ P k ∗ I ∗ (I ∗ Q' k -∗ R (g k a))) ⊢ run c (f k a) R)
    (R : A → sProp 𝕄) :
    iprop(know wt hi K KS ∗ row P s n ∗ I ∗ (I ∗ row Q' s n -∗ R (accVal g s n a))) ⊢ run c (accLoop f s n a) R := by
  induction n generalizing s a R with
  | zero =>
    unfold accLoop row accVal
    iintro ⟨-, -, HI, HR⟩
    iapply (run_ret c); iapply HR
    isplitl [HI]; · iexact HI
    iempintro
  | succ n ih =>
    unfold accLoop row accVal
    rw [run_bind]
    iintro ⟨#Hk, ⟨HP, Hr⟩, HI, HR⟩
    iapply (hstep s (le_refl _) (by omega))
    isplitr; · iexact Hk
    isplitl [HP]; · iexact HP
    isplitl [HI]; · iexact HI
    iintro ⟨HI, HQ⟩
    iapply (ih (s + 1) (g s a) fun k h1 h2 => hstep k (by omega) (by omega))
    isplitr; · iexact Hk
    isplitl [Hr]; · iexact Hr
    isplitl [HI]; · iexact HI
    iintro ⟨HI, Hq⟩
    iapply HR
    isplitl [HI]; · iexact HI
    isplitl [HQ] <;> iassumption

/-! ## The entry barrier -/

theorem dev_bar (k : Fin 16) (hk : 1 ≤ k.val) (c : Dev nD) : kdev k.val c = sh k.val c := by revert k c; decide +kernel
theorem dev_hist (k : Fin 16) (hk : 1 ≤ k.val) (c : Dev nD) : kdev (15 + k.val) c = sh k.val c := by revert k c; decide +kernel

/-- What the signal to the device `k` further on uses. -/
def barUse (c : Dev nD) (k : ℕ) : sProp 𝕄 := iprop(dutyTok ER (baC (sh k c)) 0 (16 - k) ∗ barP (16 - k) (sh k c))

theorem barsFrom_succ (c : Dev nD) (s n : ℕ) : barsFrom c s (n + 1) = barDue c s :: barsFrom c (s + 1) n := rfl
theorem histsFrom_succ (c : Dev nD) (s n : ℕ) : histsFrom c s (n + 1) = histDue c s :: histsFrom c (s + 1) n := rfl

theorem entry_step (c : Dev nD) (Q : PUnit → sProp 𝕄) :
    iprop(know wt hi K KS ∗ row (barUse (F := F) c) 1 15 ∗ owesL c (allDue c) ∗ (cred (tallyAt (baC c) 0 15) ∗ atPos ER (baC c) 0 ∅ 0)
        ∗ (owesL c (histsFrom c 1 15 ++ tailDue c) ∗ row (fun d => barP d c) 1 15 ∗ semVal (baC c) 0 -∗ Q ⟨⟩))
      ⊢ run c (entry c) Q := by
  unfold entry allDue
  rw [run_bind]
  iintro ⟨#Hk, Hb, HO, ⟨Hc, Hat⟩, HQ⟩
  iapply (loop_rule wt hi K KS c (fun k => semSignalWord (kdev k c) baS 1#32)
    (fun k => owesL c (barsFrom c k (16 - k) ++ (histsFrom c 1 15 ++ tailDue c))) (barUse c) (fun _ => iprop(emp)) 15 1 ?_)
  · intro k h1 h2 R
    rw [show 16 - k = (16 - (k + 1)) + 1 by omega, barsFrom_succ, List.cons_append, dev_bar ⟨k, by omega⟩ h1 c]
    unfold barUse
    iintro ⟨#Hk, ⟨Ht, Hp⟩, HO, HR⟩
    iapply (signal_step wt hi K KS c (sh k c) baS (16 - k) 0 _ (by rw [dut_ba, Finset.mem_Ico]; omega))
    isplitr; · iexact Hk
    isplitl [HO]; · iexact HO
    isplitl [Ht]; · iexact Ht
    isplitl [Hp]; · rw [pay_ba]; iexact Hp
    iintro HO
    iapply HR
    isplitl [HO]; · iexact HO
    iempintro
  isplitr; · iexact Hk
  isplitl [Hb]; · iexact Hb
  isplitl [HO]; · iexact HO
  iintro ⟨HO, -⟩
  iapply (bar_step wt hi K KS c (histsFrom c 1 15 ++ tailDue c) (above_hists c 1 15))
  isplitr; · iexact Hk
  isplitl [Hc]; · iexact Hc
  isplitl [HO]; · iexact HO
  isplitl [Hat]; · iexact Hat
  iintro ⟨HO, Hall, Hz⟩
  iapply HQ
  isplitl [HO]; · iexact HO
  isplitl [Hall]; · iapply (row_of_Ico (fun d => barP (F := F) d c) 15 1) $$ Hall
  iexact Hz

/-! ## The histogram and the own weights -/

def histUse (c : Dev nD) (k : ℕ) : sProp 𝕄 :=
  iprop(freeA k (sh k c) ∗ dutyTok ER (hsC k c) 0 0 ∗ dutyTok ER (hrC k (sh k c)) 0 0)

theorem f16_val {k : ℕ} (hk : k < 16) : (f16 k).val = k := Nat.mod_eq_of_lt hk
theorem f16_ne {k : ℕ} (h1 : 1 ≤ k) (hk : k < 16) : f16 k ≠ 0 := fun h => by
  have h2 := congrArg Fin.val h
  rw [f16_val hk] at h2
  have h3 : k = 0 := h2
  omega
theorem own_hs (k : Fin 16) : isOwn (.dma (hsS k)) = true := by revert k; decide
theorem own_hr (k : Fin 16) : isOwn (.dma (hrS k)) = true := by revert k; decide

theorem hsend_step (c : Dev nD) (k : ℕ) (h1 : 1 ≤ k) (hk : k < 16) (l : List Due) (Q : PUnit → sProp 𝕄) :
    iprop(know wt hi K KS ∗ histUse (F := F) c k ∗ (owesL c (histDue c k :: l) ∗ owns (c : Thread nD τ) hM (hrem (k - 1)) (hi c))
        ∗ ((owesL c l ∗ owns (c : Thread nD τ) hM (hrem k) (hi c)) ∗ cred (tallyAt (hsC k c) 0 NH) -∗ Q ⟨⟩))
      ⊢ run c (hsend (sh k c) k) Q := by
  unfold histUse
  iintro ⟨#Hk, ⟨Hd, Hts, Htr⟩, ⟨HO, Hs⟩, HQ⟩
  ihave Hs2 := (owns_halves (c : Thread nD τ) hM (hrem (k - 1)) (hi c)).1 $$ Hs
  icases Hs2 with ⟨Hl, Hr⟩
  unfold hsend
  iapply (send_step wt hi K KS c (sh k c) hM (histM (f16 k)) (hsS (f16 k)) (hrS (f16 k)) NH (hrem (k - 1)).left (hi c) l _ _ _
    (own_hs _) (own_hr _) (dut_hs _ (f16_ne h1 hk)) (dut_hr _ (f16_ne h1 hk)) (amt_hs _) (amt_hr _) (hist_credit _)
    (by rw [pay_hs, f16_val hk]; exact BIBase.Entails.rfl)
    (by
      rw [pay_hr, f16_val hk]; unfold hlandP
      rw [sh_inv (by omega : 16 - k + k = 16)]))
  isplitr; · iexact Hk
  isplitl [Hl]; · iexact Hl
  isplitl [Hd]; · unfold freeA; iexact Hd
  isplitl [HO]; · iexact HO
  isplitl [Hts]; · iexact Hts
  isplitl [Htr]; · iexact Htr
  iintro ⟨Hc, HO⟩
  iapply HQ
  isplitr [Hc]
  · isplitl [HO]; · iexact HO
    iapply (Entails.of_eq (show owns (c : Thread nD τ) hM (hrem (k - 1)).right (hi c) = owns (c : Thread nD τ) hM (hrem k) (hi c) by
      conv_rhs => rw [show k = k - 1 + 1 by omega]
      rfl))
    iexact Hr
  iexact Hc

theorem setup_step (c : Dev nD) (e : Vec F S1024x1 .i32) (w : Vec F S4x512x1024 .bf16) (a : Vec F S1024x1024 .f32)
    (hhi : hi c = histVal (F := F) e) (hwt : wt c = w) (Q : PUnit → sProp 𝕄) :
    iprop(know wt hi K KS ∗ row (histUse (F := F) c) 1 15 ∗ owesL c (histsFrom c 1 15 ++ tailDue c)
        ∗ (∃ f, ((c : Thread nD τ).loc cc0_scratch2) ↦{fullShare} f) ∗ wB c w ∗ freeS false 0 c ∗ freeS true 0 c ∗ outB c a
        ∗ (owesL c (tailDue c) ∗ owns (c : Thread nD τ) hM (hrem 15) (hi c) ∗ row (fun k => cred (tallyAt (hsC k c) 0 NH)) 1 15 ∗ wB c w
          ∗ owns (c : Thread nD τ) (slotM false 0) fullShare (wt c) ∗ owns (c : Thread nD τ) (slotM true 0) fullShare (wt c)
          ∗ outB c (k0_pay11 (F := F)) -∗ Q ⟨⟩))
      ⊢ run c (setup c e) Q := by
  subst hwt
  unfold setup
  rw [run_bind]
  iintro ⟨#Hk, Hu, HO, Hh, Hw, Hf0, Ht0, Ho, HQ⟩
  iapply (hstore_step c (histVal (F := F) e))
  isplitl [Hh]; · iexact Hh
  iintro Hh
  rw [run_bind]
  iapply (loop_rule wt hi K KS c (fun k => hsend (kdev (15 + k) c) k)
    (fun k => iprop(owesL c (histsFrom c k (16 - k) ++ tailDue c) ∗ owns (c : Thread nD τ) hM (hrem (k - 1)) (hi c))) (histUse c)
    (fun k => cred (tallyAt (hsC k c) 0 NH)) 15 1 ?_)
  · intro k h1 h2 R
    rw [show 16 - k = (16 - (k + 1)) + 1 by omega, histsFrom_succ, List.cons_append, dev_hist ⟨k, by omega⟩ h1 c]
    exact hsend_step wt hi K KS c k h1 (by omega) _ R
  isplitr; · iexact Hk
  isplitl [Hu]; · iexact Hu
  isplitl [HO Hh]
  · isplitl [HO]; · iexact HO
    rw [hhi]; iexact Hh
  iintro ⟨⟨HO, Hh⟩, Hc⟩
  rw [run_bind]
  iapply (wload0_step c (wt c))
  isplitl [Hw]; · iexact Hw
  iintro Hw
  rw [run_bind, pay9_eq, pay10_eq]
  iapply (wstore_step c false (wt c))
  isplitl [Hf0]; · iexact Hf0
  iintro Hf0
  rw [run_bind]
  iapply (wstore_step c true (wt c))
  isplitl [Ht0]; · iexact Ht0
  iintro Ht0
  rw [run_bind]
  iapply (oload_step c a)
  isplitl [Ho]; · iexact Ho
  iintro Ho
  iapply (ostore_step c a)
  isplitl [Ho]; · iexact Ho
  iintro Ho
  iapply HQ
  isplitl [HO]; · iexact HO
  isplitl [Hh]; · iexact Hh
  isplitl [Hc]; · iexact Hc
  isplitl [Hw]; · iexact Hw
  isplitl [Hf0]; · iexact Hf0
  isplitl [Ht0] <;> iassumption

/-! ## The first copies and the own block -/

theorem dev_31 (c : Dev nD) : kdev 31 c = nb false c := by revert c; decide +kernel
theorem dev_32 (c : Dev nD) : kdev 32 c = nb true c := by revert c; decide +kernel

/-- What the first copy of a direction uses. -/
def firstUse (d : Bool) (c : Dev nD) : sProp 𝕄 :=
  iprop(freeS d 1 (nb d c) ∗ dutyTok ER (wsC d 0 c) 0 0 ∗ dutyTok ER (wrC d 0 (nb d c)) 0 0)

theorem send0_step (c : Dev nD) (d : Bool) (l : List Due) (Q : PUnit → sProp 𝕄) :
    iprop(know wt hi K KS ∗ owesL c (sendDue c d 0 :: l) ∗ owns (c : Thread nD τ) (slotM d 0) fullShare (wt c) ∗ firstUse d c
        ∗ (owesL c l ∗ cred (tallyAt (wsC d 0 c) 0 (amtW 0)) ∗ owns (c : Thread nD τ) (slotM d (par 0)) fullShare.right (wt (orig d 0 c)) -∗ Q ⟨⟩))
      ⊢ run c (wsend (nb d c) d 0) Q := by
  have h := wsend_step wt hi K KS c d 0 (by decide) l Q
  unfold firstUse
  iintro ⟨#Hk, HO, Hs, ⟨Hd, Hts, Htr⟩, HQ⟩
  iapply h
  isplitr; · iexact Hk
  isplitl [HO]; · iexact HO
  isplitl [Hs]; · rw [orig_zero]; iexact Hs
  isplitl [Hd]; · iexact Hd
  isplitl [Hts]; · iexact Hts
  isplitl [Htr]; · iexact Htr
  iexact HQ

def firstV (c : Dev nD) (xb : FVec F S1024x512 .bf16) (e : IVec S1024x1 32) (a : Vec F S1024x1024 .f32) : Vec F S1024x1024 .f32 :=
  accC (meW c) xb e (fun j => expOf (f4 j) (wt (orig false 0 c))) 0 4 a

theorem first_step (c : Dev nD) (xb : FVec F S1024x512 .bf16) (e : IVec S1024x1 32) (a : Vec F S1024x1024 .f32) (Q : PUnit → sProp 𝕄) :
    iprop(know wt hi K KS ∗ owesL c (tailDue c)
        ∗ owns (c : Thread nD τ) (slotM false 0) fullShare (wt c) ∗ owns (c : Thread nD τ) (slotM true 0) fullShare (wt c)
        ∗ firstUse false c ∗ firstUse true c ∗ outB c a
        ∗ (owesL c (hopsFrom c 0 7)
          ∗ (cred (tallyAt (wsC false 0 c) 0 (amtW 0)) ∗ owns (c : Thread nD τ) (slotM false (par 0)) fullShare.right (wt (orig false 0 c)))
          ∗ (cred (tallyAt (wsC true 0 c) 0 (amtW 0)) ∗ owns (c : Thread nD τ) (slotM true (par 0)) fullShare.right (wt (orig true 0 c)))
          ∗ outB c (firstV wt c xb e a) -∗ Q ⟨⟩))
      ⊢ run c (first c xb e) Q := by
  unfold first tailDue firstV
  rw [run_bind, dev_31, dev_32]
  iintro ⟨#Hk, HO, Hf, Ht, Huf, Hut, Ho, HQ⟩
  iapply (send0_step wt hi K KS c false)
  isplitr; · iexact Hk
  isplitl [HO]; · iexact HO
  isplitl [Hf]; · iexact Hf
  isplitl [Huf]; · iexact Huf
  iintro ⟨HO, Hcf, Hf⟩
  rw [run_bind]
  iapply (send0_step wt hi K KS c true)
  isplitr; · iexact Hk
  isplitl [HO]; · iexact HO
  isplitl [Ht]; · iexact Ht
  isplitl [Hut]; · iexact Hut
  iintro ⟨HO, Hct, Ht⟩
  iapply (slot_contrib c false (par 0) (meW c) xb e (wt (orig false 0 c)) fullShare.right 4 0 a)
  isplitl [Hf]; · iexact Hf
  isplitl [Ho]; · iexact Ho
  iintro ⟨Hf, Ho⟩
  iapply HQ
  isplitl [HO]; · iexact HO
  isplitl [Hcf Hf]; · isplitl [Hcf] <;> iassumption
  isplitl [Hct Ht]; · isplitl [Hct] <;> iassumption
  iexact Ho

/-! ## The hops but the last -/

def hopsV (c : Dev nD) (xb : FVec F S1024x512 .bf16) (e : IVec S1024x1 32) (a : Vec F S1024x1024 .f32) : ℕ → Vec F S1024x1024 .f32
  | 0 => a
  | h + 1 => hopV wt c xb e h (hopsV c xb e a h)

theorem hops_step (c : Dev nD) (xb : FVec F S1024x512 .bf16) (e : IVec S1024x1 32) (a : Vec F S1024x1024 .f32) (Q : PUnit → sProp 𝕄) :
    iprop(know wt hi K KS ∗ row (fun h => iprop(dirUse (F := F) false h c ∗ dirUse true h c)) 0 6
        ∗ (owesL c (hopsFrom c 0 7) ∗ (dirSt wt false 0 c ∗ dirSt wt true 0 c) ∗ outB c a)
        ∗ ((owesL c (hopsFrom c 6 1) ∗ (dirSt wt false 6 c ∗ dirSt wt true 6 c) ∗ outB c (hopsV wt c xb e a 6))
          ∗ row (fun h => iprop(dirEnd false h c ∗ dirEnd true h c)) 0 6 -∗ Q ⟨⟩))
      ⊢ run c (loop (hop c xb e) 0 6) Q := by
  refine loop_rule wt hi K KS c (hop c xb e)
    (fun h => iprop(owesL c (hopsFrom c h (7 - h)) ∗ (dirSt wt false h c ∗ dirSt wt true h c) ∗ outB c (hopsV wt c xb e a h)))
    (fun h => iprop(dirUse (F := F) false h c ∗ dirUse true h c)) (fun h => iprop(dirEnd false h c ∗ dirEnd true h c)) 6 0 ?_ Q
  intro h _ h2 R
  rw [show 7 - h = (6 - h) + 1 by omega, show 7 - (h + 1) = 6 - h by omega]
  exact hop_step wt hi K KS c xb e h (6 - h) (by omega) (by omega) _ R

/-! ## The last hop -/

/-- What its two waits in a direction use, and leave. -/
def lastUse (d : Bool) (c : Dev nD) : sProp 𝕄 :=
  iprop(cred (tallyAt (wsC d 7 c) 0 (amtW 7)) ∗ atPos ER (wsC d 7 c) 0 ∅ 0 ∗ cred (tallyAt (wrC d 7 c) 0 (amtW 7)) ∗ atPos ER (wrC d 7 c) 0 ∅ 0)
def lastEnd (d : Bool) (c : Dev nD) : sProp 𝕄 :=
  iprop(owns (c : Thread nD τ) (halfM d 1) fullShare.left (halfOf d (wt (orig d 7 c)))
    ∗ owns (c : Thread nD τ) (halfM d 0) fullShare (halfOf d (wt (orig d 8 c))) ∗ dirEnd d 7 c)

theorem nil_above (b : ℕ) : ∀ x ∈ ([] : List Due), Above b x := fun x hx => absurd hx List.not_mem_nil

theorem last_waits (c : Dev nD) (d : Bool) (Q : PUnit → sProp 𝕄) :
    iprop(know wt hi K KS ∗ owesL c [] ∗ lastUse d c ∗ (owesL c [] ∗ lastEnd wt d c -∗ Q ⟨⟩))
      ⊢ run c (wwaitSHalf d >>= fun _ => wwaitRHalf d) Q := by
  unfold lastUse lastEnd dirEnd
  iintro ⟨#Hk, HO, ⟨Hcs, Has, Hcr, Har⟩, HQ⟩
  rw [run_bind]
  unfold wwaitSHalf
  iapply (dwait_step wt hi K KS c (halfM d 0) (halfM d 1) (wsS d 7) (amtW 7) [] _ _
    (own_ws d _) (dut_ws d _) (amt_ws d _) (half_credit d _) (nil_above _))
  isplitr; · iexact Hk
  isplitl [Hcs]; · iexact Hcs
  isplitl [HO]; · iexact HO
  isplitl [Has]; · iexact Has
  iintro ⟨HO, Hl, Hzs⟩
  ihave Hl := (Entails.of_eq ((pay_ws wt hi c 0 7 d).trans (lent_7 wt d c))) $$ Hl
  unfold wwaitRHalf
  iapply (dwait_step wt hi K KS c (halfM d 1) (halfM d 0) (wrS d 7) (amtW 7) [] _ _
    (own_wr d _) (dut_wr d _) (amt_wr d _) (half_credit d _) (nil_above _))
  isplitr; · iexact Hk
  isplitl [Hcr]; · iexact Hcr
  isplitl [HO]; · iexact HO
  isplitl [Har]; · iexact Har
  iintro ⟨HO, Hr, Hzr⟩
  ihave Hr := (Entails.of_eq ((pay_wr wt hi c 0 7 d).trans (land_7 wt d c))) $$ Hr
  iapply HQ
  isplitl [HO]; · iexact HO
  isplitl [Hl]; · iexact Hl
  isplitl [Hr]; · iexact Hr
  isplitl [Hzs] <;> iassumption

def hop7V (c : Dev nD) (xb : FVec F S1024x512 .bf16) (e : IVec S1024x1 32) (a : Vec F S1024x1024 .f32) : Vec F S1024x1024 .f32 :=
  accC (ogW (meW c) 7 true) xb e (fun j => expOf (f4 j) (wt (orig true 8 c))) 2 2
    (accC (ogW (meW c) 7 false) xb e (fun j => expOf (f4 j) (wt (orig false 8 c))) 0 2 a)

theorem hop7_eq (c : Dev nD) (xb : FVec F S1024x512 .bf16) (e : IVec S1024x1 32) : hop7 c xb e =
    (wwaitSHalf false >>= fun _ => wwaitRHalf false) >>= fun _ => (wwaitSHalf true >>= fun _ => wwaitRHalf true) >>= fun _ =>
    loop (contrib false 0 (ogW (meW c) 7 false) xb e) 0 2 >>= fun _ => loop (contrib true 0 (ogW (meW c) 7 true) xb e) 2 2 := by
  unfold hop7; simp only [Prog.bind_assoc]

theorem inF (j : ℕ) (h1 : 0 ≤ j) (h2 : j < 0 + 2) : inHalf false (f4 j) := by
  unfold inHalf
  have h : (f4 j).val = j := Nat.mod_eq_of_lt (by omega)
  rw [h]; dsimp only [cond_false]; omega
theorem inT (j : ℕ) (h1 : 2 ≤ j) (h2 : j < 2 + 2) : inHalf true (f4 j) := by
  unfold inHalf
  have h : (f4 j).val = j := Nat.mod_eq_of_lt (by omega)
  rw [h]; dsimp only [cond_true]; omega

theorem hop7_step (c : Dev nD) (xb : FVec F S1024x512 .bf16) (e : IVec S1024x1 32) (a : Vec F S1024x1024 .f32) (Q : PUnit → sProp 𝕄) :
    iprop(know wt hi K KS ∗ owesL c [] ∗ lastUse false c ∗ lastUse true c ∗ outB c a
        ∗ (owesL c [] ∗ lastEnd wt false c ∗ lastEnd wt true c ∗ outB c (hop7V wt c xb e a) -∗ Q ⟨⟩))
      ⊢ run c (hop7 c xb e) Q := by
  rw [hop7_eq, run_bind]
  iintro ⟨#Hk, HO, Huf, Hut, Ho, HQ⟩
  iapply (last_waits wt hi K KS c false)
  isplitr; · iexact Hk
  isplitl [HO]; · iexact HO
  isplitl [Huf]; · iexact Huf
  iintro ⟨HO, Hf⟩
  rw [run_bind]
  iapply (last_waits wt hi K KS c true)
  isplitr; · iexact Hk
  isplitl [HO]; · iexact HO
  isplitl [Hut]; · iexact Hut
  iintro ⟨HO, Ht⟩
  unfold lastEnd
  icases Hf with ⟨Hf1, Hf2, Hf3⟩
  icases Ht with ⟨Ht1, Ht2, Ht3⟩
  rw [run_bind]
  iapply (half_contrib c false 0 (ogW (meW c) 7 false) xb e (wt (orig false 8 c)) fullShare 2 0 inF a)
  isplitl [Hf2]; · iexact Hf2
  isplitl [Ho]; · iexact Ho
  iintro ⟨Hf2, Ho⟩
  iapply (half_contrib c true 0 (ogW (meW c) 7 true) xb e (wt (orig true 8 c)) fullShare 2 2 inT _)
  isplitl [Ht2]; · iexact Ht2
  isplitl [Ho]; · iexact Ho
  iintro ⟨Ht2, Ho⟩
  iapply HQ
  isplitl [HO]; · iexact HO
  isplitl [Hf1 Hf2 Hf3]
  · isplitl [Hf1]; · iexact Hf1
    isplitl [Hf2] <;> iassumption
  isplitl [Ht1 Ht2 Ht3]
  · isplitl [Ht1]; · iexact Ht1
    isplitl [Ht2] <;> iassumption
  iexact Ho

/-! ## The end -/

def hrUse (c : Dev nD) (k : ℕ) : sProp 𝕄 := iprop(cred (tallyAt (hrC k c) 0 NH) ∗ atPos ER (hrC k c) 0 ∅ 0)
def hrEnd (c : Dev nD) (k : ℕ) : sProp 𝕄 := iprop(hlandP hi k c ∗ semVal (hrC k c) 0)
def hsUse (c : Dev nD) (k : ℕ) : sProp 𝕄 := iprop(cred (tallyAt (hsC k c) 0 NH) ∗ atPos ER (hsC k c) 0 ∅ 0)
def hsEnd (c : Dev nD) (k : ℕ) : sProp 𝕄 := iprop(hlentP hi k c ∗ semVal (hsC k c) 0)

/-- The counts on earlier devices. -/
def offsV (c : Dev nD) : IVec S1x128 32 :=
  accVal (fun k acc => histStep (F := F) (meW c) k acc (rowOf (hi (sh (16 - k) c)))) 1 15 (broadcast S1x128 0#32)
def endV (c : Dev nD) (e : Vec F S1024x1 .i32) (a : Vec F S1024x1024 .f32) : Vec F S1024x1024 .f32 :=
  k0_pay1 (k0_pay125 a) (k0_pay126 (F := F)) (k0_pay127 (onehot e) (k0_pay7 (F := F) (onehot e)) (offsV hi c))

theorem finish_step (c : Dev nD) (e : Vec F S1024x1 .i32) (a : Vec F S1024x1024 .f32) (Q : PUnit → sProp 𝕄) :
    iprop(know wt hi K KS ∗ owesL c [] ∗ row (hrUse (F := F) c) 1 15 ∗ row (hsUse (F := F) c) 1 15 ∗ outB c a
        ∗ (owesL c [] ∗ row (hrEnd hi c) 1 15 ∗ row (hsEnd hi c) 1 15 ∗ outB c (endV hi c e a) -∗ Q ⟨⟩))
      ⊢ run c (finish c e) Q := by
  unfold finish endV
  rw [run_bind]
  iintro ⟨#Hk, HO, Hr, Hs, Ho, HQ⟩
  iapply (accLoop_rule wt hi K KS c _ (fun k acc => histStep (F := F) (meW c) k acc (rowOf (hi (sh (16 - k) c)))) (owesL c []) (hrUse c) (hrEnd hi c) 15 1 _ ?_)
  · intro k h1 h2 acc R
    unfold hrUse hrEnd
    rw [run_bind]
    iintro ⟨#Hk, ⟨Hc, Hat⟩, HO, HR⟩
    unfold hwaitR
    iapply (dwait_step wt hi K KS c hM (histM (f16 k)) (hrS (f16 k)) NH [] _ _
      (own_hr _) (dut_hr _ (f16_ne h1 (by omega))) (amt_hr _) (hist_credit _) (nil_above _))
    isplitr; · iexact Hk
    isplitl [Hc]; · iexact Hc
    isplitl [HO]; · iexact HO
    isplitl [Hat]; · iexact Hat
    iintro ⟨HO, Hl, Hz⟩
    ihave Hl := (Entails.of_eq ((pay_hr wt hi c 0 (f16 k)).trans (by rw [f16_val (by omega)])) : payS wt hi c 0 (.dma (hrS (f16 k))) ⊢ hlandP hi k c) $$ Hl
    unfold hlandP
    rw [run_bind]
    iapply (hload_step c k (hi (sh (16 - k) c)) fullShare)
    isplitl [Hl]; · iexact Hl
    iintro Hl
    iapply (run_ret c)
    iapply HR
    isplitl [HO]; · iexact HO
    isplitl [Hl] <;> iassumption
  isplitr; · iexact Hk
  isplitl [Hr]; · iexact Hr
  isplitl [HO]; · iexact HO
  iintro ⟨HO, Hr⟩
  rw [run_bind]
  iapply (loop_rule wt hi K KS c hwaitS (fun _ => owesL c []) (hsUse c) (hsEnd hi c) 15 1 ?_)
  · intro k h1 h2 R
    unfold hsUse hsEnd
    iintro ⟨#Hk, ⟨Hc, Hat⟩, HO, HR⟩
    unfold hwaitS
    iapply (dwait_step wt hi K KS c (histM (f16 k)) hM (hsS (f16 k)) NH [] _ _
      (own_hs _) (dut_hs _ (f16_ne h1 (by omega))) (amt_hs _) hM_credit (nil_above _))
    isplitr; · iexact Hk
    isplitl [Hc]; · iexact Hc
    isplitl [HO]; · iexact HO
    isplitl [Hat]; · iexact Hat
    iintro ⟨HO, Hl, Hz⟩
    ihave Hl := (Entails.of_eq ((pay_hs wt hi c 0 (f16 k)).trans (by rw [f16_val (by omega)])) : payS wt hi c 0 (.dma (hsS (f16 k))) ⊢ hlentP hi k c) $$ Hl
    iapply HR
    isplitl [HO]; · iexact HO
    isplitl [Hl] <;> iassumption
  isplitr; · iexact Hk
  isplitl [Hs]; · iexact Hs
  isplitl [HO]; · iexact HO
  iintro ⟨HO, Hs⟩
  rw [run_bind]
  iapply (oload_step c a)
  isplitl [Ho]; · iexact Ho
  iintro Ho
  rw [run_bind]
  iapply (oload_step c a)
  isplitl [Ho]; · iexact Ho
  iintro Ho
  iapply (ostore_step c a)
  isplitl [Ho]; · iexact Ho
  iintro Ho
  iapply HQ
  isplitl [HO]; · iexact HO
  isplitl [Hr]; · iexact Hr
  isplitl [Hs]; · iexact Hs
  unfold offsV
  iexact Ho

end Cert.KernelIdeal.Ring

end
-- ==== Proof.Join.lean ====
/-
  Scratch buffers taken apart into the slots the protocol hands round, and put together again at the end.
-/
module

public import proofs.«01_k».proof.Proof.Ends

@[expose] public section

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Release (slot)
open Cert.KernelIdeal Cert.KernelIdeal.Gen

variable {F : FTy → Type} [FloatOps F]

local notation "𝕄" => MT nD τ sig ℕ (Elt F) ℕ UU ℕ

/-! ## The ring buffers -/

/-- A ring buffer, whatever it holds; the histogram's; the table's. -/
def bufD (d : Bool) (c : Dev nD) : sProp 𝕄 := iprop(∃ f, (dbuf d).view.loc (c : Thread nD τ) ↦[Finset.univ]{fullShare} f)
def bufH (c : Dev nD) : sProp 𝕄 := iprop(∃ f, ((c : Thread nD τ).loc cc0_scratch2) ↦{fullShare} f)
def bufA (c : Dev nD) : sProp 𝕄 := iprop(∃ f, aM.view.loc (c : Thread nD τ) ↦[Finset.univ]{fullShare} f)

theorem split_raw (c : Dev nD) (d : Bool) (f : Buf (Elt F) ((dbuf d).view.loc (c : Thread nD τ))) (I J : Finset (Idx ((dbuf d).view.loc (c : Thread nD τ))))
    (hd : Disjoint I J) (hc : I ∪ J = Finset.univ) :
    ((dbuf d).view.loc (c : Thread nD τ) ↦[Finset.univ]{fullShare} f : sProp 𝕄)
      ⊢ iprop(slot ((dbuf d).view.loc (c : Thread nD τ)) I ∗ slot ((dbuf d).view.loc (c : Thread nD τ)) J) := by
  rw [← hc]
  unfold slot
  iintro H
  ihave H2 := (pointsTo_union hd).1 $$ H
  icases H2 with ⟨H1, H2⟩
  isplitl [H1]
  · iexists f; iexact H1
  iexists f; iexact H2
theorem join_raw (c : Dev nD) (d : Bool) (I J : Finset (Idx ((dbuf d).view.loc (c : Thread nD τ))))
    (hd : Disjoint I J) (hc : I ∪ J = Finset.univ) :
    iprop(slot ((dbuf d).view.loc (c : Thread nD τ)) I ∗ slot ((dbuf d).view.loc (c : Thread nD τ)) J)
      ⊢ (iprop(∃ f, (dbuf d).view.loc (c : Thread nD τ) ↦[Finset.univ]{fullShare} f) : sProp 𝕄) := by
  unfold slot
  iintro ⟨⟨%f, Hf⟩, ⟨%g, Hg⟩⟩
  ihave H := (pointsTo_join hd) $$ [Hf Hg]
  · isplitl [Hf] <;> iassumption
  iexists (J.piecewise g f)
  iapply (Entails.of_eq (congrArg (fun S => ((dbuf d).view.loc (c : Thread nD τ) ↦[S]{fullShare} (J.piecewise g f) : sProp 𝕄)) hc))
  iexact H

/-- The same of any memory: disjoint parts, and a part with the rest. -/
theorem join_slots (ℓ : Loc nD τ sig) (I J : Finset (Idx ℓ)) (hd : Disjoint I J) :
    iprop(slot ℓ I ∗ slot ℓ J) ⊢ (slot ℓ (I ∪ J) : sProp 𝕄) := by
  unfold slot
  iintro ⟨⟨%f, Hf⟩, ⟨%g, Hg⟩⟩
  iexists (J.piecewise g f)
  iapply (pointsTo_join hd)
  isplitl [Hf] <;> iassumption
theorem join_part (ℓ : Loc nD τ sig) (q : PosShare TreeShare) (I S : Finset (Idx ℓ)) (h : I ⊆ S) (f g : Buf (Elt F) ℓ) :
    iprop((ℓ ↦[I]{q} f) ∗ ℓ ↦[S \ I]{q} g) ⊢ (iprop(∃ f, ℓ ↦[S]{q} f) : sProp 𝕄) := by
  iintro H
  iexists (I.piecewise f g)
  iapply (pointsTo_join_subset h) $$ H

theorem split_buf (d : Bool) (c : Dev nD) : bufD (F := F) d c ⊢ iprop(freeS d 0 c ∗ freeS d 1 c) := by
  unfold bufD freeS
  iintro ⟨%f, H⟩
  iapply (split_raw c d f _ _ (slots_disjoint d) (slots_cover d)) $$ H
theorem join_buf (d : Bool) (c : Dev nD) : iprop(freeS d 0 c ∗ freeS d 1 c) ⊢ bufD (F := F) d c := by
  unfold bufD freeS
  exact join_raw c d _ _ (slots_disjoint d) (slots_cover d)

/-- Slot 0 from its two halves, slot 1 from its two shares. -/
theorem join_slot0 (d : Bool) (c : Dev nD) (Y : S2x512x1024.Idx → Elt F .bf16) :
    iprop(owns (c : Thread nD τ) (halfM d 0) fullShare Y ∗ keep d 6 c) ⊢ freeS (F := F) d 0 c := by
  rw [keep_6]
  unfold owns freeS slot
  iintro ⟨⟨%f, -, Hf⟩, ⟨%g, Hg⟩⟩
  iexists _
  iapply (pointsTo_join_subset (half_subset d 0))
  isplitl [Hf]; · iexact Hf
  iexact Hg
theorem join_slot1 (d : Bool) (c : Dev nD) (X : S4x512x1024.Idx → Elt F .bf16) (Y : S2x512x1024.Idx → Elt F .bf16) :
    iprop(owns (c : Thread nD τ) (slotM d 1) fullShare.right X ∗ keepL d c ∗ owns (c : Thread nD τ) (halfM d 1) fullShare.left Y) ⊢ freeS (F := F) d 1 c := by
  have hfree : ∀ Z : S4x512x1024.Idx → Elt F .bf16, owns (c : Thread nD τ) (slotM d 1) fullShare Z ⊢ freeS (F := F) d 1 c := fun Z => by
    unfold owns freeS slot
    iintro ⟨%f, -, Hf⟩
    iexists f; iexact Hf
  have hleft : iprop(owns (c : Thread nD τ) (halfM d 1) fullShare.left Y ∗ keepL d c)
      ⊢ (iprop(∃ Z, owns (c : Thread nD τ) (slotM d 1) fullShare.left Z) : sProp 𝕄) := by
    unfold owns keepL
    iintro ⟨⟨%f, -, Hf⟩, ⟨%g, Hg⟩⟩
    ihave H := (join_part ((dbuf d).view.loc (c : Thread nD τ)) fullShare.left _ _ (half_subset d 1) f g) $$ [Hf Hg]
    · isplitl [Hf]; · iexact Hf
      iexact Hg
    icases H with ⟨%z, H⟩
    iexists ((slotM d 1).view.read (Elt F) z)
    iexists z
    isplitr; · ipureintro; rfl
    iexact H
  iintro ⟨Hr, Hk, Hl⟩
  ihave H := hleft $$ [Hl Hk]
  · isplitl [Hl] <;> iassumption
  icases H with ⟨%Z, Hl⟩
  iapply (hfree Z)
  iapply (owns_rejoin (c : Thread nD τ) (slotM d 1) (Φ := (· = X)) fullShare Z)
  isplitl [Hl]; · iexact Hl
  iapply (Entails.of_eq (owns_eq_ownsSat (c : Thread nD τ) (slotM d 1) fullShare.right X))
  iexact Hr

/-! ## The histogram's shares -/

theorem join_hist (hi : Dev nD → S8x128.Idx → Elt F .i32) (c : Dev nD) (n s : ℕ) (hs : 1 ≤ s) :
    iprop(owns (c : Thread nD τ) hM (hrem (s - 1 + n)) (hi c) ∗ row (fun k => hlentP hi k c) s n) ⊢ owns (c : Thread nD τ) hM (hrem (s - 1)) (hi c) := by
  induction n generalizing s with
  | zero => iintro ⟨H, -⟩; iexact H
  | succ n ih =>
    unfold row
    have h := ih (s + 1) (by omega)
    rw [show s + 1 - 1 = s by omega] at h
    rw [show s - 1 + (n + 1) = s + n by omega]
    iintro ⟨H, Hl, Hr⟩
    iapply (owns_halves (c : Thread nD τ) hM (hrem (s - 1)) (hi c)).2
    isplitl [Hl]; · iapply (Entails.of_eq (show hlentP hi s c = owns (c : Thread nD τ) hM (hrem (s - 1)).left (hi c) from rfl)) $$ Hl
    iapply (Entails.of_eq (show owns (c : Thread nD τ) hM (hrem s) (hi c) = owns (c : Thread nD τ) hM (hrem (s - 1)).right (hi c) by
      conv_lhs => rw [show s = s - 1 + 1 by omega]
      rfl))
    iapply h
    isplitl [H] <;> iassumption

theorem join_bufH (hi : Dev nD → S8x128.Idx → Elt F .i32) (c : Dev nD) :
    iprop(owns (c : Thread nD τ) hM (hrem 15) (hi c) ∗ row (fun k => hlentP hi k c) 1 15) ⊢ bufH (F := F) c := by
  refine BIBase.Entails.trans (join_hist hi c 15 1 (by decide)) ?_
  unfold bufH
  iintro H
  iexists (hi c)
  iapply (Entails.of_eq (owns_whole (c : Thread nD τ) cc0_scratch2 fullShare (hi c)))
  iexact H

/-! ## The table of histograms -/

def freeA' (c : Dev nD) (k : Fin 16) : sProp 𝕄 := slot (aM.view.loc (c : Thread nD τ)) (histS k)

theorem split_family (ℓ : Loc nD τ sig) (T : Fin 16 → Finset (Idx ℓ)) (hT : ∀ k l, k ≠ l → Disjoint (T k) (T l)) (f : Buf (Elt F) ℓ)
    (hc : Finset.univ.biUnion T = Finset.univ) :
    (ℓ ↦[Finset.univ]{fullShare} f : sProp 𝕄) ⊢ bigSep Finset.univ (fun k => (slot ℓ (T k) : sProp 𝕄)) := by
  rw [← hc, pointsTo_biUnion Finset.univ T fun k _ l _ h => hT k l h]
  refine sepMono fun k _ => ?_
  unfold slot
  iintro H
  iexists f; iexact H

theorem table_apart (c : Dev nD) : bufA (F := F) c ⊢ bigSep (Finset.univ : Finset (Fin 16)) (freeA' c) := by
  unfold bufA freeA'
  iintro ⟨%f, H⟩
  iapply (split_family (aM.view.loc (c : Thread nD τ)) histS hist_disjoint f hist_cover) $$ H

theorem join_family (ℓ : Loc nD τ sig) (T : Fin 16 → Finset (Idx ℓ)) (hT : ∀ k l, k ≠ l → Disjoint (T k) (T l)) (S : Finset (Fin 16)) (hS : S.Nonempty) :
    bigSep S (fun k => (slot ℓ (T k) : sProp 𝕄)) ⊢ slot ℓ (S.biUnion T) := by
  induction hS using Finset.Nonempty.cons_induction with
  | singleton k =>
    rw [Finset.singleton_biUnion, BI.bigSep_singleton]
  | cons k S hk hS ih =>
    rw [Finset.cons_eq_insert, Finset.biUnion_insert]
    have hd : Disjoint (T k) (S.biUnion T) :=
      (Finset.disjoint_biUnion_right _ _ _).2 fun l hl => hT k l (fun h => hk (h ▸ hl))
    iintro H
    ihave H2 := (sepTake hk (fun k => (slot ℓ (T k) : sProp 𝕄))) $$ H
    icases H2 with ⟨H1, H2⟩
    ihave H3 := ih $$ H2
    iapply (join_slots ℓ (T k) (S.biUnion T) hd)
    isplitl [H1]; · iexact H1
    iexact H3

theorem table_together (c : Dev nD) : bigSep (Finset.univ : Finset (Fin 16)) (freeA' (F := F) c) ⊢ bufA c := by
  have h := join_family (F := F) (aM.view.loc (c : Thread nD τ)) histS hist_disjoint Finset.univ Finset.univ_nonempty
  have hc : Finset.univ.biUnion (β := Idx (aM.view.loc (c : Thread nD τ))) histS = Finset.univ := hist_cover
  rw [hc] at h
  unfold bufA freeA'
  exact h

theorem sepEmp (P : sProp 𝕄) : iprop(P ∗ emp) = P := equiv_iff.mp sep_emp

theorem fin16_down (P : Fin 16 → sProp 𝕄) : bigSep (Finset.univ : Finset (Fin 16)) P = iprop(P 0 ∗ row (fun k => P (f16 (16 - k))) 1 15) := by
  rw [bigSep_univ_eq_bigSepL [0, 15, 14, 13, 12, 11, 10, 9, 8, 7, 6, 5, 4, 3, 2, 1] (by decide) (by decide)]
  simp only [BI.bigSepL_cons_cons, BI.bigSepL_singleton, row, sepEmp]
  rfl
theorem fin16_up (P : Fin 16 → sProp 𝕄) : bigSep (Finset.univ : Finset (Fin 16)) P = iprop(P 0 ∗ row (fun k => P (f16 k)) 1 15) := by
  rw [bigSep_univ_eq_bigSepL [0, 1, 2, 3, 4, 5, 6, 7, 8, 9, 10, 11, 12, 13, 14, 15] (by decide) (by decide)]
  simp only [BI.bigSepL_cons_cons, BI.bigSepL_singleton, row, sepEmp]
  rfl

end Cert.KernelIdeal.Ring

end
-- ==== Proof.Whole.lean ====
/-
  The whole body on device `c`: from the operands' blocks, the scratch buffers and the device's share of the
  protocol's tokens to the result block at its value, with every semaphore of the kernel back at zero.
-/
module

public import proofs.«01_k».proof.Proof.Join

@[expose] public section

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release (slot released readerAt writeTok slotInv USlots)
open Cert.KernelIdeal Cert.KernelIdeal.Gen

variable {F : FTy → Type} [FloatOps F]

local notation "𝕄" => MT nD τ sig ℕ (Elt F) ℕ UU ℕ

variable (wt : Dev nD → S4x512x1024.Idx → Elt F .bf16) (hi : Dev nD → S8x128.Idx → Elt F .i32)
variable (K : Dev nD × SemLoc sig → ℕ) (KS : Key → ℕ)

theorem row_snoc (P : ℕ → sProp 𝕄) (n s : ℕ) : iprop(row P s n ∗ P (s + n)) ⊢ row P s (n + 1) := by
  induction n generalizing s with
  | zero =>
    unfold row row
    iintro ⟨-, H⟩
    isplitl [H]; · iexact H
    iempintro
  | succ n ih =>
    have h := ih (s + 1)
    rw [show s + 1 + n = s + (n + 1) by omega] at h
    conv_lhs => unfold row
    conv_rhs => unfold row
    iintro ⟨⟨H1, H2⟩, H3⟩
    isplitl [H1]; · iexact H1
    iapply h
    isplitl [H2] <;> iassumption
theorem row_last (P : ℕ → sProp 𝕄) (n s : ℕ) : row P s (n + 1) ⊢ iprop(row P s n ∗ P (s + n)) := by
  induction n generalizing s with
  | zero =>
    unfold row row
    iintro ⟨H, -⟩
    isplitr [H]; · iempintro
    iexact H
  | succ n ih =>
    have h := ih (s + 1)
    rw [show s + 1 + n = s + (n + 1) by omega] at h
    conv_lhs => unfold row
    conv_rhs => unfold row
    iintro ⟨H1, H2⟩
    ihave H2 := h $$ H2
    icases H2 with ⟨H2, H3⟩
    isplitl [H1 H2]
    · isplitl [H1] <;> iassumption
    iexact H3

/-- The device's share of the protocol. -/
def duties (c : Dev nD) : sProp 𝕄 :=
  iprop(row (fun k => dutyTok ER (baC (sh k c)) 0 (16 - k)) 1 15
    ∗ row (fun k => iprop(dutyTok ER (hsC k c) 0 0 ∗ dutyTok ER (hrC k (sh k c)) 0 0)) 1 15
    ∗ (dutyTok ER (wsC false 0 c) 0 0 ∗ dutyTok ER (wrC false 0 (nb false c)) 0 0)
    ∗ (dutyTok ER (wsC true 0 c) 0 0 ∗ dutyTok ER (wrC true 0 (nb true c)) 0 0)
    ∗ row (fun h => iprop(dirUse (F := F) false h c ∗ dirUse true h c)) 0 7)
def waitsFor (c : Dev nD) : sProp 𝕄 :=
  iprop((cred (tallyAt (baC c) 0 15) ∗ atPos ER (baC c) 0 ∅ 0) ∗ (atPos ER (crC false c) 0 ∅ 0 ∗ atPos ER (crC true c) 0 ∅ 0)
    ∗ (atPos ER (wsC false 7 c) 0 ∅ 0 ∗ cred (tallyAt (wrC false 7 c) 0 (amtW 7)) ∗ atPos ER (wrC false 7 c) 0 ∅ 0)
    ∗ (atPos ER (wsC true 7 c) 0 ∅ 0 ∗ cred (tallyAt (wrC true 7 c) 0 (amtW 7)) ∗ atPos ER (wrC true 7 c) 0 ∅ 0)
    ∗ row (hrUse (F := F) c) 1 15 ∗ row (fun k => atPos ER (hsC k c) 0 ∅ 0) 1 15
    ∗ atPos ER (hsC 0 c) 0 ∅ 0 ∗ atPos ER (hrC 0 c) 0 ∅ 0)
/-- What is left of it: the semaphores at zero. -/
def zeros (c : Dev nD) : sProp 𝕄 :=
  iprop(semVal (baC c) 0 ∗ (semVal (crC false c) 0 ∗ semVal (crC true c) 0)
    ∗ row (fun h => iprop(dirEnd (F := F) false h c ∗ dirEnd true h c)) 0 8
    ∗ row (fun k => semVal (hsC k c) 0) 0 16 ∗ row (fun k => semVal (hrC k c) 0) 0 16)
def scratch (c : Dev nD) : sProp 𝕄 := iprop(bufD false c ∗ bufD true c ∗ bufH c ∗ bufA c)

/-- The value the body leaves in its result block, from its operands' blocks. -/
def resV (c : Dev nD) (x : Vec F S1024x512 .bf16) (e : Vec F S1024x1 .i32) : Vec F S1024x1024 .f32 :=
  endV hi c e (hop7V wt c (k0_pay2 x) (k0_pay3 (F := F) e) (hopV wt c (k0_pay2 x) (k0_pay3 (F := F) e) 6
    (hopsV wt c (k0_pay2 x) (k0_pay3 (F := F) e) (firstV wt c (k0_pay2 x) (k0_pay3 (F := F) e) (k0_pay11 (F := F))) 6)))

/-! ## The slots that cross the entry barrier -/

/-- A device hands every other device a slot of its table, and its neighbours the slot they send to first. -/
theorem give_slots (c : Dev nD) :
    iprop(row (fun k => freeA (16 - k) c) 1 15 ∗ freeS false 1 c ∗ freeS true 1 c) ⊢ row (fun k => barP (F := F) (16 - k) (sh k c)) 1 15 := by
  have hmid : ∀ k, 2 ≤ k → k < 2 + 13 → freeA (16 - k) c ⊢ barP (F := F) (16 - k) (sh k c) := fun k h1 h2 => by
    unfold barP
    rw [sh_inv (by omega : 16 - k + k = 16), if_neg (by omega), if_neg (by omega)]
    iintro H
    isplitl [H]; · iexact H
    iempintro
  have hfirst : iprop(freeA 15 c ∗ freeS true 1 c) ⊢ barP (F := F) 15 (sh 1 c) := by
    unfold barP
    rw [sh_inv (by decide : 15 + 1 = 16), if_neg (by decide), if_pos rfl]
  have hlast : iprop(freeA 1 c ∗ freeS false 1 c) ⊢ barP (F := F) 1 (sh 15 c) := by
    unfold barP
    rw [sh_inv (by decide : 1 + 15 = 16), if_pos rfl]
  iintro ⟨Hr, Hf, Ht⟩
  ihave Hr2 := (row_last (fun k => freeA (F := F) (16 - k) c) 14 1) $$ Hr
  icases Hr2 with ⟨Hr, Hl⟩
  iapply (row_snoc (fun k => barP (F := F) (16 - k) (sh k c)) 14 1)
  isplitr [Hl Hf]
  · ihave Hr2 := (Entails.of_eq (show row (fun k => freeA (F := F) (16 - k) c) 1 14 = iprop(freeA 15 c ∗ row (fun k => freeA (F := F) (16 - k) c) 2 13) from rfl)) $$ Hr
    icases Hr2 with ⟨H1, Hr⟩
    iapply (Entails.of_eq (show iprop(barP 15 (sh 1 c) ∗ row (fun k => barP (F := F) (16 - k) (sh k c)) 2 13) = row (fun k => barP (F := F) (16 - k) (sh k c)) 1 14 from rfl))
    isplitl [H1 Ht]
    · iapply hfirst; isplitl [H1] <;> iassumption
    iapply (row_mono 13 2 hmid) $$ Hr
  iapply hlast
  isplitl [Hl]; · iexact Hl
  iexact Hf

/-- What it gets from them. -/
theorem got_slots (c : Dev nD) :
    row (fun d => barP (F := F) d c) 1 15 ⊢ iprop(row (fun d => freeA d (sh d c)) 1 15 ∗ freeS false 1 (nb false c) ∗ freeS true 1 (nb true c)) := by
  have hmid : ∀ d, 2 ≤ d → d < 2 + 13 → barP (F := F) d c ⊢ freeA d (sh d c) := fun d h1 h2 => by
    unfold barP
    iintro ⟨H, -⟩; iexact H
  have hfirst : barP (F := F) 1 c ⊢ iprop(freeA 1 (sh 1 c) ∗ freeS false 1 (nb false c)) := by
    unfold barP
    rw [if_pos rfl]; exact BIBase.Entails.rfl
  have hlast : barP (F := F) 15 c ⊢ iprop(freeA 15 (sh 15 c) ∗ freeS true 1 (nb true c)) := by
    unfold barP
    rw [if_neg (by decide), if_pos rfl]; exact BIBase.Entails.rfl
  iintro Hr
  ihave Hr2 := (row_last (fun d => barP (F := F) d c) 14 1) $$ Hr
  icases Hr2 with ⟨Hr, Hl⟩
  ihave Hr2 := (Entails.of_eq (show row (fun d => barP (F := F) d c) 1 14 = iprop(barP 1 c ∗ row (fun d => barP (F := F) d c) 2 13) from rfl)) $$ Hr
  icases Hr2 with ⟨H1, Hr⟩
  ihave H1 := hfirst $$ H1
  icases H1 with ⟨H1, Hf⟩
  ihave Hl := hlast $$ Hl
  icases Hl with ⟨Hl, Ht⟩
  isplitr [Hf Ht]
  · iapply (row_snoc (fun d => freeA (F := F) d (sh d c)) 14 1)
    isplitr [Hl]
    · iapply (Entails.of_eq (show iprop(freeA 1 (sh 1 c) ∗ row (fun d => freeA (F := F) d (sh d c)) 2 13) = row (fun d => freeA (F := F) d (sh d c)) 1 14 from rfl))
      isplitl [H1]; · iexact H1
      iapply (row_mono 13 2 hmid) $$ Hr
    iexact Hl
  isplitl [Hf] <;> iassumption

theorem freeA_zero (c : Dev nD) : freeA' (F := F) c 0 = freeA 0 c := by
  unfold freeA' freeA; rw [show f16 0 = 0 by decide]
theorem freeA_f16 (c : Dev nD) (k : ℕ) : freeA (F := F) k c = freeA' c (f16 k) := by
  unfold freeA' freeA; rfl
/-- The table put together again from what came into its slots. -/
theorem join_table (c : Dev nD) : iprop(freeA 0 c ∗ row (fun k => hlandP hi k c) 1 15) ⊢ bufA (F := F) c := by
  have hfree : ∀ k, 1 ≤ k → k < 1 + 15 → hlandP hi k c ⊢ freeA' (F := F) c (f16 k) := fun k _ _ => by
    rw [← freeA_f16]
    unfold hlandP freeA slot owns
    iintro H
    icases H with ⟨%f, -, H⟩
    iexists f
    iexact H
  refine BIBase.Entails.trans ?_ (table_together c)
  rw [fin16_up, freeA_zero]
  iintro ⟨H0, Hr⟩
  isplitl [H0]; · iexact H0
  iapply (row_mono 15 1 hfree) $$ Hr

/-! ## The two semaphores no copy uses -/

theorem dut_hs0 : dutS (.dma (hsS 0)) = ∅ := by rw [dutS_dma]; exact if_pos (by decide)
theorem dut_hr0 : dutS (.dma (hrS 0)) = ∅ := by rw [dutS_dma]; exact if_pos (by decide)

theorem close_unused (c : Dev nD) (q : DmaSem sig) (oq : isOwn (.dma q) = true) (dq : dutS (.dma q) = ∅) :
    iprop(know wt hi K KS ∗ atPos ER ((c : Thread nD τ), SemLoc.dma q) 0 ∅ 0) ⊢ (|={Set.univ}=> semVal ((c : Thread nD τ), SemLoc.dma q) 0 : sProp 𝕄) := by
  have hdone : ∀ r, 0 ≤ r → (sched wt hi).duties ((c : Thread nD τ), .dma q) r = ∅ := fun r _ => by
    rcases Nat.eq_zero_or_pos r with rfl | hr
    · rw [duties_zero, dq]
    · exact duties_later wt hi _ r hr
  iintro ⟨#Hk, Hat⟩
  ihave Hc := (know_cell wt hi K KS c (.dma q) oq) $$ Hk
  icases Hc with ⟨#Hi, -⟩
  imod (Rounds.cell_close ER (sched wt hi) (Set.mem_univ (K (c, .dma q))) (fun h => h) (R := 0) hdone) $$ [Hat] with Hz
  · isplitr; · iexact Hi
    iexact Hat
  imodintro; iexact Hz

theorem cred_start (c : Dev nD) (d : Bool) : atPos ER (crC d c) 0 ∅ 0 ⊢ credSt (F := F) c d 0 := by
  unfold credSt
  iintro H
  iexists ∅
  isplitr; · ipureintro; exact ⟨Finset.empty_subset _, by decide⟩
  isplitl [H]; · iexact H
  rw [BI.bigSep_empty]; iempintro
theorem down_start (c : Dev nD) (d : Bool) : (iprop(emp) : sProp 𝕄) ⊢ downTo (F := F) d 0 c := by
  unfold downTo
  rw [Finset.range_zero, BI.bigSep_empty]; exact BIBase.Entails.rfl

/-! ## The body -/

theorem dev_step (c : Dev nD) (k : Dev nD → Body F PUnit) (Q : PUnit → sProp 𝕄) : run c (k c) Q ⊢ run c (Prog.lift .deviceId >>= k) Q := by
  unfold run Prog.lift
  exact Entails.of_eq (wp_deviceId (k := k) 𝒱₀ (c : Thread nD τ) none Set.univ).symm

theorem fupd_run (c : Dev nD) (p : Body F PUnit) (Q : PUnit → sProp 𝕄) : iprop(|={Set.univ}=> run c p Q) ⊢ run c p Q := by
  unfold run
  exact Idealize.SL.Sem.fupd_wp _ _ _ p Q

/-- The part up to the hops. -/
theorem opening (c : Dev nD) (x : Vec F S1024x512 .bf16) (e : Vec F S1024x1 .i32) (w : Vec F S4x512x1024 .bf16) (a : Vec F S1024x1024 .f32)
    (hhi : hi c = histVal (F := F) e) (hwt : wt c = w) (k : Vec F S1024x512 .bf16 → Vec F S1024x1 .i32 → Body F PUnit) (Q : PUnit → sProp 𝕄) :
    iprop(know wt hi K KS ∗ owesL c (allDue c) ∗ (xB c x ∗ eB c e ∗ wB c w ∗ outB c a) ∗ scratch c
        ∗ (row (fun k => dutyTok ER (baC (sh k c)) 0 (16 - k)) 1 15
          ∗ row (fun k => iprop(dutyTok ER (hsC k c) 0 0 ∗ dutyTok ER (hrC k (sh k c)) 0 0)) 1 15
          ∗ (dutyTok ER (wsC false 0 c) 0 0 ∗ dutyTok ER (wrC false 0 (nb false c)) 0 0)
          ∗ (dutyTok ER (wsC true 0 c) 0 0 ∗ dutyTok ER (wrC true 0 (nb true c)) 0 0))
        ∗ (cred (tallyAt (baC c) 0 15) ∗ atPos ER (baC c) 0 ∅ 0)
        ∗ (owesL c (hopsFrom c 0 7) ∗ (xB c x ∗ eB c e ∗ wB c w)
          ∗ (owns (c : Thread nD τ) hM (hrem 15) (hi c) ∗ row (fun k => cred (tallyAt (hsC k c) 0 NH)) 1 15 ∗ freeA 0 c ∗ semVal (baC c) 0)
          ∗ (cred (tallyAt (wsC false 0 c) 0 (amtW 0)) ∗ owns (c : Thread nD τ) (slotM false (par 0)) fullShare.right (wt (orig false 0 c)))
          ∗ (cred (tallyAt (wsC true 0 c) 0 (amtW 0)) ∗ owns (c : Thread nD τ) (slotM true (par 0)) fullShare.right (wt (orig true 0 c)))
          ∗ outB c (firstV wt c (k0_pay2 x) (k0_pay3 (F := F) e) (k0_pay11 (F := F))) -∗ run c (k x e) Q))
      ⊢ run c (entry c >>= fun _ => xload >>= fun x => eload >>= fun e => setup c e >>= fun _ =>
          first c (k0_pay2 x) (k0_pay3 (F := F) e) >>= fun _ => k x e) Q := by
  unfold scratch
  iintro ⟨#Hk, HO, ⟨Hx, He, Hw, Ho⟩, ⟨Hb0, Hb1, Hbh, Hba⟩, ⟨Htb, Hth, ⟨Htfs, Htfr⟩, ⟨Htts, Httr⟩⟩, Hwb, HQ⟩
  ihave Hb0 := (split_buf false c) $$ Hb0
  icases Hb0 with ⟨Hf0, Hf1⟩
  ihave Hb1 := (split_buf true c) $$ Hb1
  icases Hb1 with ⟨Ht0, Ht1⟩
  ihave Hba := (BIBase.Entails.trans (table_apart c) (Entails.of_eq (fin16_down (freeA' (F := F) c)))) $$ Hba
  icases Hba with ⟨Ha0, Har⟩
  ihave Hgive := (give_slots c) $$ [Har Hf1 Ht1]
  · isplitl [Har]; · iexact Har
    isplitl [Hf1] <;> iassumption
  ihave Hbu := (row_zip (fun k => dutyTok ER (baC (sh k c)) 0 (16 - k)) (fun k => barP (F := F) (16 - k) (sh k c)) 15 1) $$ [Htb Hgive]
  · isplitl [Htb] <;> iassumption
  rw [run_bind]
  iapply (entry_step wt hi K KS c)
  isplitr; · iexact Hk
  isplitl [Hbu]; · iapply (row_mono 15 1 (fun k _ _ => by unfold barUse; exact BIBase.Entails.rfl)) $$ Hbu
  isplitl [HO]; · iexact HO
  isplitl [Hwb]; · iexact Hwb
  iintro ⟨HO, Hgot, Hzb⟩
  ihave Hgot := (got_slots c) $$ Hgot
  icases Hgot with ⟨Hga, Hgf, Hgt⟩
  ihave Hhu := (row_zip (fun d => freeA (F := F) d (sh d c)) (fun k => iprop(dutyTok ER (hsC k c) 0 0 ∗ dutyTok ER (hrC k (sh k c)) 0 0)) 15 1) $$ [Hga Hth]
  · isplitl [Hga] <;> iassumption
  rw [run_bind]
  iapply (xload_step c x)
  isplitl [Hx]; · iexact Hx
  iintro Hx
  rw [run_bind]
  iapply (eload_step c e)
  isplitl [He]; · iexact He
  iintro He
  rw [run_bind]
  iapply (setup_step wt hi K KS c e w a hhi hwt)
  isplitr; · iexact Hk
  isplitl [Hhu]; · iapply (row_mono 15 1 (fun k _ _ => by unfold histUse; exact BIBase.Entails.rfl)) $$ Hhu
  isplitl [HO]; · iexact HO
  isplitl [Hbh]; · unfold bufH; iexact Hbh
  isplitl [Hw]; · iexact Hw
  isplitl [Hf0]; · iexact Hf0
  isplitl [Ht0]; · iexact Ht0
  isplitl [Ho]; · iexact Ho
  iintro ⟨HO, Hh, Hch, Hw, Hf0, Ht0, Ho⟩
  rw [run_bind]
  iapply (first_step wt hi K KS c (k0_pay2 x) (k0_pay3 (F := F) e) (k0_pay11 (F := F)))
  isplitr; · iexact Hk
  isplitl [HO]; · iexact HO
  isplitl [Hf0]; · iexact Hf0
  isplitl [Ht0]; · iexact Ht0
  isplitl [Hgf Htfs Htfr]
  · unfold firstUse
    isplitl [Hgf]; · iexact Hgf
    isplitl [Htfs] <;> iassumption
  isplitl [Hgt Htts Httr]
  · unfold firstUse
    isplitl [Hgt]; · iexact Hgt
    isplitl [Htts] <;> iassumption
  isplitl [Ho]; · iexact Ho
  iintro ⟨HO, Hf, Ht, Ho⟩
  iapply HQ
  isplitl [HO]; · iexact HO
  isplitl [Hx He Hw]
  · isplitl [Hx]; · iexact Hx
    isplitl [He] <;> iassumption
  isplitl [Hh Hch Ha0 Hzb]
  · isplitl [Hh]; · iexact Hh
    isplitl [Hch]; · iexact Hch
    isplitl [Ha0]; · iapply (Entails.of_eq (freeA_zero c)) $$ Ha0
    iexact Hzb
  isplitl [Hf]; · iexact Hf
  isplitl [Ht] <;> iassumption

/-- A direction's slots put together at the end. -/
theorem join_dir (c : Dev nD) (d : Bool) :
    iprop(owns (c : Thread nD τ) (slotM d 1) fullShare.right (wt (orig d 7 c)) ∗ keepL d c ∗ keep d 6 c
        ∗ owns (c : Thread nD τ) (halfM d 1) fullShare.left (halfOf d (wt (orig d 7 c))) ∗ owns (c : Thread nD τ) (halfM d 0) fullShare (halfOf d (wt (orig d 8 c))))
      ⊢ bufD (F := F) d c := by
  iintro ⟨Hr, Hkl, Hkp, Hl, Hh⟩
  iapply (join_buf d c)
  isplitl [Hkp Hh]
  · iapply (join_slot0 d c _)
    isplitl [Hh] <;> iassumption
  iapply (join_slot1 d c _ _)
  isplitl [Hr]; · iexact Hr
  isplitl [Hkl] <;> iassumption

theorem body_run (c : Dev nD) (x : Vec F S1024x512 .bf16) (e : Vec F S1024x1 .i32) (w : Vec F S4x512x1024 .bf16) (a : Vec F S1024x1024 .f32)
    (hhi : hi c = histVal (F := F) e) (hwt : wt c = w) (Q : PUnit → sProp 𝕄) :
    iprop(know wt hi K KS ∗ owesL c (allDue c) ∗ (xB c x ∗ eB c e ∗ wB c w ∗ outB c a) ∗ scratch c ∗ duties c ∗ waitsFor c
        ∗ (owesL c [] ∗ (xB c x ∗ eB c e ∗ wB c w ∗ outB c (resV wt hi c x e)) ∗ scratch c ∗ zeros c -∗ Q ⟨⟩))
      ⊢ run c body Q := by
  unfold body duties waitsFor resV
  iintro ⟨#Hk, HO, Hops, Hscr, ⟨Htb, Hth, Htf, Htt, Huse⟩, ⟨Hwb, ⟨Haf, Hat⟩, ⟨Hf7s, Hf7c, Hf7r⟩, ⟨Ht7s, Ht7c, Ht7r⟩, Hhr, Hhs, Hs0, Hr0⟩, HQ⟩
  iapply (dev_step c)
  iapply (opening wt hi K KS c x e w a hhi hwt)
  isplitr; · iexact Hk
  isplitl [HO]; · iexact HO
  isplitl [Hops]; · iexact Hops
  isplitl [Hscr]; · iexact Hscr
  isplitl [Htb Hth Htf Htt]
  · isplitl [Htb]; · iexact Htb
    isplitl [Hth]; · iexact Hth
    isplitl [Htf] <;> iassumption
  isplitl [Hwb]; · iexact Hwb
  iintro ⟨HO, Hops, ⟨Hh, Hch, Ha0, Hzb⟩, ⟨Hcf, Hf⟩, ⟨Hct, Ht⟩, Ho⟩
  ihave Huse := (row_last (fun h => iprop(dirUse (F := F) false h c ∗ dirUse true h c)) 6 0) $$ Huse
  icases Huse with ⟨Huse, Hu6⟩
  rw [run_bind]
  iapply (hops_step wt hi K KS c (k0_pay2 x) (k0_pay3 (F := F) e) _)
  isplitr; · iexact Hk
  isplitl [Huse]; · iexact Huse
  isplitl [HO Hcf Hf Hct Ht Ho Haf Hat]
  · isplitl [HO]; · iexact HO
    isplitr [Ho]
    · unfold dirSt
      isplitl [Hcf Hf Haf]
      · isplitl [Hcf]; · iexact Hcf
        isplitl [Hf]; · iexact Hf
        isplitl [Haf]; · iapply (cred_start c false) $$ Haf
        iapply (down_start c false); iempintro
      isplitl [Hct]; · iexact Hct
      isplitl [Ht]; · iexact Ht
      isplitl [Hat]; · iapply (cred_start c true) $$ Hat
      iapply (down_start c true); iempintro
    iexact Ho
  iintro ⟨⟨HO, Hd, Ho⟩, Hends⟩
  rw [run_bind]
  iapply (hop6_step wt hi K KS c (k0_pay2 x) (k0_pay3 (F := F) e) _)
  isplitr; · iexact Hk
  isplitl [Hu6]; · iexact Hu6
  isplitl [HO Hd Ho]
  · isplitl [HO]; · iexact HO
    isplitl [Hd] <;> iassumption
  iintro ⟨HO, Ho, ⟨Hcf, Hf1, Hkf, Hzf, Hkpf, Hef⟩, ⟨Hct, Ht1, Hkt, Hzt, Hkpt, Het⟩⟩
  rw [run_bind]
  iapply (hop7_step wt hi K KS c (k0_pay2 x) (k0_pay3 (F := F) e) _)
  isplitr; · iexact Hk
  isplitl [HO]; · iexact HO
  isplitl [Hcf Hf7s Hf7c Hf7r]
  · unfold lastUse
    isplitl [Hcf]; · iexact Hcf
    isplitl [Hf7s]; · iexact Hf7s
    isplitl [Hf7c] <;> iassumption
  isplitl [Hct Ht7s Ht7c Ht7r]
  · unfold lastUse
    isplitl [Hct]; · iexact Hct
    isplitl [Ht7s]; · iexact Ht7s
    isplitl [Ht7c] <;> iassumption
  isplitl [Ho]; · iexact Ho
  unfold lastEnd
  iintro ⟨HO, ⟨Hlf, Hhf, He7f⟩, ⟨Hlt, Hht, He7t⟩, Ho⟩
  ihave Hsu := (row_zip (fun k => cred (tallyAt (hsC k c) 0 NH)) (fun k => atPos ER (hsC k c) 0 ∅ 0) 15 1) $$ [Hch Hhs]
  · isplitl [Hch] <;> iassumption
  iapply (fupd_run c)
  imod (close_unused wt hi K KS c (hsS (f16 0)) (by decide) dut_hs0) $$ [Hs0] with Hs0z
  · isplitr; · iexact Hk
    iexact Hs0
  imod (close_unused wt hi K KS c (hrS (f16 0)) (by decide) dut_hr0) $$ [Hr0] with Hr0z
  · isplitr; · iexact Hk
    iexact Hr0
  imodintro
  iapply (finish_step wt hi K KS c e _)
  isplitr; · iexact Hk
  isplitl [HO]; · iexact HO
  isplitl [Hhr]; · iexact Hhr
  isplitl [Hsu]; · iapply (row_mono 15 1 (fun k _ _ => by unfold hsUse; exact BIBase.Entails.rfl)) $$ Hsu
  isplitl [Ho]; · iexact Ho
  iintro ⟨HO, Her, Hes, Ho⟩
  iapply HQ
  isplitl [HO]; · iexact HO
  isplitl [Hops Ho]
  · icases Hops with ⟨Hx, He, Hw⟩
    isplitl [Hx]; · iexact Hx
    isplitl [He]; · iexact He
    isplitl [Hw] <;> iassumption
  unfold hrEnd hsEnd
  ihave Her := (row_sep (fun k => hlandP hi k c) (fun k => semVal (hrC k c) 0) 15 1) $$ Her
  icases Her with ⟨Hland, Hzr⟩
  ihave Hes := (row_sep (fun k => hlentP hi k c) (fun k => semVal (hsC k c) 0) 15 1) $$ Hes
  icases Hes with ⟨Hlent, Hzs⟩
  isplitl [Hf1 Hkf Hkpf Hlf Hhf Ht1 Hkt Hkpt Hlt Hht Hh Hlent Ha0 Hland]
  · unfold scratch
    isplitl [Hf1 Hkf Hkpf Hlf Hhf]
    · iapply (join_dir wt c false)
      isplitl [Hf1]; · iexact Hf1
      isplitl [Hkf]; · iexact Hkf
      isplitl [Hkpf]; · iexact Hkpf
      isplitl [Hlf] <;> iassumption
    isplitl [Ht1 Hkt Hkpt Hlt Hht]
    · iapply (join_dir wt c true)
      isplitl [Ht1]; · iexact Ht1
      isplitl [Hkt]; · iexact Hkt
      isplitl [Hkpt]; · iexact Hkpt
      isplitl [Hlt] <;> iassumption
    isplitl [Hh Hlent]
    · iapply (join_bufH hi c)
      isplitl [Hh] <;> iassumption
    iapply (join_table hi c)
    isplitl [Ha0] <;> iassumption
  unfold zeros
  isplitl [Hzb]; · iexact Hzb
  isplitl [Hzf Hzt]
  · isplitl [Hzf] <;> iassumption
  isplitl [Hends Hef Het He7f He7t]
  · iapply (row_snoc (fun h => iprop(dirEnd (F := F) false h c ∗ dirEnd true h c)) 7 0)
    isplitr [He7f He7t]
    · iapply (row_snoc (fun h => iprop(dirEnd (F := F) false h c ∗ dirEnd true h c)) 6 0)
      isplitl [Hends]; · iexact Hends
      isplitl [Hef] <;> iassumption
    isplitl [He7f] <;> iassumption
  isplitl [Hs0z Hzs]
  · iapply (Entails.of_eq (show iprop(semVal (hsC 0 c) 0 ∗ row (fun k => semVal (hsC k c) 0) 1 15) = row (F := F) (fun k => semVal (hsC k c) 0) 0 16 from rfl))
    isplitl [Hs0z] <;> iassumption
  iapply (Entails.of_eq (show iprop(semVal (hrC 0 c) 0 ∗ row (fun k => semVal (hrC k c) 0) 1 15) = row (F := F) (fun k => semVal (hrC k c) 0) 0 16 from rfl))
  isplitl [Hr0z] <;> iassumption

end Cert.KernelIdeal.Ring

end
-- ==== Proof.Deal.lean ====
/-
  Dealing out: conjunctions along a list, a family held by every device passed on around the ring, and the launch's
  credit for what the devices owe one another.
-/
module

public import proofs.«01_k».proof.Proof.Whole

@[expose] public section

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig ℕ (Elt F) ℕ UU ℕ

/-! ## Along a list -/

def rowL {α : Type} : List α → (α → sProp 𝕄) → sProp 𝕄
  | [], _ => iprop(emp)
  | x :: l, Φ => iprop(Φ x ∗ rowL l Φ)

theorem sepAssoc (P Q R : sProp 𝕄) : iprop((P ∗ Q) ∗ R) = iprop(P ∗ Q ∗ R) := by
  have h1 : iprop((P ∗ Q) ∗ R) ⊢ iprop(P ∗ Q ∗ R) := by
    iintro ⟨⟨H1, H2⟩, H3⟩
    isplitl [H1]; · iexact H1
    isplitl [H2] <;> iassumption
  have h2 : iprop(P ∗ Q ∗ R) ⊢ iprop((P ∗ Q) ∗ R) := by
    iintro ⟨H1, H2, H3⟩
    isplitr [H3]
    · isplitl [H1] <;> iassumption
    iexact H3
  exact BI.Entails.antisymm h1 h2
theorem empSep (P : sProp 𝕄) : iprop(emp ∗ P) = P := by
  have h1 : iprop(emp ∗ P) ⊢ P := by iintro ⟨-, H⟩; iexact H
  have h2 : P ⊢ iprop(emp ∗ P) := by
    iintro H
    isplitr; · iempintro
    iexact H
  exact BI.Entails.antisymm h1 h2

theorem rowL_set {α : Type} [DecidableEq α] (l : List α) (h : l.Nodup) (Φ : α → sProp 𝕄) : bigSep l.toFinset Φ = rowL l Φ := by
  induction l with
  | nil => rw [List.toFinset_nil, BI.bigSep_empty]; rfl
  | cons x l ih =>
    rw [List.nodup_cons] at h
    rw [List.toFinset_cons, bigSep_insert (fun hx => h.1 (List.mem_toFinset.1 hx)), ih h.2]; rfl
theorem rowL_append {α : Type} (l l' : List α) (Φ : α → sProp 𝕄) : rowL (l ++ l') Φ = iprop(rowL l Φ ∗ rowL l' Φ) := by
  induction l with
  | nil => exact (empSep _).symm
  | cons x l ih =>
    show iprop(Φ x ∗ rowL (l ++ l') Φ) = iprop((Φ x ∗ rowL l Φ) ∗ rowL l' Φ)
    rw [ih, sepAssoc]
theorem rowL_map {α : Type} (f : ℕ → α) (n s : ℕ) (Φ : α → sProp 𝕄) : rowL ((List.range' s n).map f) Φ = row (fun k => Φ (f k)) s n := by
  induction n generalizing s with
  | zero => rfl
  | succ n ih =>
    rw [List.range'_succ, List.map_cons]
    unfold row
    rw [← ih (s + 1)]; rfl
theorem rowL_flat {α : Type} (f : ℕ → List α) (n s : ℕ) (Φ : α → sProp 𝕄) :
    rowL ((List.range' s n).flatMap f) Φ = row (fun k => rowL (f k) Φ) s n := by
  induction n generalizing s with
  | zero => rfl
  | succ n ih =>
    rw [List.range'_succ, List.flatMap_cons, rowL_append]
    conv_rhs => unfold row
    rw [← ih (s + 1)]
theorem rowL_each {α : Type} (l : List α) (Φ : Dev nD → α → sProp 𝕄) :
    bigSep Finset.univ (fun c : Dev nD => rowL l (Φ c)) = rowL l (fun x => bigSep Finset.univ fun c => Φ c x) := by
  induction l with
  | nil => exact BI.bigSep_emp_const _
  | cons x l ih =>
    show bigSep Finset.univ (fun c : Dev nD => iprop(Φ c x ∗ rowL l (Φ c))) = iprop(bigSep Finset.univ (fun c => Φ c x) ∗ rowL l _)
    rw [bigSep_sep', ih]

theorem row_shift (P : ℕ → sProp 𝕄) (n s : ℕ) : row (fun h => P (h + 1)) s n = row P (s + 1) n := by
  induction n generalizing s with
  | zero => rfl
  | succ n ih => unfold row; rw [ih (s + 1)]
theorem row_congr {P Q : ℕ → sProp 𝕄} (n s : ℕ) (h : ∀ k, s ≤ k → k < s + n → P k = Q k) : row P s n = row Q s n := by
  induction n generalizing s with
  | zero => rfl
  | succ n ih => unfold row; rw [h s (le_refl _) (by omega), ih (s + 1) (fun k h1 h2 => h k (by omega) (by omega))]

/-! ## Around the ring -/

theorem sh_turn (k : ℕ) (c : Dev nD) : sh (15 * k + k) c = c := by
  unfold sh; apply Fin.ext; have : c.val < 16 := c.isLt; dsimp only; omega
theorem sh_zero (c : Dev nD) : sh 0 c = c := by
  unfold sh; apply Fin.ext; have : c.val < 16 := c.isLt; dsimp only; omega
def shE (k : ℕ) : Dev nD ≃ Dev nD where
  toFun := sh k
  invFun := sh (15 * k)
  left_inv c := by rw [sh_sh, sh_turn]
  right_inv c := by rw [sh_sh, Nat.add_comm, sh_turn]

/-- What every device holds along a list, each member passed on by its own distance. -/
theorem deal {α : Type} (l : List α) (σ : α → ℕ) (Φ : Dev nD → α → sProp 𝕄) :
    bigSep Finset.univ (fun c : Dev nD => rowL l (Φ c)) = bigSep Finset.univ (fun c : Dev nD => rowL l fun x => Φ (sh (σ x) c) x) := by
  rw [rowL_each, rowL_each]
  congr 1
  funext x
  exact bigSep_univ_equiv (shE (σ x)) (fun c => Φ c x)

/-! ## What the launch credits -/

/-- A payment each device makes: how far, which semaphore, the index it is booked at, the amount. -/
abbrev Tmpl : Type := ℕ × SemLoc sig × ℕ × ℕ
def dueAt (d : Dev nD) (x : Tmpl) : Due := (((sh x.1 d : Thread nD τ), x.2.1), x.2.2.1, x.2.2.2)

theorem launch_one (x : Tmpl) (c : Dev nD) :
    (Pipeline.launchCred (fun d => tallyAt (dueAt d x).1 (dueAt d x).2.1 (dueAt d x).2.2) c : sProp 𝕄)
      ⊢ cred (tallyAt ((c : Thread nD τ), x.2.1) x.2.2.1 x.2.2.2) := by
  refine BIBase.Entails.trans (Pipeline.launchCred_elim _ c x.2.1) (Entails.of_eq ?_)
  congr 1
  unfold tallyAt
  congr 1
  refine Finsupp.ext fun i => ?_
  rw [Pipeline.launchCredit_owing, Finset.sum_eq_single (sh (15 * x.1) c)]
  · show tallyAt (((sh x.1 (sh (15 * x.1) c) : Dev nD) : Thread nD τ), x.2.1) x.2.2.1 x.2.2.2 ((c : Thread nD τ), x.2.1) i = _
    rw [sh_sh, Nat.add_comm, sh_turn, tallyAt_apply, Finsupp.single_apply]
    by_cases h : i = x.2.2.1
    · rw [if_pos ⟨rfl, h⟩, if_pos h.symm]
    · rw [if_neg (fun h' => h h'.2), if_neg (fun h' => h h'.symm)]
  · intro d _ hd
    show tallyAt (((sh x.1 d : Dev nD) : Thread nD τ), x.2.1) x.2.2.1 x.2.2.2 ((c : Thread nD τ), x.2.1) i = 0
    rw [tallyAt_apply, if_neg]
    rintro ⟨h, -⟩
    have hc : c = sh x.1 d := congrArg (fun g : GSem nD τ sig => g.1.1) h
    exact hd (by rw [hc, sh_sh, sh_turn])
  · exact fun h => absurd (Finset.mem_univ _) h

theorem launch_row (l : List Tmpl) (c : Dev nD) :
    (Pipeline.launchCred (fun d => pile (l.map (dueAt d))) c : sProp 𝕄)
      ⊢ rowL l (fun x => cred (tallyAt ((c : Thread nD τ), x.2.1) x.2.2.1 x.2.2.2)) := by
  induction l with
  | nil =>
    unfold rowL
    iintro -; iempintro
  | cons x l ih =>
    refine BIBase.Entails.trans (Entails.of_eq (Pipeline.launchCred_add (fun d => pile (l.map (dueAt d))) (fun d => tallyAt (dueAt d x).1 (dueAt d x).2.1 (dueAt d x).2.2) c)) ?_
    conv_rhs => unfold rowL
    iintro ⟨H1, H2⟩
    isplitl [H2]
    · iapply (launch_one x c) $$ H2
    iapply ih $$ H1

/-- Unit credits of one cell together. -/
theorem cred_gather (g : GSem nD τ sig) (n s : ℕ) : row (fun _ => cred (tallyAt g 0 1)) s n ⊢ (cred (tallyAt g 0 n) : sProp 𝕄) := by
  induction n generalizing s with
  | zero =>
    rw [tallyAt_zero, cred_zero]; exact BIBase.Entails.rfl
  | succ n ih =>
    unfold row
    rw [← tallyAt_add]
    iintro ⟨H1, H2⟩
    iapply (cred_add (tallyAt g 0 n) (tallyAt g 0 1)).2
    isplitl [H2]
    · iapply (ih (s + 1)) $$ H2
    iexact H1

end Cert.KernelIdeal.Ring

end
-- ==== Proof.Fund.lean ====
/-
  The protocol's tokens and positions minted at the launch, the invariants of its cells allocated, and each device's
  share made up.
-/
module

public import proofs.«01_k».proof.Proof.Deal
public import Idealize.ShloMosaic.Lib.SparseCore.Launch

@[expose] public section

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release (slot released readerAt writeTok slotInv USlots initSlots slots_init)
open Cert.KernelIdeal Cert.KernelIdeal.Gen

variable {F : FTy → Type} [FloatOps F]

local notation "𝕄" => MT nD τ sig ℕ (Elt F) ℕ UU ℕ

/-! ## What there is -/

/-- A token: how far from the cell's device its payer looks, the semaphore, the duty. -/
abbrev Tok : Type := ℕ × SemLoc sig × ℕ
abbrev toNb (d : Bool) : ℕ := bif d then 15 else 1
def tokBa : List Tok := (List.range' 1 15).map fun k => (k, .reg baS, 16 - k)
def tokHs : List Tok := (List.range' 1 15).map fun k => (0, .dma (hsS (f16 k)), 0)
def tokHr : List Tok := (List.range' 1 15).map fun k => (k, .dma (hrS (f16 k)), 0)
def tokWs (d : Bool) : List Tok := (List.range' 0 8).map fun h => (0, .dma (wsS d (f8 h)), 0)
def tokWr (d : Bool) : List Tok := (List.range' 0 8).map fun h => (toNb d, .dma (wrS d (f8 h)), 0)
def tokCr (d : Bool) : List Tok := (List.range' 0 7).map fun h => (toNb (!d), .reg (crS d), h)
def tokL : List Tok :=
  tokBa ++ (tokHs ++ (tokHr ++ (tokWs false ++ (tokWs true ++ (tokWr false ++ (tokWr true ++ (tokCr false ++ tokCr true)))))))
def tokM : List (SemLoc sig × ℕ) := tokL.map fun x => x.2
theorem tokM_nodup : tokM.Nodup := by decide +kernel

def posWs (d : Bool) : List (SemLoc sig) := (List.range' 0 8).map fun h => .dma (wsS d (f8 h))
def posWr (d : Bool) : List (SemLoc sig) := (List.range' 0 8).map fun h => .dma (wrS d (f8 h))
def posHs : List (SemLoc sig) := (List.range' 0 16).map fun k => .dma (hsS (f16 k))
def posHr : List (SemLoc sig) := (List.range' 0 16).map fun k => .dma (hrS (f16 k))
def posL : List (SemLoc sig) :=
  .reg baS :: .reg (crS false) :: .reg (crS true) :: (posWs false ++ (posWs true ++ (posWr false ++ (posWr true ++ (posHs ++ posHr)))))
theorem posL_nodup : posL.Nodup := by decide +kernel
theorem posL_all : posL.toFinset = ownSems := by decide +kernel

def keyDir (d : Bool) : List (ℕ × Bool × ℕ) := (List.range' 0 7).map fun h => (toNb d, d, h)
def keyL : List (ℕ × Bool × ℕ) := keyDir false ++ keyDir true
def keyM : List (Bool × ℕ) := keyL.map fun x => x.2
theorem keyM_nodup : keyM.Nodup := by decide +kernel
theorem keyM_all : keyM.toFinset = Finset.univ ×ˢ Finset.range 7 := by decide +kernel

abbrev tmS (d : Bool) (h : ℕ) : Tmpl := (toNb d, .dma (wrS d (f8 h)), 0, amtW h)
abbrev tmC (d : Bool) (h : ℕ) : Tmpl := (toNb (!d), .reg (crS d), h, 1)
def tmBa : List Tmpl := (List.range' 1 15).map fun k => (k, .reg baS, 0, 1)
def tmHr : List Tmpl := (List.range' 1 15).map fun k => (k, .dma (hrS (f16 k)), 0, NH)
def tmHops : List Tmpl := (List.range' 0 7).flatMap fun h => [tmC false h, tmC true h, tmS false (h + 1), tmS true (h + 1)]
def tmL : List Tmpl := tmBa ++ (tmHr ++ (tmS false 0 :: tmS true 0 :: tmHops))
theorem allDue_eq (d : Dev nD) : allDue d = tmL.map (dueAt d) := by
  unfold allDue tmL tmBa tmHr tmHops tailDue barsFrom histsFrom hopsFrom
  rw [List.map_append, List.map_append, List.map_map, List.map_map, List.map_cons, List.map_cons, List.map_flatMap]
  rfl

/-- A device's share. -/
def shareOf (c : Dev nD) : sProp 𝕄 :=
  iprop(rowL tokL (fun x => dutyTok ER (((sh x.1 c : Dev nD) : Thread nD τ), x.2.1) 0 x.2.2)
    ∗ rowL posL (fun sm => atPos ER ((c : Thread nD τ), sm) 0 ∅ 0)
    ∗ rowL keyL (fun x => readerAt EW ((c, x.2) : Key) 0)
    ∗ rowL keyL (fun x => writeTok EW ((sh x.1 c, x.2) : Key) 1))
def creditOf (c : Dev nD) : sProp 𝕄 := rowL tmL fun x => cred (tallyAt ((c : Thread nD τ), x.2.1) x.2.2.1 x.2.2.2)

theorem row_sepEq (P Q : ℕ → sProp 𝕄) (n s : ℕ) : row (fun k => iprop(P k ∗ Q k)) s n = iprop(row P s n ∗ row Q s n) :=
  BI.Entails.antisymm (row_sep P Q n s) (row_zip P Q n s)
theorem row_first (P : ℕ → sProp 𝕄) (n s : ℕ) : row P s (n + 1) = iprop(P s ∗ row (fun h => P (h + 1)) s n) := by
  conv_lhs => unfold row
  rw [row_shift]
theorem row_end (P : ℕ → sProp 𝕄) (n s : ℕ) : row P s (n + 1) = iprop(row P s n ∗ P (s + n)) :=
  BI.Entails.antisymm (row_last P n s) (row_snoc P n s)

theorem share_eq' (c : Dev nD) : shareOf (F := F) c = iprop(
    ((row (fun k => dutyTok ER (baC (sh k c)) 0 (16 - k)) 1 15)
      ∗ row (fun k => dutyTok ER (hsC k c) 0 0) 1 15 ∗ row (fun k => dutyTok ER (hrC k (sh k c)) 0 0) 1 15
      ∗ (dutyTok ER (wsC false 0 c) 0 0 ∗ row (fun h => dutyTok ER (wsC false (h + 1) c) 0 0) 0 7)
      ∗ (dutyTok ER (wsC true 0 c) 0 0 ∗ row (fun h => dutyTok ER (wsC true (h + 1) c) 0 0) 0 7)
      ∗ (dutyTok ER (wrC false 0 (nb false c)) 0 0 ∗ row (fun h => dutyTok ER (wrC false (h + 1) (nb false c)) 0 0) 0 7)
      ∗ (dutyTok ER (wrC true 0 (nb true c)) 0 0 ∗ row (fun h => dutyTok ER (wrC true (h + 1) (nb true c)) 0 0) 0 7)
      ∗ row (fun h => dutyTok ER (crC false (nb true c)) 0 h) 0 7 ∗ row (fun h => dutyTok ER (crC true (nb false c)) 0 h) 0 7)
    ∗ (atPos ER (baC c) 0 ∅ 0 ∗ atPos ER (crC false c) 0 ∅ 0 ∗ atPos ER (crC true c) 0 ∅ 0
      ∗ (row (fun h => atPos ER (wsC false h c) 0 ∅ 0) 0 7 ∗ atPos ER (wsC false 7 c) 0 ∅ 0)
      ∗ (row (fun h => atPos ER (wsC true h c) 0 ∅ 0) 0 7 ∗ atPos ER (wsC true 7 c) 0 ∅ 0)
      ∗ (row (fun h => atPos ER (wrC false h c) 0 ∅ 0) 0 7 ∗ atPos ER (wrC false 7 c) 0 ∅ 0)
      ∗ (row (fun h => atPos ER (wrC true h c) 0 ∅ 0) 0 7 ∗ atPos ER (wrC true 7 c) 0 ∅ 0)
      ∗ (atPos ER (hsC 0 c) 0 ∅ 0 ∗ row (fun k => atPos ER (hsC k c) 0 ∅ 0) 1 15)
      ∗ (atPos ER (hrC 0 c) 0 ∅ 0 ∗ row (fun k => atPos ER (hrC k c) 0 ∅ 0) 1 15))
    ∗ (row (fun h => readerAt EW ((c, false, h) : Key) 0) 0 7 ∗ row (fun h => readerAt EW ((c, true, h) : Key) 0) 0 7)
    ∗ (row (fun h => writeTok EW ((nb false c, false, h) : Key) 1) 0 7 ∗ row (fun h => writeTok EW ((nb true c, true, h) : Key) 1) 0 7)) := by
  unfold shareOf tokL keyL posL tokBa tokHs tokHr tokWs tokWr tokCr posWs posWr posHs posHr keyDir
  simp only [rowL_append, rowL_map, rowL, sh_zero]
  rw [row_first (fun k => dutyTok ER (((c : Dev nD) : Thread nD τ), .dma (wsS false (f8 k))) 0 0) 7 0,
    row_first (fun k => dutyTok ER (((c : Dev nD) : Thread nD τ), .dma (wsS true (f8 k))) 0 0) 7 0,
    row_first (fun k => dutyTok ER (((sh (toNb false) c : Dev nD) : Thread nD τ), .dma (wrS false (f8 k))) 0 0) 7 0,
    row_first (fun k => dutyTok ER (((sh (toNb true) c : Dev nD) : Thread nD τ), .dma (wrS true (f8 k))) 0 0) 7 0,
    row_end (fun k => atPos ER (((c : Dev nD) : Thread nD τ), .dma (wsS false (f8 k))) 0 ∅ 0) 7 0,
    row_end (fun k => atPos ER (((c : Dev nD) : Thread nD τ), .dma (wsS true (f8 k))) 0 ∅ 0) 7 0,
    row_end (fun k => atPos ER (((c : Dev nD) : Thread nD τ), .dma (wrS false (f8 k))) 0 ∅ 0) 7 0,
    row_end (fun k => atPos ER (((c : Dev nD) : Thread nD τ), .dma (wrS true (f8 k))) 0 ∅ 0) 7 0]
  rfl

theorem credit_eq (c : Dev nD) : creditOf (F := F) c = iprop(
    row (fun _ => cred (tallyAt (baC c) 0 1)) 1 15 ∗ row (fun k => cred (tallyAt (hrC k c) 0 NH)) 1 15
    ∗ cred (tallyAt (wrC false 0 c) 0 (amtW 0)) ∗ cred (tallyAt (wrC true 0 c) 0 (amtW 0))
    ∗ row (fun h => cred (tallyAt (crC false c) h 1)) 0 7 ∗ row (fun h => cred (tallyAt (crC true c) h 1)) 0 7
    ∗ row (fun h => cred (tallyAt (wrC false (h + 1) c) 0 (amtW (h + 1)))) 0 7 ∗ row (fun h => cred (tallyAt (wrC true (h + 1) c) 0 (amtW (h + 1)))) 0 7) := by
  unfold creditOf tmL tmBa tmHr tmHops
  simp only [rowL_append, rowL_map, rowL_flat, rowL, sepEmp, row_sepEq]

/-- The share and the credit are what the body asks for. -/
theorem equip (c : Dev nD) : iprop(shareOf (F := F) c ∗ creditOf c) ⊢ iprop(duties c ∗ waitsFor c) := by
  rw [share_eq', credit_eq]
  unfold duties waitsFor hrUse
  unfold dirUse
  simp only [row_sepEq]
  iintro ⟨⟨⟨Tb, Ths, Thr, ⟨Twf0, Twf⟩, ⟨Twt0, Twt⟩, ⟨Trf0, Trf⟩, ⟨Trt0, Trt⟩, Tcf, Tct⟩,
    ⟨Ab, Acf, Act, ⟨Asf, Asf7⟩, ⟨Ast, Ast7⟩, ⟨Arf, Arf7⟩, ⟨Art, Art7⟩, ⟨Ahs0, Ahs⟩, ⟨Ahr0, Ahr⟩⟩, ⟨Rf, Rt⟩, ⟨Wf, Wt⟩⟩,
    ⟨Cb, Chr, Cf0, Ct0, Ccf, Cct, Cwf, Cwt⟩⟩
  ihave Cf := (Entails.of_eq (show iprop(cred (tallyAt (wrC false 0 c) 0 (amtW 0)) ∗ row (fun h => cred (tallyAt (wrC false (h + 1) c) 0 (amtW (h + 1)))) 0 7)
      = iprop(row (F := F) (fun h => cred (tallyAt (wrC false h c) 0 (amtW h))) 0 7 ∗ cred (tallyAt (wrC false 7 c) 0 (amtW 7))) from
      (row_first (F := F) (fun h => cred (tallyAt (wrC false h c) 0 (amtW h))) 7 0).symm.trans (row_end _ 7 0))) $$ [Cf0 Cwf]
  · isplitl [Cf0] <;> iassumption
  icases Cf with ⟨Cf, Cf7⟩
  ihave Ct := (Entails.of_eq (show iprop(cred (tallyAt (wrC true 0 c) 0 (amtW 0)) ∗ row (fun h => cred (tallyAt (wrC true (h + 1) c) 0 (amtW (h + 1)))) 0 7)
      = iprop(row (F := F) (fun h => cred (tallyAt (wrC true h c) 0 (amtW h))) 0 7 ∗ cred (tallyAt (wrC true 7 c) 0 (amtW 7))) from
      (row_first (F := F) (fun h => cred (tallyAt (wrC true h c) 0 (amtW h))) 7 0).symm.trans (row_end _ 7 0))) $$ [Ct0 Cwt]
  · isplitl [Ct0] <;> iassumption
  icases Ct with ⟨Ct, Ct7⟩
  ihave Cb := (cred_gather (baC c) 15 1) $$ Cb
  isplitl [Tb Ths Thr Twf0 Twf Twt0 Twt Trf0 Trf Trt0 Trt Tcf Tct Asf Ast Arf Art Rf Rt Wf Wt Ccf Cct Cf Ct]
  · isplitl [Tb]; · iexact Tb
    isplitl [Ths Thr]
    · isplitl [Ths] <;> iassumption
    isplitl [Twf0 Trf0]
    · isplitl [Twf0] <;> iassumption
    isplitl [Twt0 Trt0]
    · isplitl [Twt0] <;> iassumption
    isplitl [Twf Trf Tcf Asf Arf Rf Wf Ccf Cf]
    · isplitl [Cf Asf Arf Tcf Rf]
      · isplitl [Cf]; · iexact Cf
        isplitl [Asf]; · iexact Asf
        isplitl [Arf]; · iexact Arf
        isplitl [Tcf]; · iexact Tcf
        iexact Rf
      isplitl [Ccf]; · iexact Ccf
      isplitl [Wf]; · iexact Wf
      isplitl [Twf]; · iexact Twf
      iexact Trf
    isplitl [Ct Ast Art Tct Rt]
    · isplitl [Ct]; · iexact Ct
      isplitl [Ast]; · iexact Ast
      isplitl [Art]; · iexact Art
      isplitl [Tct]; · iexact Tct
      iexact Rt
    isplitl [Cct]; · iexact Cct
    isplitl [Wt]; · iexact Wt
    isplitl [Twt]; · iexact Twt
    iexact Trt
  isplitl [Cb Ab]
  · isplitl [Cb] <;> iassumption
  isplitl [Acf Act]
  · isplitl [Acf] <;> iassumption
  isplitl [Asf7 Cf7 Arf7]
  · isplitl [Asf7]; · iexact Asf7
    isplitl [Cf7] <;> iassumption
  isplitl [Ast7 Ct7 Art7]
  · isplitl [Ast7]; · iexact Ast7
    isplitl [Ct7] <;> iassumption
  isplitl [Chr Ahr]
  · isplitl [Chr] <;> iassumption
  isplitl [Ahs]; · iexact Ahs
  isplitl [Ahs0] <;> iassumption

/-- The semaphores at zero are all the kernel's own. -/
theorem zeros_all (c : Dev nD) : zeros (F := F) c ⊢ bigSep ownSems fun sm => semVal ((c : Thread nD τ), sm) 0 := by
  rw [← posL_all, rowL_set _ posL_nodup]
  unfold zeros dirEnd posL posWs posWr posHs posHr
  simp only [rowL_append, rowL_map, rowL, row_sepEq]
  iintro ⟨Hb, ⟨Hcf, Hct⟩, ⟨⟨Hsf, Hrf⟩, ⟨Hst, Hrt⟩⟩, Hs, Hr⟩
  isplitl [Hb]; · iexact Hb
  isplitl [Hcf]; · iexact Hcf
  isplitl [Hct]; · iexact Hct
  isplitl [Hsf]; · iexact Hsf
  isplitl [Hst]; · iexact Hst
  isplitl [Hrf]; · iexact Hrf
  isplitl [Hrt]; · iexact Hrt
  isplitl [Hs] <;> iassumption

end Cert.KernelIdeal.Ring

end
-- ==== Proof.Pool.lean ====
/-
  The launch's global step: every cell's invariant and every slot's invariant allocated, and each device given its
  share of the tokens.
-/
module

public import proofs.«01_k».proof.Proof.Fund

@[expose] public section

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release (slot released readerAt writeTok slotInv USlots initSlots slots_init)
open Cert.KernelIdeal Cert.KernelIdeal.Gen

variable {F : FTy → Type} [FloatOps F]

local notation "𝕄" => MT nD τ sig ℕ (Elt F) ℕ UU ℕ

variable (wt : Dev nD → S4x512x1024.Idx → Elt F .bf16) (hi : Dev nD → S8x128.Idx → Elt F .i32)

/-! ## The semaphores -/

/-- The kernel's scoped semaphores, numbered. -/
def osem (k : Fin 66) : SemLoc sig := posL.tail.get (k.cast (by decide +kernel))
theorem own_facts : Pipeline.OwnSemFacts cfg0.spec osem := by decide +kernel
theorem own_set : ownSems = insert (.reg baS) (Finset.univ.image osem) := by decide +kernel
theorem own_out : SemLoc.reg baS ∉ Finset.univ.image osem := by decide +kernel
theorem unscoped_set : (Finset.univ.filter fun sm : SemLoc sig => ¬ sm.isScoped .tc) = {.reg baS} := by decide +kernel

theorem own_sems (c : Dev nD) : (bigSep ownSems fun sm => semVal ((c : Thread nD τ), sm) 0 : sProp 𝕄)
    = iprop(unscopedSems0 c ∗ Pipeline.ownSems0 osem c) := by
  rw [own_set, bigSep_insert own_out, SparseCore.bigSep_image_of_injOn own_facts.inj.injOn]
  unfold unscopedSems0 Pipeline.ownSems0
  rw [unscoped_set, bigSep_singleton]
  rfl

/-! ## What is minted -/

def cellEmb : Dev nD × SemLoc sig ↪ GSem nD τ sig :=
  ⟨fun x => ((x.1 : Thread nD τ), x.2), fun x y h => Prod.ext (congrArg (fun g : GSem nD τ sig => g.1.1) h) (congrArg (fun g : GSem nD τ sig => g.2) h)⟩
def tokEmb : Dev nD × (SemLoc sig × ℕ) ↪ GSem nD τ sig × ℕ × ℕ :=
  ⟨fun x => (((x.1 : Thread nD τ), x.2.1), 0, x.2.2), fun x y h => Prod.ext (congrArg (fun g : GSem nD τ sig × ℕ × ℕ => g.1.1.1) h)
    (Prod.ext (congrArg (fun g : GSem nD τ sig × ℕ × ℕ => g.1.2) h) (congrArg (fun g : GSem nD τ sig × ℕ × ℕ => g.2.2) h))⟩
def allCells : Finset (GSem nD τ sig) := cells.map cellEmb
def allToks : Finset (GSem nD τ sig × ℕ × ℕ) := (Finset.univ ×ˢ tokM.toFinset).map tokEmb

def minted : UB × USlots Key := (launchOf allCells ∅ allToks, initSlots keys 1)
def u₀ : UU := (initOf (Pipeline.cells cfgs cellOf_inj) (Pipeline.launchToks cfgs cellOf_inj), minted)

/-- The whole of it lies with device 0 until the global step deals it out. -/
def mintAt (c : Dev nD) : sProp 𝕄 := if c = 0 then BI.own (EB minted) else iprop(emp)
theorem mint_all : (bigSep Finset.univ (mintAt (F := F)) : sProp 𝕄) = BI.own (EB minted) := by
  rw [bigSep_univ_at _ (0 : Dev nD), bigSep_congr (s := Finset.univ.erase (0 : Dev nD)) (Ψ := fun _ => (BI.emp : sProp 𝕄))
      fun c hc => by unfold mintAt; rw [if_neg (Finset.ne_of_mem_erase hc)]; rfl, BI.bigSep_emp_const]
  unfold mintAt; rw [if_pos rfl]
  exact BI.equiv_iff.mp sep_emp

/-! ## Each device's share -/

theorem rowL_of {α β : Type} (f : α → β) (l : List α) (Φ : β → sProp 𝕄) : rowL (l.map f) Φ = rowL l fun x => Φ (f x) := by
  induction l with
  | nil => rfl
  | cons x l ih => show iprop(Φ (f x) ∗ rowL (l.map f) Φ) = iprop(Φ (f x) ∗ rowL l fun x => Φ (f x)); rw [ih]

theorem toks_dealt : (bigSep allToks fun x => dutyTok ER x.1 x.2.1 x.2.2 : sProp 𝕄)
    = bigSep Finset.univ fun c : Dev nD => rowL tokL fun x => dutyTok ER (((sh x.1 c : Dev nD) : Thread nD τ), x.2.1) 0 x.2.2 := by
  unfold allToks
  rw [BI.bigSep_map, SparseCore.bigSep_product]
  refine Eq.trans ?_ (deal tokL (fun x => x.1) fun c x => dutyTok ER (((c : Dev nD) : Thread nD τ), x.2.1) 0 x.2.2)
  exact bigSep_congr fun c _ => by rw [rowL_set _ tokM_nodup]; unfold tokM; rw [rowL_of]; rfl

theorem pos_dealt : (bigSep allCells fun g => atPos ER g 0 ∅ 0 : sProp 𝕄)
    = bigSep Finset.univ fun c : Dev nD => rowL posL fun sm => atPos ER ((c : Thread nD τ), sm) 0 ∅ 0 := by
  unfold allCells cells
  rw [BI.bigSep_map, SparseCore.bigSep_product]
  exact bigSep_congr fun c _ => by rw [← posL_all, rowL_set _ posL_nodup]; rfl

theorem read_dealt : (bigSep keys fun k => readerAt EW k 0 : sProp 𝕄)
    = bigSep Finset.univ fun c : Dev nD => rowL keyL fun x => readerAt EW ((c, x.2) : Key) 0 := by
  unfold keys
  rw [SparseCore.bigSep_product]
  exact bigSep_congr fun c _ => by rw [← keyM_all, rowL_set _ keyM_nodup]; unfold keyM; rw [rowL_of]

theorem write_dealt : (bigSep (keys ×ˢ Finset.range 1) fun x => writeTok EW x.1 (x.2 + 1) : sProp 𝕄)
    = bigSep Finset.univ fun c : Dev nD => rowL keyL fun x => writeTok EW ((sh x.1 c, x.2) : Key) 1 := by
  refine Eq.trans ?_ (deal keyL (fun x => x.1) fun c x => writeTok EW ((c, x.2) : Key) 1)
  rw [SparseCore.bigSep_product, Finset.range_one]
  unfold keys
  rw [SparseCore.bigSep_product]
  refine bigSep_congr fun c _ => ?_
  rw [← keyM_all, rowL_set _ keyM_nodup]; unfold keyM; rw [rowL_of]
  simp only [bigSep_singleton]

theorem shares_made : iprop((bigSep allToks fun x => dutyTok ER x.1 x.2.1 x.2.2) ∗ (bigSep allCells fun g => atPos ER g 0 ∅ 0)
      ∗ (bigSep keys fun k => readerAt EW k 0) ∗ (bigSep (keys ×ˢ Finset.range 1) fun x => writeTok EW x.1 (x.2 + 1)))
    ⊢ (bigSep Finset.univ (shareOf (F := F)) : sProp 𝕄) := by
  rw [toks_dealt, pos_dealt, read_dealt, write_dealt]
  unfold shareOf
  rw [bigSep_sep', bigSep_sep', bigSep_sep']

/-! ## The global step -/

/-- What every device knows but for the levels. -/
def knowAll (K : Dev nD × SemLoc sig → ℕ) (KS : Key → ℕ) : sProp 𝕄 :=
  iprop(bigSep cells (fun x => iprop(cellInv ER (sched wt hi) (K x) ((x.1 : Thread nD τ), x.2) ∗ reached ER ((x.1 : Thread nD τ), x.2) 0))
    ∗ bigSep keys (fun k => slotInv EW (KS k) k (slotRes k)))
instance knowAll_persistent (K KS) : BI.Persistent (knowAll wt hi K KS) := by unfold knowAll; infer_instance

def given (c : Dev nD) : sProp 𝕄 := iprop(∃ K KS, knowAll wt hi K KS ∗ shareOf c)

theorem knowAll_intro (κ : GSem nD τ sig → ℕ) (KS : Key → ℕ) :
    iprop((bigSep (allCells ∪ ∅) fun g => cellInv ER (sched wt hi) (κ g) g) ∗ (bigSep allCells fun g => reached ER g 0)
        ∗ bigSep keys (fun k => slotInv EW (KS k) k (slotRes k)))
      ⊢ knowAll wt hi (fun x => κ ((x.1 : Thread nD τ), x.2)) KS := by
  rw [Finset.union_empty]
  unfold knowAll allCells
  rw [BI.bigSep_map, BI.bigSep_map, bigSep_sep']
  iintro ⟨H1, H2, H3⟩
  isplitl [H1 H2]
  · isplitl [H1]; · iexact H1
    iexact H2
  iexact H3

theorem give_all (K KS) : iprop(knowAll wt hi K KS ∗ bigSep Finset.univ (shareOf (F := F))) ⊢ (bigSep Finset.univ (given wt hi) : sProp 𝕄) :=
  bigSep_with_persistent fun c _ => by
    unfold given
    iintro H
    iexists K; iexists KS; iexact H

theorem sems_all : (bigSep Finset.univ fun c : Dev nD => iprop(Pipeline.ownSems0 osem c ∗ unscopedSems0 c ∗ mintAt c) : sProp 𝕄)
    ⊢ iprop((bigSep allCells fun g => semVal g 0) ∗ BI.own (EB (F := F) minted)) := by
  have h : (bigSep allCells fun g => (semVal g 0 : sProp 𝕄)) = bigSep Finset.univ fun c : Dev nD => iprop(unscopedSems0 c ∗ Pipeline.ownSems0 osem c) := by
    unfold allCells cells
    rw [BI.bigSep_map, SparseCore.bigSep_product]
    exact bigSep_congr fun c _ => own_sems c
  rw [h, ← mint_all, bigSep_sep', bigSep_sep', bigSep_sep']
  iintro ⟨H1, H2, H3⟩
  isplitr [H3]
  · isplitl [H2]; · iexact H2
    iexact H1
  iexact H3

theorem glob : (bigSep Finset.univ fun c : Dev nD => iprop(Pipeline.ownSems0 osem c ∗ unscopedSems0 c ∗ mintAt c) : sProp 𝕄)
    ⊢ |={Set.univ}=> bigSep Finset.univ (given wt hi) := by
  iintro H
  ihave H := (sems_all (F := F)) $$ H
  icases H with ⟨Hs, Hm⟩
  ihave Hm := (show BI.own (EB (F := F) minted) ⊢ _ from own_pair_emb EB (launchOf allCells ∅ allToks) (initSlots keys 1)) $$ Hm
  icases Hm with ⟨Hr, Hw⟩
  imod (Rounds.fund_launch ER (sched wt hi) (S := allCells) (Sd := ∅) (Finset.disjoint_empty_right _) (fun g hg => absurd hg (Finset.notMem_empty g)) allToks) $$ [Hs Hr]
    with ⟨%κ, -, Hi, Hre, Ha, -, Ht⟩
  · isplitl [Hs]; · iexact Hs
    iexact Hr
  imod (slots_init EW keys 1 (slotRes (F := F))) $$ Hw with ⟨%KS, -, Hsl, Hrd, Hwr⟩
  imodintro
  iapply (give_all wt hi (fun x => κ ((x.1 : Thread nD τ), x.2)) KS)
  isplitl [Hi Hre Hsl]
  · iapply (knowAll_intro wt hi κ KS)
    isplitl [Hi]; · iexact Hi
    isplitl [Hre] <;> iassumption
  iapply (shares_made (F := F))
  isplitl [Ht]; · iexact Ht
  isplitl [Ha]; · iexact Ha
  isplitl [Hrd] <;> iassumption

end Cert.KernelIdeal.Ring

end
-- ==== Proof.Launch.lean ====
/-
  The kernel run on all sixteen devices: what each starts from, the body's obligation, the launch, and what holds of
  every array afterwards.
-/
module

public import proofs.«01_k».proof.Proof.Pool
public import proofs.«01_k».proof.Proof.Gen.KernelIdeal.Points
public import Idealize.ShloMosaic.Lib.Pipeline.CollectiveSegs

@[expose] public section

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig ℕ (Elt F) ℕ UU ℕ

variable (m : (ℓ : Loc nD τ sig) → Buf (Elt F) ℓ) (ρ : Dev nD → PrngReg)

/-! ## The values at the launch -/

/-- A device's tokens, its tokens' experts, its experts' weights. -/
def xs (c : Dev nD) : Vec F S1024x512 .bf16 := (win0_0.blk (0 : Fin 1)).view.read (Elt F) (m ((c : Thread nD τ).loc main_arg0))
def es (c : Dev nD) : Vec F S1024x1 .i32 := (win0_1.blk (0 : Fin 1)).view.read (Elt F) (m ((c : Thread nD τ).loc main_arg2))
def ws (c : Dev nD) : Vec F S4x512x1024 .bf16 := (win0_2.blk (0 : Fin 1)).view.read (Elt F) (m ((c : Thread nD τ).loc main_arg3))
/-- A device's histogram. -/
def hs (c : Dev nD) : Vec F S8x128 .i32 := histVal (F := F) (es m c)

variable (o : Dev nD → Vec F S1024x1024 .f32)
/-- `o` names the blocks the devices compute. -/
def Computes : Prop := ∀ c, o c = resV (ws m) (hs m) c (xs m c) (es m c)
variable (ho : Computes m o)

/-! ## The proof data -/

def start (c : Dev nD) : sProp 𝕄 := iprop(∃ K KS, know (ws m) (hs m) K KS ∗ duties c ∗ waitsFor c)
def Φ₀ (c : Dev nD) : sProp 𝕄 := iprop(start m c ∗ scratch c)
def Φ₁ (c : Dev nD) : sProp 𝕄 := iprop(scratch c ∗ zeros c)

/-- What the body leaves in each window's buffer. -/
def afterW (x : Vec F S1024x512 .bf16) (e : Vec F S1024x1 .i32) (w : Vec F S4x512x1024 .bf16) (o : Vec F S1024x1024 .f32) :
    (i : Fin 4) → ((cfg0.win i).block.Idx → Elt F (cfg0.win i).elt)
  | ⟨0, _⟩ => x
  | ⟨1, _⟩ => e
  | ⟨2, _⟩ => w
  | ⟨3, _⟩ => o
theorem afterW_out (x : Vec F S1024x512 .bf16) (e : Vec F S1024x1 .i32) (w : Vec F S4x512x1024 .bf16) (o : Vec F S1024x1024 .f32) :
    afterW x e w o (3 : Fin 4) = o := rfl

def dats (_ : Fin 1) (c : Dev nD) : Dat τ (Elt F) ℕ ℕ UU ℕ cfg0 c where
  A w := m ((cfg0.win w).arr.view.loc (c : Thread nD τ))
  after w _ := afterW (xs m c) (es m c) (ws m c) (o c) w
  Φ t := match t with
    | ⟨0, _⟩ => Φ₀ m c
    | ⟨_ + 1, _⟩ => Φ₁ c
  q _ := fullShare
  owed t := match t with
    | ⟨0, _⟩ => pile (allDue c)
    | ⟨_ + 1, _⟩ => 0

theorem share_eq (c : Dev nD) (w : Fin cfg0.W) : (dats m o 0 c).share w = fullShare := by unfold Dat.share; split <;> rfl

theorem bigSep_W (Φ : Fin cfg0.W → sProp 𝕄) :
    bigSep Finset.univ Φ = iprop(Φ (0 : Fin 4) ∗ Φ (1 : Fin 4) ∗ Φ (2 : Fin 4) ∗ Φ (3 : Fin 4)) := bigSep_W0 Φ

theorem owns_whole_eq (c : Dev nD) (b : Ref sig .tc) (X : b.ty.Contents (Elt F)) :
    (owns (Ix := ℕ) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-! ## The body's obligation -/

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop(Φ₀ m c ∗ (dats m o 0 c).owesAt 0 t0_0.castSucc
    ∗ (∃ d, stg c cc0_stg0_0 ((dats m o 0 c).before (0 : Fin 4) t0_0 d))
    ∗ (∃ d, stg c cc0_stg1_0 ((dats m o 0 c).before (1 : Fin 4) t0_0 d))
    ∗ (∃ d, stg c cc0_stg2_0 ((dats m o 0 c).before (2 : Fin 4) t0_0 d))
    ∗ (∃ d, stg c cc0_stg3_0 ((dats m o 0 c).before (3 : Fin 4) t0_0 d)))
def bodyPost (c : Dev nD) : sProp 𝕄 :=
  iprop(Φ₁ c ∗ (dats m o 0 c).owesAt 0 t0_0.succ ∗ stg c cc0_stg0_0 (xs m c) ∗ stg c cc0_stg1_0 (es m c) ∗ stg c cc0_stg2_0 (ws m c)
    ∗ stg c cc0_stg3_0 (o c))

theorem before_x (c : Dev nD) (d) : (dats m o 0 c).before (0 : Fin 4) t0_0 d = xs m c := by
  unfold Dat.before; rw [if_pos (fetch0_0 t0_0)]; rfl
theorem before_e (c : Dev nD) (d) : (dats m o 0 c).before (1 : Fin 4) t0_0 d = es m c := by
  unfold Dat.before; rw [if_pos (fetch0_1 t0_0)]; rfl
theorem before_w (c : Dev nD) (d) : (dats m o 0 c).before (2 : Fin 4) t0_0 d = ws m c := by
  unfold Dat.before; rw [if_pos (fetch0_2 t0_0)]; rfl

include ho in
theorem sound (c : Dev nD) : bodyPre m o c ⊢ run c (body (F := F)) (fun _ => bodyPost m o c) := by
  unfold bodyPre Φ₀ start
  iintro ⟨⟨⟨%K, %KS, #Hk, Hd, Hw⟩, Hs⟩, Ho, ⟨%d0, %g0, %h0, H0⟩, ⟨%d1, %g1, %h1, H1⟩, ⟨%d2, %g2, %h2, H2⟩, ⟨%d3, %g3, %h3, H3⟩⟩
  have e0 : g0 = xs m c := h0.trans (before_x m o c d0)
  have e1 : g1 = es m c := h1.trans (before_e m o c d1)
  have e2 : g2 = ws m c := h2.trans (before_w m o c d2)
  subst e0 e1 e2
  unfold Dat.owesAt Pipeline.owesWithin
  icases Ho with ⟨%W, -, HO⟩
  iapply (body_run (ws m) (hs m) K KS c (xs m c) (es m c) (ws m c) g3 rfl rfl fun _ => bodyPost m o c)
  isplitr; · iexact Hk
  isplitl [HO]
  · unfold owesL
    iexists W; iexact HO
  isplitl [H0 H1 H2 H3]
  · isplitl [H0]; · unfold xB; iexact H0
    isplitl [H1]; · unfold eB; iexact H1
    isplitl [H2]; · unfold wB; iexact H2
    unfold outB; iexact H3
  isplitl [Hs]; · iexact Hs
  isplitl [Hd]; · iexact Hd
  isplitl [Hw]; · iexact Hw
  rw [← ho c]
  unfold owesL xB eB wB outB bodyPost Φ₁ Dat.owesAt Pipeline.owesWithin
  iintro ⟨⟨%W', HO⟩, ⟨H0, H1, H2, H3⟩, Hs, Hz⟩
  isplitl [Hs Hz]
  · isplitl [Hs] <;> iassumption
  isplitl [HO]
  · iexists W'
    isplitr; · ipureintro; exact fun _ _ => Or.inl trivial
    iexact HO
  isplitl [H0]
  · iexists _; isplitr; · (ipureintro; rfl)
    iexact H0
  isplitl [H1]
  · iexists _; isplitr; · (ipureintro; rfl)
    iexact H1
  isplitl [H2]
  · iexists _; isplitr; · (ipureintro; rfl)
    iexact H2
  iexists _; isplitr; · (ipureintro; rfl)
  iexact H3

theorem phi_in (c : Dev nD) : (dats m o 0 c).Φ t0_0.castSucc = Φ₀ m c := rfl
theorem phi_out (c : Dev nD) : (dats m o 0 c).Φ t0_0.succ = Φ₁ c := rfl
theorem after_x (c : Dev nD) (t) : (dats m o 0 c).after (0 : Fin 4) t = xs m c := rfl
theorem after_e (c : Dev nD) (t) : (dats m o 0 c).after (1 : Fin 4) t = es m c := rfl
theorem after_w (c : Dev nD) (t) : (dats m o 0 c).after (2 : Fin 4) t = ws m c := rfl
theorem after_o (c : Dev nD) (t) : (dats m o 0 c).after (3 : Fin 4) t = o c := rfl

include ho in
set_option maxRecDepth 100000 in
theorem body_obligation (c : Dev nD) : BodyObligation (dats (F := F) m o 0 c) (defs₀ (F := F)) 𝒱₀ 0 Set.univ := fun t => by
  rw [fin_N0 t]
  rw [bigSep_W, bigSep_W]
  simp only [owns_whole_eq]
  simp only [phi_in, phi_out, after_x, after_e, after_w, after_o]
  have h := sound m o ho c
  rw [← body_eq t0_0] at h
  exact h

/-! ## Entering and leaving -/

theorem scratch_eq (c : Dev nD) : scratch (F := F) c = Pipeline.scopedRest cfg0.spec c := by
  rw [scopedRest0_eq]; rfl

/-- What stays outside the kernel: the array it does not use. -/
def aside (c : Dev nD) : sProp 𝕄 := Pipeline.unscopedRest cfg0.spec c fun b => m ((c : Thread nD τ).loc b)

theorem start_intro (c : Dev nD) :
    iprop(Pipeline.unscopedRestP Pipeline.Prefetch.none cfg0.spec c (fun b => m ((c : Thread nD τ).loc b)) ∗ levAts L lv
        ∗ Pipeline.launchCred (fun d => pile (allDue d)) c ∗ prngReg c (ρ c) ∗ given (ws m) (hs m) c)
      ⊢ |={Set.univ}=> iprop(start m c ∗ aside m c) := by
  rw [Pipeline.unscopedRestP_none]
  unfold given knowAll
  iintro ⟨Hr, Hl, Hc, -, ⟨%K, %KS, ⟨H1, H2⟩, Hs⟩⟩
  ihave Hc := (show Pipeline.launchCred (fun d => pile (allDue d)) c ⊢ creditOf (F := F) c from by
    simp only [allDue_eq]; exact launch_row tmL c) $$ Hc
  ihave He := (equip (F := F) c) $$ [Hs Hc]
  · isplitl [Hs] <;> iassumption
  icases He with ⟨Hd, Hw⟩
  imodintro
  unfold start know aside
  isplitr [Hr]
  · iexists K; iexists KS
    isplitl [H1 H2 Hl]
    · isplitl [H1]; · iexact H1
      isplitl [H2] <;> iassumption
    isplitl [Hd] <;> iassumption
  iexact Hr

theorem enter (c : Dev nD) :
    iprop(start m c ∗ Pipeline.prefHeld Pipeline.Prefetch.none c (fun _ => fullShare.right) (fun k => k.elim0) ∗ Pipeline.scopedRest cfg0.spec c)
      ⊢ (dats m o 0 c).Φ 0 := by
  rw [show (dats m o 0 c).Φ 0 = Φ₀ m c from rfl, ← scratch_eq]
  unfold Φ₀
  iintro ⟨Hs, -, Hr⟩
  isplitl [Hs] <;> iassumption

theorem leave (c : Dev nD) :
    (dats m o 0 c).Φ (Fin.last cfg0.N) ⊢ iprop(unscopedSems0 c ∗ Pipeline.ownSems0 osem c ∗ Pipeline.scopedRest cfg0.spec c) := by
  rw [show (dats m o 0 c).Φ (Fin.last cfg0.N) = Φ₁ (F := F) c from rfl, ← scratch_eq]
  unfold Φ₁
  iintro ⟨Hr, Hz⟩
  ihave Hz := (zeros_all (F := F) c) $$ Hz
  ihave Hz := (Entails.of_eq (own_sems (F := F) c)) $$ Hz
  icases Hz with ⟨H1, H2⟩
  isplitl [H1]; · iexact H1
  isplitl [H2] <;> iassumption

theorem stage_low : ∀ (w : Fin 4) (s : Fin (cfg0.win w).nbuf) (i : ℕ), lvS (.dma ((cfg0.win w).sem s)) i = 0 := by
  intro w s i
  unfold lvS
  fin_cases w <;> fin_cases s <;> rfl

theorem waits (c : Dev nD) : (levAts L lv : sProp 𝕄) ⊢ Pipeline.cellsWaits cfgs (dats m o) 0 0 c :=
  Pipeline.cellsWaits_intro cfgs (dats m o) 0 0 c fun w s t => by
    rcases t with ⟨_ | _, ht⟩
    · exact mayWait_pile c _ 0 (allDue c) (by decide) fun x hx => by rw [stage_low]; exact above_all c x hx
    · exact mayWait_pile c _ 0 [] (by decide) fun x hx => absurd hx List.not_mem_nil

/-! ## The run -/

/-- Every array the kernel staged holds what the body left in it, the array it does not use what it held. -/
def Ends (r : PUnit × MemSt nD τ sig (Elt F)) : Prop :=
  ∀ c : Dev nD, (∀ w : Fin cfg0.W, r.2.mem ((cfg0.win w).arr.view.loc (c : Thread nD τ)) = (dats m o 0 c).arrAt w cfg0.N)
    ∧ ∀ b ∈ Pipeline.restRefs sig cfg0.spec, r.2.mem ((c : Thread nD τ).loc b) = m ((c : Thread nD τ).loc b)

include ho in
set_option maxRecDepth 100000 in
theorem run_main : θ_run defs (onTc (τ := τ) (main (F := F))) ⟨m, fun _ => 0, ρ⟩ (fun r => Ends m o r ∧ r.2.sem = fun _ => 0) :=
  Pipeline.θ_run_region_owing_glob_pf (fun p => (cfgs p).toPCfg) (fun p => (cfgs p).toPCfg_adm) (dats m o) 0 cellOf_inj (0 : Fin 1)
    winFacts0.to₀ own_facts (Pipeline.PreFacts.none _) EP defs₀ 𝒱₀ m ρ main
    (hmain := fun _ => rfl)
    (hbody := body_obligation m o ho) (hne := fun w => by fin_cases w <;> exact Nat.succ_pos _) (harr := arr_whole0) (hstage := stage_whole0) (hshare := share_eq m o)
    (hdistinct := winFacts0.arr_inj)
    (O₀ := fun d => pile (allDue d)) (howed₀ := fun _ => rfl) (howedN := fun _ => rfl)
    (L := L) (lv := lv) (hL := fun g h => if_neg h) (hwaits := waits m o)
    (G := mintAt) (G' := given (ws m) (hs m)) (u₀ := u₀)
    (hu₀ := by
      unfold u₀
      iintro Hu
      ihave H := (ownU_pair _ _) $$ Hu
      icases H with ⟨HP, HX⟩
      ihave HX := (Entails.of_eq (mint_all (F := F)).symm) $$ HX
      imodintro
      isplitl [HP] <;> iassumption)
    (hglob := glob (ws m) (hs m))
    (hA := fun _ _ => rfl) (hpf := fun _ k => k.elim0)
    (X := start m) (Y := fun c => unscopedSems0 c) (Z := aside m)
    (hX := start_intro m ρ) (hin := enter m o) (hout := leave m o)
    (QY := fun c s => (∀ b ∈ Pipeline.restRefs sig cfg0.spec, s.mem ((c : Thread nD τ).loc b) = m ((c : Thread nD τ).loc b))
      ∧ ∀ sm : SemLoc sig, sm.isScoped .tc = false → s.sem ((c.tc : Thread nD τ), sm) = 0)
    (hY := fun c s' => by
      unfold aside Pipeline.unscopedRest
      iintro ⟨Hu, Hr, HSI⟩
      ihave Hb := (pointsTo_read_all (Pipeline.restRefs sig cfg0.spec) (fun b => (c : Thread nD τ).loc b) (fun b => m ((c : Thread nD τ).loc b)) s') $$ [Hr HSI]
      · isplitl [Hr] <;> iassumption
      icases Hb with ⟨%hb, HSI⟩
      imod (Pipeline.unscopedSems0_read (X := unscopedSems0 c) (c := c) fupd_intro s') $$ [Hu HSI] with ⟨%hz, HSI⟩
      · isplitl [Hu] <;> iassumption
      imodintro
      isplitr; · ipureintro; exact ⟨hb, hz⟩
      iexact HSI)
    (hQ := fun _ h hs => ⟨fun c => ⟨(h c).1, (h c).2.2.1⟩, sem_eq_zero hs fun c => (h c).2.2.2⟩)

/-- The arguments end as they began: the kernel's inputs are never written, and one array it does not use. -/
theorem kept {r : PUnit × MemSt nD τ sig (Elt F)} (h : Ends m o r) (c : Dev nD) :
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3) :=
  ⟨((h c).1 (0 : Fin 4)).trans ((dats m o 0 c).arrAt_in (0 : Fin 4) rfl _),
    (h c).2 main_arg1 (Pipeline.mem_restRefs_of main_arg1 (by decide) (by decide)),
    ((h c).1 (1 : Fin 4)).trans ((dats m o 0 c).arrAt_in (1 : Fin 4) rfl _),
    ((h c).1 (2 : Fin 4)).trans ((dats m o 0 c).arrAt_in (2 : Fin 4) rfl _)⟩

include ho in
/-- The arguments end as they began, and every semaphore at zero. -/
theorem frame_run : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨fun c => kept m o h.1 c, h.2⟩) (run_main m ρ o ho)

end Cert.KernelIdeal.Ring

end
-- ==== Proof.K.BodyEq.lean ====
/-
  The printed kernel body is the program of `Prog.lean`: the two are walked one memory operation at a time,
  each pair of operations equal by unfolding.
-/
module

public import proofs.«01_k».proof.Proof.K.Prog
public import proofs.«01_k».proof.Proof.Gen.Kernel.Points

@[expose] public section

set_option maxRecDepth 100000
set_option maxHeartbeats 1000000

noncomputable section

namespace Cert.Kernel.Ring

open Idealize.ShloMosaic Idealize.ShloMosaic.TcCoe Idealize.SL.Sem
open Cert.Kernel Cert.Kernel.Gen

variable {F : FTy → Type} [FloatOps F]

/-- Two programs that start with the same operation and go on alike are the same. -/
theorem op_step {E : Type → Type _} {α β : Type} {e e' : E β} {k k' : β → Prog E α} (h : e = e') (hk : ∀ x, k x = k' x) :
    Prog.op e k = Prog.op e' k' := by
  subst h; exact congrArg _ (funext hk)

theorem body_eq (t : Fin cfg0.N) : bodyAt0 (F := F) t = body := by
  rw [bodyAt0, cc0_body_eq_skeleton]
  repeat (refine op_step rfl fun x => ?_)
  rfl

end Cert.Kernel.Ring

end
-- ==== Proof.Count.lean ====
/-
  Counting in 32-bit words: the comparisons the two programs count with, the sums they fold, and the count that is
  taken through a float product.
-/
module

public import Idealize.ShloMosaic.Lib.Pointwise
public import Idealize.ShloMosaic.Lib.WordSum

@[expose] public section

noncomputable section

namespace Cert.Count

open Idealize.ShloMosaic

/-- One where the statement holds, else zero. -/
def one (p : Prop) [Decidable p] : BitVec 32 := if p then 1 else 0

theorem one_congr {p q : Prop} [Decidable p] [Decidable q] (h : p ↔ q) : one p = one q := by
  unfold one; simp only [h]
theorem one_and (p q : Prop) [Decidable p] [Decidable q] : one p * one q = one (p ∧ q) := by
  unfold one; by_cases hp : p <;> by_cases hq : q <;> simp [hp, hq]

theorem fold_sum {ι : Type} (S : Finset ι) (f : ι → BitVec 32) : S.fold IntOp.addi (0#32) f = ∑ i ∈ S, f i := by
  classical
  induction S using Finset.induction_on with
  | empty => rfl
  | insert a S ha ih => rw [Finset.fold_insert ha, Finset.sum_insert ha, ih]; rfl

/-! ## Comparisons -/

theorem bit_one (b : Bool) : (BitVec.ofBool b).setWidth 32 = one (b = true) := by cases b <;> rfl
theorem ofBool_eq_one (b : Bool) : BitVec.ofBool b = 1 ↔ b = true := by cases b <;> decide

theorem eq_bit (a b : BitVec 32) : IntOp.cmpi .eq a b = 1 ↔ a = b := by
  unfold IntOp.cmpi; rw [ofBool_eq_one]; exact beq_iff_eq
theorem eq_word (a b : BitVec 32) : (IntOp.cmpi .eq a b).setWidth 32 = one (a = b) := by
  unfold IntOp.cmpi; rw [bit_one]; exact one_congr beq_iff_eq

theorem toInt_small {a : ℕ} (h : a < 2 ^ 31) : (BitVec.ofNat 32 a).toInt = (a : ℤ) := by
  have hn : (BitVec.ofNat 32 a).toNat = a := by rw [BitVec.toNat_ofNat]; exact Nat.mod_eq_of_lt (by omega)
  rw [BitVec.toInt_eq_toNat_of_lt (by omega), hn]
theorem slt_small {a b : ℕ} (ha : a < 2 ^ 31) (hb : b < 2 ^ 31) : IntOp.cmpi .slt (BitVec.ofNat 32 a) (BitVec.ofNat 32 b) = 1 ↔ a < b := by
  unfold IntOp.cmpi
  rw [ofBool_eq_one]
  show BitVec.slt _ _ = true ↔ _
  rw [BitVec.slt_iff_toInt_lt, toInt_small ha, toInt_small hb]; omega
theorem sge_word {a b : ℕ} (ha : a < 2 ^ 31) (hb : b < 2 ^ 31) :
    (IntOp.cmpi .sge (BitVec.ofNat 32 a) (BitVec.ofNat 32 b)).setWidth 32 = one (b ≤ a) := by
  unfold IntOp.cmpi
  rw [bit_one]
  refine one_congr ?_
  show BitVec.sle _ _ = true ↔ _
  rw [BitVec.sle_iff_toInt_le, toInt_small ha, toInt_small hb]; omega
theorem ofNat_inj {a b : ℕ} (ha : a < 2 ^ 31) (hb : b < 2 ^ 31) : BitVec.ofNat 32 a = BitVec.ofNat 32 b ↔ a = b :=
  ⟨fun h => by have := congrArg BitVec.toInt h; rw [toInt_small ha, toInt_small hb] at this; omega, fun h => h ▸ rfl⟩

/-- Both of two bits. -/
theorem and_bit (a b : BitVec 1) : IntOp.andi a b = 1 ↔ a = 1 ∧ b = 1 := by revert a b; decide
theorem bit_word (a : BitVec 1) : a.setWidth 32 = one (a = 1) := by revert a; decide

/-! ## A count through floats -/

theorem sum_one {ι : Type} (S : Finset ι) (p : ι → Prop) [DecidablePred p] : ∑ i ∈ S, one (p i) = BitVec.ofNat 32 (S.filter p).card := by
  unfold one
  rw [Finset.sum_boole]
  rfl

theorem toInt_one (p : Prop) [Decidable p] : (((one p).toInt : ℝ) : EReal) = if p then 1 else 0 := by
  unfold one; by_cases h : p <;> simp [h]

theorem fptosi_nat {n : ℕ} (h : n < 2 ^ 31) : Ideal.fptosi 32 (((n : ℝ)) : EReal) = BitVec.ofNat 32 n := by
  unfold Ideal.fptosi
  rw [Ideal.toIntClamped_coe, if_pos (Nat.cast_nonneg n), Int.floor_natCast, min_eq_right (by omega), max_eq_right (by omega)]
  rfl

theorem sum_boole_ereal {ι : Type} (S : Finset ι) (p : ι → Prop) [DecidablePred p] :
    ∑ i ∈ S, (if p i then (1 : EReal) else 0) = (((S.filter p).card : ℝ) : EReal) := by
  rw [Finset.sum_boole]; norm_cast

/-- The real sum of products of ones and zeros, cast to a word, is the words' count. -/
theorem count_float {n : ℕ} (hn : n < 2 ^ 31) (p q : Fin n → Prop) [DecidablePred p] [DecidablePred q] :
    Ideal.fptosi 32 (∑ i : Fin n, (((one (p i)).toInt : ℝ) : EReal) * (((one (q i)).toInt : ℝ) : EReal)) = ∑ i : Fin n, one (p i ∧ q i) := by
  have h : ∀ i : Fin n, (((one (p i)).toInt : ℝ) : EReal) * (((one (q i)).toInt : ℝ) : EReal) = if p i ∧ q i then (1 : EReal) else 0 := fun i => by
    rw [toInt_one, toInt_one]; by_cases hp : p i <;> by_cases hq : q i <;> simp [hp, hq]
  simp only [h]
  rw [sum_boole_ereal, sum_one, fptosi_nat]
  exact lt_of_le_of_lt (Finset.card_filter_le _ _) (by simpa using hn)

/-! ## The table of lanes -/

/-- A word's row of the table of lanes picks the word's own lane. -/
theorem pick {n : ℕ} (hn : n ≤ 2 ^ 31) (v : BitVec 32) (l : Fin n) (hv : v = BitVec.ofNat 32 l.val) (f : Fin n → BitVec 32) :
    ∑ k : Fin n, one (v = BitVec.ofNat 32 k.val) * f k = f l := by
  rw [Finset.sum_eq_single l]
  · unfold one; rw [if_pos hv, one_mul]
  · intro k _ hk
    have : ¬ v = BitVec.ofNat 32 k.val := fun h => hk (Fin.ext ((ofNat_inj (by omega) (by omega)).1 (h.symm.trans hv)))
    unfold one; rw [if_neg this, zero_mul]
  · intro h; exact absurd (Finset.mem_univ _) h

/-- The tokens up to this one less this one are the tokens before it. -/
theorem before {n : ℕ} (q : Fin n → Prop) [DecidablePred q] (t : Fin n) (ht : q t) :
    (∑ i : Fin n, one (i ≤ t ∧ q i)) - 1 = ∑ i : Fin n, one (i < t ∧ q i) := by
  have h := Routing.prefix_sub_last (fun i => one (q i)) t
  have e1 : one (q t) = 1 := if_pos ht
  simp only [e1] at h
  have h1 : ∀ i : Fin n, one (i ≤ t ∧ q i) = if i ≤ t then one (q i) else 0 := fun i => by
    unfold one; by_cases a : i ≤ t <;> by_cases b : q i <;> simp [a, b]
  have h2 : ∀ i : Fin n, one (i < t ∧ q i) = if i < t then one (q i) else 0 := fun i => by
    unfold one; by_cases a : i < t <;> by_cases b : q i <;> simp [a, b]
  simp only [h1, h2]; exact h

/-! ## Sixteen blocks of tokens -/

/-- A sum over all tokens, device by device. -/
theorem sum_blocks {M : Type} [AddCommMonoid M] (f : Fin 16384 → M) :
    ∑ i : Fin 16384, f i = ∑ c : Fin 16, ∑ t : Fin 1024, f ⟨c.val * 1024 + t.val, by have := c.isLt; have := t.isLt; omega⟩ := by
  rw [← Fintype.sum_prod_type', ← Equiv.sum_comp (finProdFinEquiv (m := 16) (n := 1024)) f]
  refine Finset.sum_congr rfl fun x _ => congrArg f (Fin.ext ?_)
  show x.2.val + 1024 * x.1.val = _
  ring

/-- The tokens before token `t` of block `c` that `q` holds of: those of the earlier blocks, and those before it in
    its own. -/
theorem earlier (c : Fin 16) (t : Fin 1024) (q : Fin 16 → Fin 1024 → Prop) [∀ c, DecidablePred (q c)] :
    ∑ d : Fin 16, ∑ i : Fin 1024, one (d.val * 1024 + i.val < c.val * 1024 + t.val ∧ q d i)
      = (∑ d : Fin 16, if d < c then ∑ i : Fin 1024, one (q d i) else 0) + ∑ i : Fin 1024, one (i < t ∧ q c i) := by
  have h : ∀ d : Fin 16, ∑ i : Fin 1024, one (d.val * 1024 + i.val < c.val * 1024 + t.val ∧ q d i)
      = (if d < c then ∑ i : Fin 1024, one (q d i) else 0) + if d = c then ∑ i : Fin 1024, one (i < t ∧ q c i) else 0 := fun d => by
    rcases lt_trichotomy d c with h | h | h
    · rw [if_pos h, if_neg h.ne, add_zero]
      refine Finset.sum_congr rfl fun i _ => one_congr ?_
      have : d.val < c.val := h
      have := i.isLt
      exact ⟨fun x => x.2, fun x => ⟨by omega, x⟩⟩
    · subst h
      rw [if_neg (lt_irrefl _), if_pos rfl, zero_add]
      refine Finset.sum_congr rfl fun i _ => one_congr ?_
      rw [Fin.lt_def]
      exact ⟨fun x => ⟨by omega, x.2⟩, fun x => ⟨by omega, x.2⟩⟩
    · rw [if_neg (not_lt.2 h.le), if_neg h.ne', add_zero]
      refine Finset.sum_eq_zero fun i _ => ?_
      have : c.val < d.val := h
      have := t.isLt
      exact if_neg fun x => by omega
  simp only [h]
  rw [Finset.sum_add_distrib, Finset.sum_ite_eq' Finset.univ c, if_pos (Finset.mem_univ _)]

end Cert.Count

end
-- ==== Proof.Read.lean ====
/-
  The kernel's values read at an index, over the extended reals.
-/
module

public import proofs.«01_k».proof.Proof.Launch
public import Idealize.ShloMosaic.Lib.Pointwise
public import proofs.«01_k».proof.Proof.Count

@[expose] public section

noncomputable section

namespace Cert.KernelIdeal.Ring

open Idealize.ShloMosaic Idealize.ShloMosaic.TcCoe
open Cert.KernelIdeal Cert.KernelIdeal.Gen Cert.Count

set_option maxHeartbeats 1000000

/-! ## The products -/

/-- A token's row times an expert's weights, where the token names the expert; -/
def part (x : FVec Ideal S1024x512 .bf16) (e : IVec S1024x1 32) (W : Dev nD → FVec Ideal S4x512x1024 .bf16) (t n : Fin 1024) (o : Dev nD) (k : Fin 4) : EReal :=
  if e (ix2 t 0) = BitVec.ofNat 32 (o.val * 4 + k.val) then ∑ d : Fin 512, x (ix2 t d) * W o (ix3 k d n) else 0
/-- over a device's four experts. -/
def parts (x : FVec Ideal S1024x512 .bf16) (e : IVec S1024x1 32) (W : Dev nD → FVec Ideal S4x512x1024 .bf16) (t n : Fin 1024) (o : Dev nD) : EReal :=
  ∑ k : Fin 4, part x e W t n o k

/-- One expert's contribution: each token that names it gets its row times the weights. -/
theorem contribVal_at (og : BitVec 32) (o : Dev nD) (ho : og = BitVec.ofNat 32 o.val) (j : ℕ) (hj : j < 4) (x : FVec Ideal S1024x512 .bf16) (e : IVec S1024x1 32)
    (acc : Vec Ideal S1024x1024 .f32) (W : Dev nD → FVec Ideal S4x512x1024 .bf16) (t n : Fin 1024) :
    contribVal og j x e acc (expOf (f4 j) (W o)) (ix2 t n) = acc (ix2 t n) + part x e W t n o (f4 j) := by
  have hw : Scalar.addi (Scalar.muli og 4#32) (BitVec.ofNat 32 j) = BitVec.ofNat 32 (o.val * 4 + (f4 j).val) := by
    rw [show (f4 j).val = j from Nat.mod_eq_of_lt hj]
    subst ho
    show BitVec.ofNat 32 o.val * BitVec.ofNat 32 4 + BitVec.ofNat 32 j = _
    rw [← BitVec.ofNat_mul, ← BitVec.ofNat_add]
  pointwise [contribVal]
  rw [hw]
  refine congrArg (acc (ix2 t n) + ·) ?_
  unfold part Scalar.select
  simp only [eq_bit]
  by_cases h : e (ix2 t 0) = BitVec.ofNat 32 (o.val * 4 + (f4 j).val)
  · simp only [if_pos h]; rfl
  · simp only [if_neg h]; exact Finset.sum_const_zero

/-- Several experts of one device. -/
theorem accC_at (og : BitVec 32) (o : Dev nD) (ho : og = BitVec.ofNat 32 o.val) (x : FVec Ideal S1024x512 .bf16) (e : IVec S1024x1 32)
    (W : Dev nD → FVec Ideal S4x512x1024 .bf16) (t n : Fin 1024) (k s : ℕ) (hk : s + k ≤ 4) (acc : Vec Ideal S1024x1024 .f32) :
    accC og x e (fun j => expOf (f4 j) (W o)) s k acc (ix2 t n) = acc (ix2 t n) + ∑ i ∈ Finset.range k, part x e W t n o (f4 (s + i)) := by
  induction k generalizing s acc with
  | zero => simp [accC]
  | succ k ih =>
    rw [accC, ih (s + 1) (by omega), contribVal_at og o ho s (by omega), Finset.sum_range_succ', add_assoc, add_comm (∑ i ∈ _, _)]
    simp only [add_zero, add_assoc, add_comm 1]

/-- All four, and the two halves of the last block. -/
theorem four_at (og : BitVec 32) (o : Dev nD) (ho : og = BitVec.ofNat 32 o.val) (x : FVec Ideal S1024x512 .bf16) (e : IVec S1024x1 32)
    (acc : Vec Ideal S1024x1024 .f32) (W : Dev nD → FVec Ideal S4x512x1024 .bf16) (t n : Fin 1024) :
    accC og x e (fun j => expOf (f4 j) (W o)) 0 4 acc (ix2 t n) = acc (ix2 t n) + parts x e W t n o := by
  rw [accC_at og o ho x e W t n 4 0 (by decide)]
  unfold parts
  rw [Fin.sum_univ_four]
  simp only [Finset.sum_range_succ, Finset.sum_range_zero, zero_add]
  rfl
theorem half_at (og og' : BitVec 32) (o : Dev nD) (ho : og = BitVec.ofNat 32 o.val) (ho' : og' = BitVec.ofNat 32 o.val) (x : FVec Ideal S1024x512 .bf16) (e : IVec S1024x1 32)
    (acc : Vec Ideal S1024x1024 .f32) (W : Dev nD → FVec Ideal S4x512x1024 .bf16) (t n : Fin 1024) :
    accC og' x e (fun j => expOf (f4 j) (W o)) 2 2 (accC og x e (fun j => expOf (f4 j) (W o)) 0 2 acc) (ix2 t n)
      = acc (ix2 t n) + parts x e W t n o := by
  rw [accC_at og' o ho' x e W t n 2 2 (by decide), accC_at og o ho x e W t n 2 0 (by decide), add_assoc]
  refine congrArg (acc (ix2 t n) + ·) ?_
  unfold parts
  rw [Fin.sum_univ_four]
  simp only [Finset.sum_range_succ, Finset.sum_range_zero, zero_add, add_zero, ← add_assoc]
  rfl

/-! ## The words of the origins -/

theorem meW_eq (c : Dev nD) : meW c = BitVec.ofNat 32 c.val := by revert c; decide +kernel
theorem ogW_eq (c : Dev nD) (h : Fin 8) (d : Bool) : ogW (meW c) h.val d = BitVec.ofNat 32 (orig d (h.val + 1) c).val := by
  revert c h d; decide +kernel

/-! ## All hops -/

variable (W : Dev nD → FVec Ideal S4x512x1024 .bf16) (c : Dev nD) (x : FVec Ideal S1024x512 .bf16) (e : IVec S1024x1 32) (t n : Fin 1024)

theorem hopV_at (h : ℕ) (hh : h < 8) (a : Vec Ideal S1024x1024 .f32) :
    hopV W c x e h a (ix2 t n) = a (ix2 t n) + (parts x e W t n (sh (16 - (h + 1)) c) + parts x e W t n (sh (h + 1) c)) := by
  unfold hopV
  rw [four_at _ _ (ogW_eq c ⟨h, hh⟩ true), four_at _ _ (ogW_eq c ⟨h, hh⟩ false), add_assoc]
  rfl

theorem hopsV_at (a : Vec Ideal S1024x1024 .f32) (h : ℕ) (hh : h ≤ 8) :
    hopsV W c x e a h (ix2 t n) = a (ix2 t n) + ∑ i ∈ Finset.range h, (parts x e W t n (sh (16 - (i + 1)) c) + parts x e W t n (sh (i + 1) c)) := by
  induction h with
  | zero => simp [hopsV]
  | succ h ih => rw [hopsV, hopV_at W c x e t n h (by omega), ih (by omega), Finset.sum_range_succ, add_assoc]

/-- The distances of the two directions are all distances. -/
theorem both_ways (P : ℕ → EReal) :
    0 + P 0 + ∑ i ∈ Finset.range 7, (P (16 - (i + 1)) + P (i + 1)) + P 8 = ∑ k ∈ Finset.range 16, P k := by
  simp only [Finset.sum_range_succ, Finset.sum_range_zero]
  simp only [Nat.reduceAdd, Nat.reduceSub]
  abel

/-- A sum over the devices, by distance. -/
theorem by_distance {M : Type} [AddCommMonoid M] (c : Dev nD) (f : Dev nD → M) : ∑ o : Dev nD, f o = ∑ k ∈ Finset.range 16, f (sh k c) := by
  rw [Finset.sum_range (fun k => f (sh k c))]
  refine (Equiv.sum_comp (Equiv.ofBijective (fun k : Fin 16 => sh k.val c) ?_) f).symm
  exact (show ∀ c : Dev nD, Function.Bijective (fun k : Fin 16 => sh k.val c) by decide +kernel) c
theorem by_distance_back {M : Type} [AddCommMonoid M] (c : Dev nD) (f : Dev nD → M) : ∑ o : Dev nD, f o = ∑ k ∈ Finset.range 16, f (sh (16 - k) c) := by
  rw [Finset.sum_range (fun k => f (sh (16 - k) c))]
  refine (Equiv.sum_comp (Equiv.ofBijective (fun k : Fin 16 => sh (16 - k.val) c) ?_) f).symm
  exact (show ∀ c : Dev nD, Function.Bijective (fun k : Fin 16 => sh (16 - k.val) c) by decide +kernel) c

theorem meW_orig (c : Dev nD) : meW c = BitVec.ofNat 32 (orig false 0 c).val := by revert c; decide +kernel

/-- What the experts of all devices contribute. -/
theorem products_at : hop7V W c x e (hopV W c x e 6 (hopsV W c x e (firstV W c x e (k0_pay11 (F := Ideal))) 6)) (ix2 t n)
      = ∑ o : Dev nD, parts x e W t n o := by
  have hz : k0_pay11 (F := Ideal) (ix2 t n) = (0 : EReal) := by pointwise [k0_pay11]
  rw [show hopV W c x e 6 (hopsV W c x e (firstV W c x e (k0_pay11 (F := Ideal))) 6) = hopsV W c x e (firstV W c x e (k0_pay11 (F := Ideal))) 7 from rfl]
  unfold hop7V
  rw [show orig false 8 c = sh 8 c from rfl, show orig true 8 c = sh 8 c from rfl, half_at (ogW (meW c) 7 false) (ogW (meW c) 7 true) (sh 8 c) (ogW_eq c 7 false) (ogW_eq c 7 true),
    hopsV_at W c x e t n _ 7 (by decide)]
  unfold firstV
  rw [four_at _ (orig false 0 c) (meW_orig c), hz, orig_zero, by_distance c]
  have h := both_ways fun k => parts x e W t n (sh k c)
  simp only [sh_zero] at h
  exact h

/-! ## The counts -/

theorem onehot_at (e : Vec Ideal S1024x1 .i32) (t : Fin 1024) (l : Fin 128) :
    onehot (F := Ideal) e (ix2 t l) = one (e (ix2 t 0) = BitVec.ofNat 32 l.val) := by
  pointwise [onehot, k0_pay5, k0_pay4, k0_pay3]
  exact eq_word _ _

theorem histVal_at (e : Vec Ideal S1024x1 .i32) (r : Fin 8) (l : Fin 128) :
    histVal (F := Ideal) e (ix2 r l) = ∑ i : Fin 1024, one (e (ix2 i 0) = BitVec.ofNat 32 l.val) := by
  pointwise [histVal, k0_pay6, k0_pay5, k0_pay4, k0_pay3]
  rw [fold_sum]
  exact Finset.sum_congr rfl fun i _ => eq_word _ _

/-- The count of a device's own tokens of an expert, up to a token; -/
theorem rank_at (e : Vec Ideal S1024x1 .i32) (t : Fin 1024) (l : Fin 128) (hl : e (ix2 t 0) = BitVec.ofNat 32 l.val) :
    k0_pay7 (F := Ideal) (onehot (F := Ideal) e) (ix2 t 0) = ∑ i : Fin 1024, one (i < t ∧ e (ix2 t 0) = e (ix2 i 0)) := by
  have hf : ∀ k : Fin 128, (Ideal.fptosi 32 (∑ i : Fin 1024, (((one (i ≤ t)).toInt : ℝ) : EReal) * (((one (e (ix2 i 0) = BitVec.ofNat 32 k.val)).toInt : ℝ) : EReal)))
      = ∑ i : Fin 1024, one (i ≤ t ∧ e (ix2 i 0) = BitVec.ofNat 32 k.val) := fun k => count_float (by decide) _ _
  have hw : ∀ i : Fin 1024, (IntOp.cmpi .sge (BitVec.ofNat 32 t.val) (BitVec.ofNat 32 i.val)).setWidth 32 = one (i ≤ t) := fun i =>
    (sge_word (by omega) (by omega)).trans (one_congr Fin.le_def.symm)
  pointwise [k0_pay7]
  rw [fold_sum]
  simp only [hw, onehot_at]
  refine Eq.trans (congrArg (· - (1 : BitVec 32)) (Finset.sum_congr rfl fun k _ => congrArg (one (e (ix2 t 0) = BitVec.ofNat 32 k.val) * ·) (hf k))) ?_
  show (∑ k : Fin 128, one (e (ix2 t 0) = BitVec.ofNat 32 k.val) * ∑ i : Fin 1024, one (i ≤ t ∧ e (ix2 i 0) = BitVec.ofNat 32 k.val)) - 1 = _
  rw [pick (by decide) _ l hl fun k => ∑ i : Fin 1024, one (i ≤ t ∧ e (ix2 i 0) = BitVec.ofNat 32 k.val), before _ t hl]
  exact Finset.sum_congr rfl fun i _ => one_congr (by rw [hl]; exact and_congr_right fun _ => eq_comm)

/-- over the devices before this one. -/
theorem histStep_at (v2 : BitVec 32) (k : ℕ) (acc : IVec S1x128 32) (row : Vec Ideal S1x1x128 .i32) (l : Fin 128) :
    histStep (F := Ideal) v2 k acc row (ix2 0 l) = acc (ix2 0 l)
      + Scalar.select (Scalar.cmpi .slt (Scalar.remsi (Scalar.subi (Scalar.addi v2 16#32) (BitVec.ofNat 32 k)) 16#32) v2) (row (ix3 0 0 l)) 0#32 := by
  pointwise [histStep]
  rfl

theorem earlier_dev (c : Dev nD) (k : Fin 16) :
    Scalar.cmpi .slt (Scalar.remsi (Scalar.subi (Scalar.addi (meW c) 16#32) (BitVec.ofNat 32 k.val)) 16#32) (meW c) = 1 ↔ sh (16 - k.val) c < c := by
  revert c k; decide +kernel

theorem accVal_at {A B : Type} [AddCommMonoid B] (g : ℕ → A → A) (r : A → B) (f : ℕ → B) (n s : ℕ) (a : A)
    (h : ∀ k, s ≤ k → k < s + n → ∀ a, r (g k a) = r a + f k) : r (accVal g s n a) = r a + ∑ i ∈ Finset.range n, f (s + i) := by
  induction n generalizing s a with
  | zero => simp [accVal]
  | succ n ih =>
    rw [accVal, ih (s + 1) _ fun k h1 h2 => h k (by omega) (by omega), h s le_rfl (by omega), Finset.sum_range_succ', add_assoc, add_comm (∑ i ∈ _, _)]
    simp only [add_zero, add_assoc, add_comm 1]

theorem offsV_at (hi : Dev nD → IVec S8x128 32) (c : Dev nD) (l : Fin 128) :
    offsV (F := Ideal) hi c (ix2 0 l) = ∑ d : Dev nD, if d < c then hi d (ix2 0 l) else 0 := by
  unfold offsV
  rw [accVal_at _ (fun v : IVec S1x128 32 => v (ix2 0 l)) (fun k => if sh (16 - k) c < c then hi (sh (16 - k) c) (ix2 0 l) else 0) 15 1 _ fun k h1 h2 a => ?_,
    by_distance_back c, Finset.sum_range_succ' _ 15, if_neg ((show ∀ c : Dev nD, ¬ sh (16 - 0) c < c by decide +kernel) c), add_zero]
  · rw [show (broadcast S1x128 0#32 : IVec S1x128 32) (ix2 0 l) = 0 from rfl, zero_add]
    exact Finset.sum_congr rfl fun k _ => by rw [add_comm]
  · show histStep (F := Ideal) _ _ _ _ (ix2 0 l) = _
    rw [histStep_at]
    unfold Scalar.select
    simp only [earlier_dev c ⟨k, by omega⟩]
    rfl

theorem mask_at (oh : IVec S1024x128 32) (rk : IVec S1024x1 32) (of : IVec S1x128 32) (t : Fin 1024) :
    k0_pay127 oh rk of (ix2 t 0) = IntOp.cmpi .slt ((∑ l : Fin 128, oh (ix2 t l) * of (ix2 0 l)) + rk (ix2 t 0)) 204#32 := by
  pointwise [k0_pay127]
  rw [fold_sum]
  rfl

theorem endV_at (hi : Dev nD → IVec S8x128 32) (c : Dev nD) (e : Vec Ideal S1024x1 .i32) (a : Vec Ideal S1024x1024 .f32) (t n : Fin 1024) :
    endV (F := Ideal) hi c e a (ix2 t n)
      = Scalar.select (k0_pay127 (onehot (F := Ideal) e) (k0_pay7 (F := Ideal) (onehot (F := Ideal) e)) (offsV (F := Ideal) hi c) (ix2 t 0)) (a (ix2 t n)) 0 := by
  pointwise [endV, k0_pay1, k0_pay125, k0_pay126]

end Cert.KernelIdeal.Ring

end
-- ==== Proof.RefRead.lean ====
/-
  The reference read at an index, over the extended reals: a token's row is its expert's product where the expert has
  room, and zero otherwise.
-/
module

public import proofs.«01_k».proof.Proof.Gen.ReferenceIdeal.Run
public import proofs.«01_k».proof.Proof.Count

@[expose] public section

noncomputable section

namespace Cert.ReferenceIdeal.Value

open Idealize.ShloMosaic Idealize.ShloMosaic.TcCoe Idealize.SL.Sem Cert.Count
open Cert.ReferenceIdeal Cert.ReferenceIdeal.Gen

set_option maxHeartbeats 1000000

/-- How many earlier tokens name a token's expert. -/
def seen (e : IVec S16384x1 32) : IVec S16384 32 :=
  Host.reduce IntOp.addi (extui 32 (andi
      (cmpi .slt (broadcastInDim S16384x16384 ![0, 1] bcast_S1x16384_S16384x16384_0_1 (broadcastInDim S1x16384 ![1] bcast_S16384_S1x16384_1 (iotaInDim S16384 32 0)))
        (broadcastInDim S16384x16384 ![0, 1] bcast_S16384x1_S16384x16384_0_1 (broadcastInDim S16384x1 ![0] bcast_S16384_S16384x1_0 (iotaInDim S16384 32 0))))
      (cmpi .eq (broadcastInDim S16384x16384 ![0, 1] bcast_S16384x1_S16384x16384_0_1 e)
        (broadcastInDim S16384x16384 ![0, 1] bcast_S1x16384_S16384x16384_0_1 (broadcastInDim S1x16384 ![1] bcast_S16384_S1x16384_1 (shapeCast S16384 e shapeCasts_S16384x1_S16384))))) natLt_1_32)
    (constantI S_ 32 0#32) reducesTo_S16384x16384_S16384_d1 h_S_

/-- Whether a token goes to an expert. -/
def goes (e : IVec S16384x1 32) : IVec S16384x64 1 :=
  andi (cmpi .eq (broadcastInDim S16384x64 ![0, 1] bcast_S16384x1_S16384x64_0_1 e)
      (broadcastInDim S16384x64 ![0, 1] bcast_S1x64_S16384x64_0_1 (broadcastInDim S1x64 ![1] bcast_S64_S1x64_1 (iotaInDim S64 32 0))))
    (broadcastInDim S16384x64 ![0, 1] bcast_S16384x1_S16384x64_0_1 (broadcastInDim S16384x1 ![0] bcast_S16384_S16384x1_0
      (cmpi .slt (seen e) (broadcastInDim S16384 ![] bcast_S_S16384 (constantI S_ 32 204#32)))))

/-- The result. -/
def out (x : FVec Ideal S16384x512 .bf16) (e : IVec S16384x1 32) (w : FVec Ideal S64x512x1024 .bf16) : FVec Ideal S16384x1024 .f32 :=
  Host.reduceAdd (select (broadcastInDim S16384x64x1024 ![0, 1, 2] bcast_S16384x64x1_S16384x64x1024_0_1_2 (broadcastInDim S16384x64x1 ![0, 1] bcast_S16384x64_S16384x64x1_0_1 (goes e)))
      (Host.dotGeneral dot_S16384x512_S64x512x1024_S16384x64x1024_1_1_0_02_n_n none (extf .f32 x bitsLt_bf16_f32) (extf .f32 w bitsLt_bf16_f32))
      (broadcastInDim S16384x64x1024 ![] bcast_S_S16384x64x1024 (id (constant (F := Ideal) S_ .f32 0x00000000#32))))
    (constant (F := Ideal) S_ .f32 0x00000000#32) reducesTo_S16384x64x1024_S16384x1024_d1 h_S_

theorem seen_at (e : IVec S16384x1 32) (i : Fin 16384) :
    seen e (ix1 i) = ∑ j : Fin 16384, one (j.val < i.val ∧ e (ix2 i 0) = e (ix2 j 0)) := by
  pointwise [seen]
  rw [fold_sum]
  refine Finset.sum_congr rfl fun j _ => ?_
  rw [bit_word]
  refine one_congr ?_
  rw [and_bit, eq_bit, slt_small (by omega) (by omega)]

theorem goes_at (e : IVec S16384x1 32) (i : Fin 16384) (k : Fin 64) :
    goes e (ix2 i k) = 1 ↔ e (ix2 i 0) = BitVec.ofNat 32 k.val ∧ IntOp.cmpi .slt (seen e (ix1 i)) 204#32 = 1 := by
  pointwise [goes]
  rw [and_bit, eq_bit]

theorem out_at (x : FVec Ideal S16384x512 .bf16) (e : IVec S16384x1 32) (w : FVec Ideal S64x512x1024 .bf16) (i : Fin 16384) (n : Fin 1024) :
    out x e w (ix2 i n) = ∑ k : Fin 64, Scalar.select (goes e (ix2 i k)) (∑ d : Fin 512, x (ix2 i d) * w (ix3 k d n)) (0 : EReal) := by
  pointwise [out, id_eq]

/-- The reference run: its result is `out` of its arguments, which end as they began. -/
theorem run_out (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v29) = out (m ((c.tc : Thread nD τ).loc main_arg0)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  run m ρ

end Cert.ReferenceIdeal.Value

end
-- ==== Proof.Meet.lean ====
/-
  The kernel's block and the reference's rows are the same numbers, over the extended reals.
-/
module

public import proofs.«01_k».proof.Proof.Read
public import proofs.«01_k».proof.Proof.RefRead
public import Idealize.ShloMosaic.Lib.Pipeline.Value

@[expose] public section

noncomputable section

namespace Cert.Meet

open Idealize.ShloMosaic Idealize.ShloMosaic.TcCoe
open Cert.KernelIdeal Cert.KernelIdeal.Gen Cert.KernelIdeal.Ring Cert.Count
open Cert.ReferenceIdeal.Value (seen goes out seen_at goes_at out_at)

set_option maxHeartbeats 1000000

/-- Device `c`'s token `t` among all tokens, -/
def tok (c : Fin 16) (t : Fin 1024) : Fin 16384 := ⟨c.val * 1024 + t.val, by have := c.isLt; have := t.isLt; omega⟩
/-- device `o`'s expert `k` among all experts. -/
def expert (o : Fin 16) (k : Fin 4) : Fin 64 := ⟨o.val * 4 + k.val, by have := o.isLt; have := k.isLt; omega⟩

theorem sum_experts (f : Fin 64 → EReal) : ∑ l : Fin 64, f l = ∑ o : Fin 16, ∑ k : Fin 4, f (expert o k) := by
  rw [← Fintype.sum_prod_type', ← Equiv.sum_comp (finProdFinEquiv (m := 16) (n := 4)) f]
  refine Finset.sum_congr rfl fun x _ => congrArg f (Fin.ext ?_)
  show x.2.val + 4 * x.1.val = x.1.val * 4 + x.2.val
  ring

variable (X : Fin 16 → FVec Ideal S1024x512 .bf16) (E : Fin 16 → IVec S1024x1 32) (W : Fin 16 → FVec Ideal S4x512x1024 .bf16)
variable (x : FVec Ideal Cert.ReferenceIdeal.S16384x512 .bf16) (e : IVec Cert.ReferenceIdeal.S16384x1 32) (w : FVec Ideal Cert.ReferenceIdeal.S64x512x1024 .bf16)
variable (hx : ∀ c t d, X c (ix2 t d) = x (ix2 (tok c t) d)) (he : ∀ c t, E c (ix2 t 0) = e (ix2 (tok c t) 0))
variable (hw : ∀ o k d n, W o (ix3 k d n) = w (ix3 (expert o k) d n))

include he in
/-- What the kernel counts of a token that names expert `l` is what the reference counts: the tokens of earlier devices
    that name `l`, and the device's own earlier ones. -/
theorem count_eq (c : Fin 16) (t : Fin 1024) (l : Fin 128) (hl : E c (ix2 t 0) = BitVec.ofNat 32 l.val) :
    (∑ k : Fin 128, onehot (F := Ideal) (E c) (ix2 t k) * offsV (F := Ideal) (fun d => histVal (F := Ideal) (E d)) c (ix2 0 k))
      + k0_pay7 (F := Ideal) (onehot (F := Ideal) (E c)) (ix2 t 0) = seen e (ix1 (tok c t)) := by
  simp only [onehot_at]
  rw [pick (by decide) _ l hl, offsV_at, rank_at _ t l hl, seen_at, sum_blocks]
  simp only [histVal_at]
  have h := earlier c t fun d i => E d (ix2 i 0) = BitVec.ofNat 32 l.val
  have h₁ : ∀ i, one (i < t ∧ E c (ix2 t 0) = E c (ix2 i 0)) = one (i < t ∧ E c (ix2 i 0) = BitVec.ofNat 32 l.val) := fun i =>
    one_congr (by rw [hl]; exact and_congr_right fun _ => eq_comm)
  simp only [h₁]
  refine h.symm.trans (Finset.sum_congr rfl fun d _ => Finset.sum_congr rfl fun i _ => one_congr ?_)
  rw [← he c t, hl, show e (ix2 ⟨d.val * 1024 + i.val, _⟩ 0) = E d (ix2 i 0) from (he d i).symm]
  exact and_congr_right fun _ => eq_comm

/-- Each payload that reads an operand's block leaves it as it is. -/
theorem words_in (y : FVec Ideal S1024x512 .bf16) : k0_pay2 (F := Ideal) y = y := shapeCast_self y _

theorem places_in (y : Vec Ideal S1024x1 .i32) : k0_pay3 (F := Ideal) y = y := shapeCast_self y _

include hx he hw in
/-- A token's row on its device is its row in the reference. -/
theorem row_eq (c : Fin 16) (t n : Fin 1024) :
    resV (F := Ideal) W (fun d => histVal (F := Ideal) (E d)) c (X c) (E c) (ix2 t n) = out x e w (ix2 (tok c t) n) := by
  unfold resV
  rw [words_in, places_in, endV_at, products_at, out_at, sum_experts, mask_at]
  have hg : ∀ (o : Fin 16) (k : Fin 4), goes e (ix2 (tok c t) (expert o k)) = 1 ↔ E c (ix2 t 0) = BitVec.ofNat 32 (o.val * 4 + k.val) ∧ IntOp.cmpi .slt (seen e (ix1 (tok c t))) 204#32 = 1 :=
    fun o k => by rw [goes_at, ← he c t]; rfl
  by_cases hl : ∃ l : Fin 64, E c (ix2 t 0) = BitVec.ofNat 32 l.val
  · obtain ⟨l, hl⟩ := hl
    rw [count_eq E e he c t ⟨l.val, by omega⟩ hl]
    unfold Scalar.select parts part
    by_cases hm : IntOp.cmpi .slt (seen e (ix1 (tok c t))) 204#32 = 1
    · rw [if_pos hm]
      refine Finset.sum_congr rfl fun o _ => Finset.sum_congr rfl fun k _ => ?_
      simp only [hg, hm, and_true, hx, hw]
    · rw [if_neg hm]
      refine (Finset.sum_eq_zero fun o _ => Finset.sum_eq_zero fun k _ => if_neg ?_).symm
      rw [hg]; exact fun h => hm h.2
  · have h0 : ∀ (o : Fin 16) (k : Fin 4), ¬ E c (ix2 t 0) = BitVec.ofNat 32 (o.val * 4 + k.val) := fun o k h => hl ⟨expert o k, h⟩
    have hk : ∑ o : Fin 16, parts (X c) (E c) W t n o = 0 :=
      Finset.sum_eq_zero fun o _ => Finset.sum_eq_zero fun k _ => if_neg (h0 o k)
    rw [hk]
    unfold Scalar.select
    rw [ite_self]
    refine (Finset.sum_eq_zero fun o _ => Finset.sum_eq_zero fun k _ => if_neg ?_).symm
    rw [hg]; exact fun h => h0 o k h.1

end Cert.Meet

end
-- ==== Proof.Value.lean ====
/-
  The kernel and the reference end with the same result, over the extended reals.
-/
module

public import proofs.«01_k».proof.Proof.Meet
public import proofs.«01_k».proof.Defs
public import Idealize.ShloMosaic.Lib.Pipeline.Value

@[expose] public section

noncomputable section

namespace Cert.KernelIdeal.Ring

open Idealize.ShloMosaic Idealize.ShloMosaic.TcCoe Idealize.SL.Sem
open Idealize.ShloMosaic.Pipeline (Dat)
open Cert.KernelIdeal Cert.KernelIdeal.Gen

set_option maxHeartbeats 1000000

variable (m : (ℓ : Loc nD τ sig) → Buf (Elt Ideal) ℓ) (o : Dev nD → Vec Ideal S1024x1024 .f32)

/-! ## Each window's block is its whole array -/

/-- The operands are the argument arrays as they stand. -/
theorem xs_eq (c : Dev nD) : xs (F := Ideal) m c = m ((c : Thread nD τ).loc main_arg0) :=
  funext fun i => congrArg (m ((c : Thread nD τ).loc main_arg0)) (funext fun a => Fin.ext (win0_0.rect_emb_val_of_index_zero t0_0 a rfl i))
theorem es_eq (c : Dev nD) : es (F := Ideal) m c = m ((c : Thread nD τ).loc main_arg2) :=
  funext fun i => congrArg (m ((c : Thread nD τ).loc main_arg2)) (funext fun a => Fin.ext (win0_1.rect_emb_val_of_index_zero t0_0 a rfl i))
theorem ws_eq (c : Dev nD) : ws (F := Ideal) m c = m ((c : Thread nD τ).loc main_arg3) :=
  funext fun i => congrArg (m ((c : Thread nD τ).loc main_arg3)) (funext fun a => Fin.ext (win0_2.rect_emb_val_of_index_zero t0_0 a rfl i))

/-- What the one grid point writes back is the whole of what the device computed, -/
theorem flushed_out (c : Dev nD) (t : Fin cfg0.N) :
    (dats (F := Ideal) m o 0 c).flushed (3 : Fin 4) t = ((cfg0.win 3).blk t).view.read (Elt Ideal) (o c) := by
  obtain rfl := fin_N0 t
  unfold Dat.flushed
  rw [after_o]
  exact funext fun i => congrArg (o c) (funext fun a => Fin.ext (win0_3.rect_emb_val_of_index_zero t0_0 a rfl i).symm)

/-- and it covers the result. -/
theorem covers (i : S1024x1024.Idx) : ∃ t : Fin cfg0.N, (cfg0.win 3).flush t = true ∧ i ∈ ((cfg0.win 3).blk t).view.set := by
  refine ⟨t0_0, flush0_3 _, ?_⟩
  have h := ((cfg0.win 3).blk t0_0).view.emb_mem_set i
  rwa [show ((cfg0.win 3).blk t0_0).view.emb i = i from funext fun a => Fin.ext (win0_3.rect_emb_val_of_index_zero t0_0 a rfl i)] at h

/-- So the result array ends holding what the device computed. -/
theorem final (c : Dev nD) : (dats (F := Ideal) m o 0 c).arrAt (3 : Fin 4) cfg0.N = o c :=
  (dats (F := Ideal) m o 0 c).arrAt_eq_of_cover (3 : Fin 4) (o c) (fun t _ => flushed_out m o c t) covers

variable (ρ : Dev nD → PrngReg) (ho : Computes m o)

include ho in
/-- The kernel's run: each device's result is what it computed, and the arguments end as they began. -/
theorem run_res : θ_run defs (onTc (τ := τ) (main (F := Ideal))) ⟨m, fun _ => 0, ρ⟩ fun r => ∀ c : Dev nD,
      r.2.mem ((c.tc : Thread nD τ).loc main_v1) = o c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨((h.1 c).1 (3 : Fin 4)).trans (final m o c), kept m o h.1 c⟩) (run_main m ρ o ho)

end Cert.KernelIdeal.Ring

namespace Cert.Meet

open Idealize.ShloMosaic Idealize.ShloMosaic.TcCoe Idealize.SL.Sem
open Cert.KernelIdeal.Ring

/-- From the blocks of the reference's arguments, each device ends with its block of the reference's result. -/
theorem algebraic : Cert.algebraic_KernelIdeal_ReferenceIdeal (hKernelIdeal := Cert.KernelIdeal.Gen.facts) (hReferenceIdeal := Cert.ReferenceIdeal.Gen.facts) :=
  fun m g m' g' _ hin => by
    refine ⟨Cert.ReferenceIdeal.Value.out (m' ((0 : Dev Cert.ReferenceIdeal.nD).tc.loc Cert.ReferenceIdeal.main_arg0))
        (m' ((0 : Dev Cert.ReferenceIdeal.nD).tc.loc Cert.ReferenceIdeal.main_arg2)) (m' ((0 : Dev Cert.ReferenceIdeal.nD).tc.loc Cert.ReferenceIdeal.main_arg3)), ?_,
      (θ_run Cert.ReferenceIdeal.defs _ _).mono (fun _ h => h 0) (Cert.ReferenceIdeal.Value.run_out m' g')⟩
    refine (θ_run Cert.KernelIdeal.defs _ _).mono (fun _ h c => ⟨(h c).1.trans ?_, (h c).2⟩) (run_res m _ g fun _ => rfl)
    have hx : ∀ (c : Fin 16) (t : Fin 1024) (d : Fin 512), xs (F := Ideal) m c (ix2 t d)
        = m' ((0 : Dev Cert.ReferenceIdeal.nD).tc.loc Cert.ReferenceIdeal.main_arg0) (ix2 (tok c t) d) := fun c t d => by
      rw [xs_eq, (hin c).1, Layout.block_apply]
      refine congrArg _ (funext fun a => Fin.ext ?_)
      match a with
      | ⟨0, _⟩ => rfl
      | ⟨1, _⟩ => rfl
    have he : ∀ (c : Fin 16) (t : Fin 1024), es (F := Ideal) m c (ix2 t 0)
        = m' ((0 : Dev Cert.ReferenceIdeal.nD).tc.loc Cert.ReferenceIdeal.main_arg2) (ix2 (tok c t) 0) := fun c t => by
      rw [es_eq, (hin c).2.2.1, Layout.block_apply]
      refine congrArg _ (funext fun a => Fin.ext ?_)
      match a with
      | ⟨0, _⟩ => rfl
      | ⟨1, _⟩ => rfl
    have hw : ∀ (o : Fin 16) (k : Fin 4) (d : Fin 512) (n : Fin 1024), ws (F := Ideal) m o (ix3 k d n)
        = m' ((0 : Dev Cert.ReferenceIdeal.nD).tc.loc Cert.ReferenceIdeal.main_arg3) (ix3 (expert o k) d n) := fun o k d n => by
      rw [ws_eq, (hin o).2.2.2, Layout.block_apply]
      refine congrArg _ (funext fun a => Fin.ext ?_)
      match a with
      | ⟨0, _⟩ => rfl
      | ⟨1, _⟩ => rfl
      | ⟨2, _⟩ => rfl
    funext i
    have h := row_eq (fun c => xs (F := Ideal) m c) (fun c => es (F := Ideal) m c) (fun c => ws (F := Ideal) m c) _ _ _ hx he hw c (i 0) (i 1)
    rw [Layout.block_apply]
    refine (congrArg _ (ix2_eta i).symm).trans (h.trans (congrArg _ (funext fun a => Fin.ext ?_)))
    match a with
    | ⟨0, _⟩ => rfl
    | ⟨1, _⟩ => rfl

end Cert.Meet

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Launch
public import proofs.«01_k».proof.Proof.K.Launch
public import proofs.«01_k».proof.Proof.Value
public import Idealize.ShloMosaic.Adequacy
public import Idealize.ShloMosaic.Init

@[expose] public section

noncomputable section

namespace Cert.Proof

open Idealize.ShloMosaic Idealize.SL.Sem

theorem frame_kernel : Cert.quiescent_Kernel (hKernel := Cert.Kernel.Gen.facts) := fun m ρ _ =>
  Cert.Kernel.Ring.frame_run m ρ _ fun _ => rfl

theorem frame_ideal : Cert.quiescent_KernelIdeal (hKernelIdeal := Cert.KernelIdeal.Gen.facts) := fun m ρ _ =>
  Cert.KernelIdeal.Ring.frame_run m ρ _ fun _ => rfl

/-- The reference declares no semaphore. -/
theorem frame_reference : Cert.quiescent_ReferenceIdeal (hReferenceIdeal := Cert.ReferenceIdeal.Gen.facts) := fun m ρ _ =>
  (θ_run Cert.ReferenceIdeal.defs _ _).mono (fun r h => ⟨fun c => (h c).2, sem_eq_zero_of_no_sems (by decide) r.2⟩)
    (Cert.ReferenceIdeal.Value.run (F := Ideal) m ρ)

theorem claim : Cert.Claim :=
  ⟨Cert.Kernel.Gen.facts, Cert.KernelIdeal.Gen.facts, Cert.ReferenceIdeal.Gen.facts, frame_kernel, frame_ideal, frame_reference, trivial, Cert.Meet.algebraic⟩

end Cert.Proof

end
